-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v173) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v22) = v1 c
          ∧ r.2.mem ((c.tc : Thread Cert.Reference9Ideal.nD Cert.Reference9Ideal.τ).loc Cert.Reference9Ideal.main_v23) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v22) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_v19) = v3 c
          ∧ r.2.mem ((c.tc : Thread Cert.Reference10Ideal.nD Cert.Reference10Ideal.τ).loc Cert.Reference10Ideal.main_v24) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_v82) = v3 c
          ∧ r.2.mem ((c.tc : Thread Cert.Reference11Ideal.nD Cert.Reference11Ideal.τ).loc Cert.Reference11Ideal.main_v81) = v4 c
          ∧ r.2.mem ((c.tc : Thread Cert.Reference11Ideal.nD Cert.Reference11Ideal.τ).loc Cert.Reference11Ideal.main_v83) = v5 c
          ∧ r.2.mem ((c.tc : Thread Cert.Reference11Ideal.nD Cert.Reference11Ideal.τ).loc Cert.Reference11Ideal.main_v84) = v6 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)) (v4 : (c : Dev Cert.Kernel12Ideal.nD) → Buf (Elt Ideal) ((c.tc : Thread Cert.Kernel12Ideal.nD Cert.Kernel12Ideal.τ).loc Cert.Kernel12Ideal.main_v0_4)) (v5 : (c : Dev Cert.Kernel12Ideal.nD) → Buf (Elt Ideal) ((c.tc : Thread Cert.Kernel12Ideal.nD Cert.Kernel12Ideal.τ).loc Cert.Kernel12Ideal.main_v0_5)) (v6 : (c : Dev Cert.Kernel12Ideal.nD) → Buf (Elt Ideal) ((c.tc : Thread Cert.Kernel12Ideal.nD Cert.Kernel12Ideal.τ).loc Cert.Kernel12Ideal.main_v0_6)) (v7 : (c : Dev Cert.Kernel12Ideal.nD) → Buf (Elt Ideal) ((c.tc : Thread Cert.Kernel12Ideal.nD Cert.Kernel12Ideal.τ).loc Cert.Kernel12Ideal.main_v0_7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_v0_4) = v4 c
          ∧ r.2.mem ((c.tc : Thread Cert.Kernel12Ideal.nD Cert.Kernel12Ideal.τ).loc Cert.Kernel12Ideal.main_v0_5) = v5 c
          ∧ r.2.mem ((c.tc : Thread Cert.Kernel12Ideal.nD Cert.Kernel12Ideal.τ).loc Cert.Kernel12Ideal.main_v0_6) = v6 c
          ∧ r.2.mem ((c.tc : Thread Cert.Kernel12Ideal.nD Cert.Kernel12Ideal.τ).loc Cert.Kernel12Ideal.main_v0_7) = v7 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v67) = v0 c
          ∧ r.2.mem ((c.tc : Thread Cert.Reference12Ideal.nD Cert.Reference12Ideal.τ).loc Cert.Reference12Ideal.main_v68) = v1 c
          ∧ r.2.mem ((c.tc : Thread Cert.Reference12Ideal.nD Cert.Reference12Ideal.τ).loc Cert.Reference12Ideal.main_v69) = v2 c
          ∧ r.2.mem ((c.tc : Thread Cert.Reference12Ideal.nD Cert.Reference12Ideal.τ).loc Cert.Reference12Ideal.main_v70) = v3 c
          ∧ r.2.mem ((c.tc : Thread Cert.Reference12Ideal.nD Cert.Reference12Ideal.τ).loc Cert.Reference12Ideal.main_v71) = v4 c
          ∧ r.2.mem ((c.tc : Thread Cert.Reference12Ideal.nD Cert.Reference12Ideal.τ).loc Cert.Reference12Ideal.main_v65) = v5 c
          ∧ r.2.mem ((c.tc : Thread Cert.Reference12Ideal.nD Cert.Reference12Ideal.τ).loc Cert.Reference12Ideal.main_v64) = v6 c
          ∧ r.2.mem ((c.tc : Thread Cert.Reference12Ideal.nD Cert.Reference12Ideal.τ).loc Cert.Reference12Ideal.main_v72) = v7 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x1024 : Shape := ⟨2, ![8192, 1024]⟩
abbrev S8192x256 : Shape := ⟨2, ![8192, 256]⟩
abbrev S1x16 : Shape := ⟨2, ![1, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S8192x1024 .bf16) (main_arg1 : FVec F S8192x256 .bf16) (main_arg2 : FVec F S8192x1024 .bf16) (main_arg3 : FVec F S1x16 .f32) : IVec S_ 1 × IVec S_ 1 × IVec S_ 1 × IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x256 .bf16 := Host.absf main_arg1
  let main_cst_0 : FVec F S_ .bf16 := constant S_ .bf16 0x7F80#16
  let main_v5 : FVec F S8192x256 .bf16 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : FVec F S8192x1024 .bf16 := Host.absf main_arg2
  let main_cst_2 : FVec F S_ .bf16 := constant S_ .bf16 0x7F80#16
  let main_v9 : FVec F S8192x1024 .bf16 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S1x16 .f32 := Host.absf main_arg3
  let main_cst_4 : FVec F S_ .f32 := constant S_ .f32 0x7F800000#32
  let main_v13 : FVec F S1x16 .f32 := broadcastInDim S1x16 ![] bcast_S_S1x16 main_cst_4
  let main_v14 : IVec S1x16 1 := cmpf .olt main_v12 main_v13
  let main_c_5 : IVec S_ 1 := constantI S_ 1 1#1
  let main_v15 : IVec S_ 1 := (fun x v => Host.reduce IntOp.andi x v reducesTo_S1x16_S_d0_1 h_S_) main_v14 main_c_5
  (main_v3, main_v7, main_v11, main_v15)
-- ==== Kernel.lean ====
abbrev S8192x1024 : Shape := ⟨2, ![8192, 1024]⟩
abbrev S8192x256 : Shape := ⟨2, ![8192, 256]⟩
abbrev S1x16 : Shape := ⟨2, ![1, 16]⟩
abbrev S128x128 : Shape := ⟨2, ![128, 128]⟩
abbrev S16 : Shape := ⟨1, ![16]⟩
abbrev S1x128 : Shape := ⟨2, ![1, 128]⟩
abbrev S128x1024 : Shape := ⟨2, ![128, 1024]⟩
abbrev S128x256 : Shape := ⟨2, ![128, 256]⟩
abbrev S1x16x128x128 : Shape := ⟨4, ![1, 16, 128, 128]⟩
abbrev S1x16x128x256 : Shape := ⟨4, ![1, 16, 128, 256]⟩
abbrev S256x128 : Shape := ⟨2, ![256, 128]⟩
abbrev S1x1x128x128 : Shape := ⟨4, ![1, 1, 128, 128]⟩
abbrev S1 : Shape := ⟨1, ![1]⟩
abbrev S128 : Shape := ⟨1, ![128]⟩
abbrev S128x1 : Shape := ⟨2, ![128, 1]⟩
abbrev S1x1x128x256 : Shape := ⟨4, ![1, 1, 128, 256]⟩
abbrev S1x1 : Shape := ⟨2, ![1, 1]⟩
abbrev S256x256 : Shape := ⟨2, ![256, 256]⟩

abbrev nBuf : Space → Nat
  | .hbm => 10
  | .vmem => 20
  | .smem => 1
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x1024, .bf16⟩
  | .hbm, ⟨3, _⟩ => ⟨S1x16, .f32⟩
  | .hbm, ⟨4, _⟩ => ⟨S128x128, .f32⟩
  | .hbm, ⟨5, _⟩ => ⟨S16, .f32⟩
  | .hbm, ⟨6, _⟩ => ⟨S8192x1024, .bf16⟩
  | .hbm, ⟨7, _⟩ => ⟨S8192x256, .f32⟩
  | .hbm, ⟨8, _⟩ => ⟨S8192x256, .f32⟩
  | .hbm, ⟨9, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x1024, .bf16⟩
  | .local _ .vmem, ⟨10, _⟩ => ⟨S128x1024, .bf16⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S1x128, .f32⟩
  | .local _ .vmem, ⟨16, _⟩ => ⟨S1x16x128x128, .f32⟩
  | .local _ .vmem, ⟨17, _⟩ => ⟨S1x16x128x128, .f32⟩
  | .local _ .vmem, ⟨18, _⟩ => ⟨S1x16x128x256, .bf16⟩
  | .local _ .vmem, ⟨19, _⟩ => ⟨S1x16x128x256, .bf16⟩
  | .local _ .smem, ⟨0, _⟩ => ⟨S16, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x1024 : Shape := ⟨2, ![8192, 1024]⟩
abbrev S8192x256 : Shape := ⟨2, ![8192, 256]⟩
abbrev S1x16 : Shape := ⟨2, ![1, 16]⟩
abbrev S16 : Shape := ⟨1, ![16]⟩
abbrev S8192x128 : Shape := ⟨2, ![8192, 128]⟩
abbrev S_ : Shape := ⟨0, ![]⟩
abbrev S128x128 : Shape := ⟨2, ![128, 128]⟩
abbrev S8064x128 : Shape := ⟨2, ![8064, 128]⟩
abbrev S64x128x2x8x64 : Shape := ⟨5, ![64, 128, 2, 8, 64]⟩
abbrev S64x128x2x64 : Shape := ⟨4, ![64, 128, 2, 64]⟩
abbrev S64x256x2x64 : Shape := ⟨4, ![64, 256, 2, 64]⟩
abbrev S64x2x256x128x8 : Shape := ⟨5, ![64, 2, 256, 128, 8]⟩
abbrev S64x2x8x128x256 : Shape := ⟨5, ![64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x2x8x128x256 : Shape := ⟨5, ![1, 2, 8, 128, 256]⟩
abbrev S64x1x1x128x256 : Shape := ⟨5, ![64, 1, 1, 128, 256]⟩
abbrev S64x2x8x128 : Shape := ⟨4, ![64, 2, 8, 128]⟩
abbrev S64x2x8x128x1 : Shape := ⟨5, ![64, 2, 8, 128, 1]⟩
abbrev S1x2x8x1x1 : Shape := ⟨5, ![1, 2, 8, 1, 1]⟩
abbrev S64x2x64x8x128 : Shape := ⟨5, ![64, 2, 64, 8, 128]⟩
abbrev S64x2x64x256 : Shape := ⟨4, ![64, 2, 64, 256]⟩
abbrev S2x8x1 : Shape := ⟨3, ![2, 8, 1]⟩
abbrev S64x2x128x8x64 : Shape := ⟨5, ![64, 2, 128, 8, 64]⟩
abbrev S64x2x256x64 : Shape := ⟨4, ![64, 2, 256, 64]⟩
abbrev S1x128 : Shape := ⟨2, ![1, 128]⟩

abbrev nBuf : Space → Nat
  | .hbm => 217
  | .vmem => 0
  | .smem => 0
  | _ => 0

abbrev hbmTy0_0 (i : Nat) : BufTy := match i % 128 with
  | 0 => ⟨S8192x1024, .bf16⟩
  | 1 => ⟨S8192x256, .bf16⟩
  | 2 => ⟨S8192x1024, .bf16⟩
  | 3 => ⟨S1x16, .f32⟩
  | 4 => ⟨S16, .f32⟩
  | 5 => ⟨S8192x1024, .f32⟩
  | 6 => ⟨S8192x256, .f32⟩
  | 7 => ⟨S8192x1024, .f32⟩
  | 8 => ⟨S8192x128, .f32⟩
  | 9 => ⟨S8192x128, .f32⟩
  | 10 => ⟨S_, .f32⟩
  | 11 => ⟨S128x128, .f32⟩
  | 12 => ⟨S8064x128, .f32⟩
  | 13 => ⟨S8192x128, .f32⟩
  | 14 => ⟨S8064x128, .f32⟩
  | 15 => ⟨S8192x128, .f32⟩
  | 16 => ⟨S64x128x2x8x64, .f32⟩
  | 17 => ⟨S64x128x2x64, .f32⟩
  | 18 => ⟨S64x128x2x64, .f32⟩
  | 19 => ⟨S64x256x2x64, .f32⟩
  | 20 => ⟨S64x128x2x64, .f32⟩
  | 21 => ⟨S64x128x2x64, .f32⟩
  | 22 => ⟨S64x256x2x64, .f32⟩
  | 23 => ⟨S64x2x256x128x8, .f32⟩
  | 24 => ⟨S64x2x8x128x256, .f32⟩
  | 25 => ⟨S_, .f32⟩
  | 26 => ⟨S64x2x8x128x256, .f32⟩
  | 27 => ⟨S64x2x8x128x256, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S64, .i32⟩
  | 39 => ⟨S64x1x1, .i32⟩
  | 40 => ⟨S_, .i32⟩
  | 41 => ⟨S128x256, .i32⟩
  | 42 => ⟨S128x256, .i1⟩
  | 43 => ⟨S1x128x256, .i1⟩
  | 44 => ⟨S_, .i32⟩
  | 45 => ⟨S128x256, .i32⟩
  | 46 => ⟨S128x256, .i1⟩
  | 47 => ⟨S1x128x256, .i1⟩
  | 48 => ⟨S1x128x256, .i1⟩
  | 49 => ⟨S_, .i32⟩
  | 50 => ⟨S64x1x1, .i32⟩
  | 51 => ⟨S64x1x1, .i32⟩
  | 52 => ⟨S_, .i32⟩
  | 53 => ⟨S64x1x1, .i32⟩
  | 54 => ⟨S64x1x1, .i32⟩
  | 55 => ⟨S1x1x256, .i32⟩
  | 56 => ⟨S64x1x256, .i32⟩
  | 57 => ⟨S64x1x256, .i32⟩
  | 58 => ⟨S64x1x256, .i32⟩
  | 59 => ⟨S_, .i32⟩
  | 60 => ⟨S64x1x256, .i32⟩
  | 61 => ⟨S64x1x256, .i1⟩
  | 62 => ⟨S64x128x256, .i1⟩
  | 63 => ⟨S64x128x256, .i1⟩
  | 64 => ⟨S64x128x256, .i1⟩
  | 65 => ⟨S2x8, .f32⟩
  | 66 => ⟨S2x8x1x1, .f32⟩
  | 67 => ⟨S128x256, .f32⟩
  | 68 => ⟨S1x1x128x256, .f32⟩
  | 69 => ⟨S2x8x128x256, .f32⟩
  | 70 => ⟨S2x8x128x256, .f32⟩
  | 71 => ⟨S2x8x128x256, .f32⟩
  | 72 => ⟨S1x2x8x128x256, .f32⟩
  | 73 => ⟨S64x2x8x128x256, .f32⟩
  | 74 => ⟨S64x2x8x128x256, .f32⟩
  | 75 => ⟨S64x1x1x128x256, .i1⟩
  | 76 => ⟨S_, .f32⟩
  | 77 => ⟨S_, .f32⟩
  | 78 => ⟨S64x2x8x128x256, .i1⟩
  | 79 => ⟨S64x2x8x128x256, .f32⟩
  | 80 => ⟨S64x2x8x128x256, .f32⟩
  | 81 => ⟨S_, .f32⟩
  | 82 => ⟨S64x2x8x128x256, .f32⟩
  | 83 => ⟨S2x8, .f32⟩
  | 84 => ⟨S2x8x1x1, .f32⟩
  | 85 => ⟨S_, .f32⟩
  | 86 => ⟨S64x2x8x128, .f32⟩
  | 87 => ⟨S64x2x8x128x1, .f32⟩
  | 88 => ⟨S64x2x8x128x256, .f32⟩
  | 89 => ⟨S64x2x8x128x256, .i1⟩
  | 90 => ⟨S64x2x8x128x256, .f32⟩
  | 91 => ⟨S_, .f32⟩
  | 92 => ⟨S64x2x8x128, .f32⟩
  | 93 => ⟨S64x2x8x128x1, .f32⟩
  | 94 => ⟨S1x2x8x1x1, .f32⟩
  | 95 => ⟨S64x2x8x128x1, .f32⟩
  | 96 => ⟨S64x2x8x128x1, .f32⟩
  | 97 => ⟨S64x2x8x128x1, .f32⟩
  | 98 => ⟨S64x2x8x128x1, .i1⟩
  | 99 => ⟨S64x2x8x128x1, .f32⟩
  | 100 => ⟨S64x2x8x128x1, .i1⟩
  | 101 => ⟨S_, .f32⟩
  | 102 => ⟨S64x2x8x128x1, .f32⟩
  | 103 => ⟨S_, .f32⟩
  | 104 => ⟨S64x2x8x128x1, .f32⟩
  | 105 => ⟨S_, .f32⟩
  | 106 => ⟨S64x2x8x128x1, .f32⟩
  | 107 => ⟨S64x2x8x128x1, .f32⟩
  | 108 => ⟨S64x2x8x128x1, .f32⟩
  | 109 => ⟨S64x2x8x128x1, .f32⟩
  | 110 => ⟨S64x2x8x128x1, .i1⟩
  | 111 => ⟨S64x2x8x128x1, .f32⟩
  | 112 => ⟨S64x2x8x128x1, .i1⟩
  | 113 => ⟨S_, .f32⟩
  | 114 => ⟨S64x2x8x128x1, .f32⟩
  | 115 => ⟨S_, .f32⟩
  | 116 => ⟨S64x2x8x128x1, .f32⟩
  | 117 => ⟨S_, .f32⟩
  | 118 => ⟨S64x2x8x128x1, .f32⟩
  | 119 => ⟨S64x2x8x128x1, .f32⟩
  | 120 => ⟨S64x2x8x128x1, .f32⟩
  | 121 => ⟨S64x2x8x128x256, .f32⟩
  | 122 => ⟨S64x2x8x128x256, .f32⟩
  | 123 => ⟨S64x2x8x128x256, .f32⟩
  | 124 => ⟨S_, .f32⟩
  | 125 => ⟨S64x2x8x128, .f32⟩
  | 126 => ⟨S64x2x8x128x1, .f32⟩
  | 127 => ⟨S1x2x8x1x1, .f32⟩
  | _ => ⟨S8192x1024, .bf16⟩

abbrev hbmTy0_1 (i : Nat) : BufTy := match i % 128 with
  | 0 => ⟨S64x2x8x128x1, .f32⟩
  | 1 => ⟨S64x2x8x128x1, .f32⟩
  | 2 => ⟨S64x2x8x128x1, .f32⟩
  | 3 => ⟨S64x2x8x128x1, .f32⟩
  | 4 => ⟨S64x2x8x128x256, .f32⟩
  | 5 => ⟨S64x2x8x128x256, .f32⟩
  | 6 => ⟨S64x2x8x128x1, .f32⟩
  | 7 => ⟨S_, .f32⟩
  | 8 => ⟨S64x2x8x128x1, .f32⟩
  | 9 => ⟨S64x2x8x128x1, .f32⟩
  | 10 => ⟨S64x2x64x8x128, .f32⟩
  | 11 => ⟨S64x128x2x8x64, .f32⟩
  | 12 => ⟨S8192x1024, .f32⟩
  | 13 => ⟨S64x128x2x8x64, .f32⟩
  | 14 => ⟨S64x2x64x8x128, .f32⟩
  | 15 => ⟨S64x2x8x128x256, .f32⟩
  | 16 => ⟨S64x2x64x256, .f32⟩
  | 17 => ⟨S64x256x2x64, .f32⟩
  | 18 => ⟨S64x2x8x128x256, .f32⟩
  | 19 => ⟨S64x2x8x128x256, .f32⟩
  | 20 => ⟨S64x2x8x128x256, .f32⟩
  | 21 => ⟨S_, .f32⟩
  | 22 => ⟨S64x2x8x128, .f32⟩
  | 23 => ⟨S64x2x8x128x1, .f32⟩
  | 24 => ⟨S64x2x8x128x1, .f32⟩
  | 25 => ⟨S64x2x8x128x256, .f32⟩
  | 26 => ⟨S64x2x8x128x256, .f32⟩
  | 27 => ⟨S64x2x8x128x1, .f32⟩
  | 28 => ⟨S_, .f32⟩
  | 29 => ⟨S2x8x1, .f32⟩
  | 30 => ⟨S1x2x8x1x1, .f32⟩
  | 31 => ⟨S64x2x8x128x1, .f32⟩
  | 32 => ⟨S_, .f32⟩
  | 33 => ⟨S2x8, .f32⟩
  | 34 => ⟨S2x8x1x1, .f32⟩
  | 35 => ⟨S_, .f32⟩
  | 36 => ⟨S64x2x8x128, .f32⟩
  | 37 => ⟨S64x2x8x128x256, .f32⟩
  | 38 => ⟨S64x2x8x128x256, .f32⟩
  | 39 => ⟨S64x2x8x128x256, .f32⟩
  | 40 => ⟨S64x2x8x128x256, .f32⟩
  | 41 => ⟨S_, .f32⟩
  | 42 => ⟨S64x2x8x128, .f32⟩
  | 43 => ⟨S64x2x8x128x1, .f32⟩
  | 44 => ⟨S64x2x8x128x1, .f32⟩
  | 45 => ⟨S64x2x8x128x1, .f32⟩
  | 46 => ⟨S_, .f32⟩
  | 47 => ⟨S2x8x1, .f32⟩
  | 48 => ⟨S1x2x8x1x1, .f32⟩
  | 49 => ⟨S64x2x8x128x1, .f32⟩
  | 50 => ⟨S_, .f32⟩
  | 51 => ⟨S2x8, .f32⟩
  | 52 => ⟨S2x8x1x1, .f32⟩
  | 53 => ⟨S2x8x1x1, .f32⟩
  | 54 => ⟨S_, .f32⟩
  | 55 => ⟨S64x2x8x128, .f32⟩
  | 56 => ⟨S64x2x8x128, .f32⟩
  | 57 => ⟨S64x2x8x128x256, .f32⟩
  | 58 => ⟨S64x2x8x128x256, .f32⟩
  | 59 => ⟨S64x2x8x128x256, .f32⟩
  | 60 => ⟨S_, .f32⟩
  | 61 => ⟨S2x8, .f32⟩
  | 62 => ⟨S1x16, .f32⟩
  | 63 => ⟨S_, .f32⟩
  | 64 => ⟨S64x2x8x128x256, .f32⟩
  | 65 => ⟨S64x2x8x128x256, .f32⟩
  | 66 => ⟨S_, .f32⟩
  | 67 => ⟨S64x2x8x128x256, .f32⟩
  | 68 => ⟨S64x2x8x128x256, .f32⟩
  | 69 => ⟨S64x2x256x128x8, .f32⟩
  | 70 => ⟨S64x2x128x8x64, .f32⟩
  | 71 => ⟨S64x128x2x8x64, .f32⟩
  | 72 => ⟨S64x2x256x64, .f32⟩
  | 73 => ⟨S64x256x2x64, .f32⟩
  | 74 => ⟨S64x128x2x64, .f32⟩
  | 75 => ⟨S64x128x2x64, .f32⟩
  | 76 => ⟨S8192x128, .f32⟩
  | 77 => ⟨S8192x128, .f32⟩
  | 78 => ⟨S64x128x2x64, .f32⟩
  | 79 => ⟨S64x128x2x64, .f32⟩
  | 80 => ⟨S8192x128, .f32⟩
  | 81 => ⟨S8192x128, .f32⟩
  | 82 => ⟨S8192x1024, .f32⟩
  | 83 => ⟨S8192x1024, .bf16⟩
  | 84 => ⟨S8192x256, .f32⟩
  | 85 => ⟨S8192x256, .f32⟩
  | 86 => ⟨S_, .i32⟩
  | 87 => ⟨S_, .f32⟩
  | 88 => ⟨S1x128, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_c_6 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_call0_v0 : Ref sig .tc := ⟨.hbm, 77, rfl⟩
abbrev main_v63_1 : Ref sig .tc := ⟨.hbm, 78, rfl⟩
abbrev main_call0_v2 : Ref sig .tc := ⟨.hbm, 79, rfl⟩
abbrev main_v63_0 : Ref sig .tc := ⟨.hbm, 80, rfl⟩
abbrev main_call0_cst : Ref sig .tc := ⟨.hbm, 81, rfl⟩
abbrev main_v63_2 : Ref sig .tc := ⟨.hbm, 82, rfl⟩
abbrev main_v64 : Ref sig .tc := ⟨.hbm, 83, rfl⟩
abbrev main_v65 : Ref sig .tc := ⟨.hbm, 84, rfl⟩
abbrev main_cst_8 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_10 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_cst_12 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_13 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_17 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_18 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_19 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_20 : Ref sig .tc := ⟨.hbm, 160, rfl⟩
abbrev main_v129 : Ref sig .tc := ⟨.hbm, 161, rfl⟩
abbrev main_v130 : Ref sig .tc := ⟨.hbm, 162, rfl⟩
abbrev main_cst_21 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_22 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_23 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_24 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_25 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_26 : Ref sig .tc := ⟨.hbm, 188, rfl⟩
abbrev main_v151 : Ref sig .tc := ⟨.hbm, 189, rfl⟩
abbrev main_v152 : Ref sig .tc := ⟨.hbm, 190, rfl⟩
abbrev main_call1_cst : Ref sig .tc := ⟨.hbm, 191, rfl⟩
abbrev main_call1_v0 : Ref sig .tc := ⟨.hbm, 192, rfl⟩
abbrev main_v153 : Ref sig .tc := ⟨.hbm, 193, rfl⟩
abbrev main_cst_27 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_c_28 : Ref sig .tc := ⟨.hbm, 214, rfl⟩
abbrev main_call2_v0 : Ref sig .tc := ⟨.hbm, 215, rfl⟩
abbrev main_v173 : Ref sig .tc := ⟨.hbm, 216, rfl⟩

abbrev nD : Nat := 1
abbrev τ : Topo := Topo.v7x

variable {F : FTy → Type} [FloatOps F]
-- ==== Kernel2.lean ====
abbrev S8192x5632 : Shape := ⟨2, ![8192, 5632]⟩
abbrev S8192x1024 : Shape := ⟨2, ![8192, 1024]⟩
abbrev S1x1024 : Shape := ⟨2, ![1, 1024]⟩
abbrev S5632x1024 : Shape := ⟨2, ![5632, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S5632x1024, .bf16⟩
  | .hbm, ⟨5, _⟩ => ⟨S8192x1024, .f32⟩
  | .hbm, ⟨6, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S5632x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S8192x5632 : Shape := ⟨2, ![8192, 5632]⟩
abbrev S8192x1024 : Shape := ⟨2, ![8192, 1024]⟩
abbrev S1x1024 : Shape := ⟨2, ![1, 1024]⟩
abbrev S5632x1024 : Shape := ⟨2, ![5632, 1024]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S5632x1024, .bf16⟩
  | .hbm, ⟨5, _⟩ => ⟨S5632x1024, .f32⟩
  | .hbm, ⟨6, _⟩ => ⟨S1024x5632, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x5632, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S5632x1024 : Shape := ⟨2, ![5632, 1024]⟩
abbrev S1024x2816 : Shape := ⟨2, ![1024, 2816]⟩
abbrev S1024x1024 : Shape := ⟨2, ![1024, 1024]⟩
abbrev S2816x1024 : Shape := ⟨2, ![2816, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .bf16⟩
  | .local _ .vmem, ⟨6, _⟩ => ⟨S2816x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x5632 : Shape := ⟨2, ![8192, 5632]⟩
abbrev S8192x1024 : Shape := ⟨2, ![8192, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S8192x3840 : Shape := ⟨2, ![8192, 3840]⟩
abbrev S8192x1024 : Shape := ⟨2, ![8192, 1024]⟩
abbrev S3840x1024 : Shape := ⟨2, ![3840, 1024]⟩
abbrev S1024x1920 : Shape := ⟨2, ![1024, 1920]⟩
abbrev S1024x1024 : Shape := ⟨2, ![1024, 1024]⟩
abbrev S1920x1024 : Shape := ⟨2, ![1920, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3840, .bf16⟩
  | .hbm, ⟨1, _⟩ => ⟨S8192x1024, .bf16⟩
  | .hbm, ⟨2, _⟩ => ⟨S3840x1024, .bf16⟩
  | .local _ .vmem, ⟨0, _⟩ => ⟨S1024x1920, .bf16⟩
  | .local _ .vmem, ⟨1, _⟩ => ⟨S1024x1920, .bf16⟩
  | .local _ .vmem, ⟨2, _⟩ => ⟨S1024x1024, .bf16⟩
  | .local _ .vmem, ⟨3, _⟩ => ⟨S1024x1024, .bf16⟩
  | .local _ .vmem, ⟨4, _⟩ => ⟨S1920x1024, .bf16⟩
  | .local _ .vmem, ⟨5, _⟩ => ⟨S1920x1024, .bf16⟩
  | .local _ .vmem, ⟨6, _⟩ => ⟨S1920x1024, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1920x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x3840 : Shape := ⟨2, ![8192, 3840]⟩
abbrev S8192x1024 : Shape := ⟨2, ![8192, 1024]⟩
abbrev S_ : Shape := ⟨0, ![]⟩
abbrev S1024x3840 : Shape := ⟨2, ![1024, 3840]⟩
abbrev S3840x1024 : Shape := ⟨2, ![3840, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S8192x1024, .bf16⟩
  | .hbm, ⟨2, _⟩ => ⟨S8192x1024, .f32⟩
  | .hbm, ⟨3, _⟩ => ⟨S8192x3840, .f32⟩
  | .hbm, ⟨4, _⟩ => ⟨S_, .f32⟩
  | .hbm, ⟨5, _⟩ => ⟨S1024x3840, .f32⟩
  | .hbm, ⟨6, _⟩ => ⟨S8192x3840, .f32⟩
  | .hbm, ⟨7, _⟩ => ⟨S3840x1024, .f32⟩
  | .hbm, ⟨8, _⟩ => ⟨S1024x3840, .f32⟩
  | .hbm, ⟨9, _⟩ => ⟨S3840x1024, .f32⟩
  | .hbm, ⟨10, _⟩ => ⟨S3840x1024, .bf16⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x512 : Shape := ⟨2, ![8192, 512]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S8192x512 : Shape := ⟨2, ![8192, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S8192x2816 : Shape := ⟨2, ![8192, 2816]⟩
abbrev S2816x1024 : Shape := ⟨2, ![2816, 1024]⟩
abbrev S1024x1024 : Shape := ⟨2, ![1024, 1024]⟩
abbrev S1024x2816 : Shape := ⟨2, ![1024, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x1024, .bf16⟩
  | .hbm, ⟨4, _⟩ => ⟨S8192x5632, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | .local _ .vmem, ⟨8, _⟩ => ⟨S512x2816, .bf16⟩
  | .local _ .vmem, ⟨9, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x1024 : Shape := ⟨2, ![8192, 1024]⟩
abbrev S1x1024 : Shape := ⟨2, ![1, 1024]⟩
abbrev S5632x1024 : Shape := ⟨2, ![5632, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S5632x1024, .f32⟩
  | .hbm, ⟨21, _⟩ => ⟨S1024x5632, .f32⟩
  | .hbm, ⟨22, _⟩ => ⟨S8192x5632, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x1024, .bf16⟩
  | .hbm, ⟨36, _⟩ => ⟨S8192x5632, .bf16⟩
  | .hbm, ⟨37, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S3840x1024 : Shape := ⟨2, ![3840, 1024]⟩
abbrev S8192x256 : Shape := ⟨2, ![8192, 256]⟩
abbrev S8192x512 : Shape := ⟨2, ![8192, 512]⟩
abbrev S8192x2048 : Shape := ⟨2, ![8192, 2048]⟩
abbrev S512x1024 : Shape := ⟨2, ![512, 1024]⟩
abbrev S512x256 : Shape := ⟨2, ![512, 256]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S2048x1024 : Shape := ⟨2, ![2048, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3840x1024, .bf16⟩
  | .hbm, ⟨3, _⟩ => ⟨S8192x1024, .bf16⟩
  | .hbm, ⟨4, _⟩ => ⟨S8192x1024, .bf16⟩
  | .hbm, ⟨5, _⟩ => ⟨S8192x256, .bf16⟩
  | .hbm, ⟨6, _⟩ => ⟨S8192x512, .f32⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | .local _ .vmem, ⟨13, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8192x1024 : Shape := ⟨2, ![8192, 1024]⟩
abbrev S1x1024 : Shape := ⟨2, ![1, 1024]⟩
abbrev S3840x1024 : Shape := ⟨2, ![3840, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x3840 : Shape := ⟨2, ![1024, 3840]⟩
abbrev S8192x3840 : Shape := ⟨2, ![8192, 3840]⟩
abbrev S8192x256 : Shape := ⟨2, ![8192, 256]⟩
abbrev S8192x512 : Shape := ⟨2, ![8192, 512]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S3840x1024, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S3840x1024, .f32⟩
  | .hbm, ⟨21, _⟩ => ⟨S1024x3840, .f32⟩
  | .hbm, ⟨22, _⟩ => ⟨S8192x3840, .f32⟩
  | .hbm, ⟨23, _⟩ => ⟨S8192x1024, .f32⟩
  | .hbm, ⟨24, _⟩ => ⟨S8192x256, .f32⟩
  | .hbm, ⟨25, _⟩ => ⟨S8192x512, .f32⟩
  | .hbm, ⟨26, _⟩ => ⟨S8192x2048, .f32⟩
  | .hbm, ⟨27, _⟩ => ⟨S8192x1024, .bf16⟩
  | .hbm, ⟨28, _⟩ => ⟨S8192x1024, .bf16⟩
  | .hbm, ⟨29, _⟩ => ⟨S8192x256, .bf16⟩
  | .hbm, ⟨30, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S8192x5632 : Shape := ⟨2, ![8192, 5632]⟩
abbrev S8192x2816 : Shape := ⟨2, ![8192, 2816]⟩
abbrev S1x128 : Shape := ⟨2, ![1, 128]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S8192x5632, .bf16⟩
  | .hbm, ⟨7, _⟩ => ⟨S8192x1024, .bf16⟩
  | .hbm, ⟨8, _⟩ => ⟨S8192x2816, .bf16⟩
  | .hbm, ⟨9, _⟩ => ⟨S1x128, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference11Ideal.lean ====
abbrev S8192x1024 : Shape := ⟨2, ![8192, 1024]⟩
abbrev S1x1024 : Shape := ⟨2, ![1, 1024]⟩
abbrev S5632x1024 : Shape := ⟨2, ![5632, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S1x128 : Shape := ⟨2, ![1, 128]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S2816x1024, .bf16⟩
  | .hbm, ⟨4, _⟩ => ⟨S1x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S5632x1024, .f32⟩
  | .hbm, ⟨24, _⟩ => ⟨S1024x5632, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .bf16⟩
  | .hbm, ⟨39, _⟩ => ⟨S8192x5632, .bf16⟩
  | .hbm, ⟨40, _⟩ => ⟨S8192x2816, .bf16⟩
  | .hbm, ⟨41, _⟩ => ⟨S8192x2816, .f32⟩
  | .hbm, ⟨42, _⟩ => ⟨S2816x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S1x128, .f32⟩
  | .hbm, ⟨118, _⟩ => ⟨S8192x1024, .bf16⟩
  | .hbm, ⟨119, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_cst_12 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_cst_14 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_15 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_16 : Ref sig .tc := ⟨.hbm, 98, rfl⟩
abbrev main_v67 : Ref sig .tc := ⟨.hbm, 99, rfl⟩
abbrev main_v68 : Ref sig .tc := ⟨.hbm, 100, rfl⟩
abbrev main_cst_17 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_18 : Ref sig .tc := ⟨.hbm, 107, rfl⟩
abbrev main_v74 : Ref sig .tc := ⟨.hbm, 108, rfl⟩
abbrev main_v75 : Ref sig .tc := ⟨.hbm, 109, rfl⟩
abbrev main_cst_19 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S8192x512 : Shape := ⟨2, ![8192, 512]⟩
abbrev S1024x1024 : Shape := ⟨2, ![1024, 1024]⟩
abbrev S4x128x128 : Shape := ⟨3, ![4, 128, 128]⟩
abbrev S1x512 : Shape := ⟨2, ![1, 512]⟩
abbrev S1024x512 : Shape := ⟨2, ![1024, 512]⟩
abbrev S512x1024 : Shape := ⟨2, ![512, 1024]⟩
abbrev S512x2048 : Shape := ⟨2, ![512, 2048]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 18
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S1024x1024, .bf16⟩
  | .hbm, ⟨6, _⟩ => ⟨S4x128x128, .bf16⟩
  | .hbm, ⟨7, _⟩ => ⟨S1x512, .f32⟩
  | .hbm, ⟨8, _⟩ => ⟨S1024x512, .bf16⟩
  | .hbm, ⟨9, _⟩ => ⟨S1024x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x2048, .bf16⟩
  | .hbm, ⟨15, _⟩ => ⟨S8192x512, .f32⟩
  | .hbm, ⟨16, _⟩ => ⟨S4x128x128, .f32⟩
  | .hbm, ⟨17, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S4x128x128, .bf16⟩
  | .local _ .vmem, ⟨12, _⟩ => ⟨S1x512, .f32⟩
  | .local _ .vmem, ⟨13, _⟩ => ⟨S1024x512, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x2048, .bf16⟩
  | .local _ .vmem, ⟨24, _⟩ => ⟨S512x2048, .bf16⟩
  | .local _ .vmem, ⟨25, _⟩ => ⟨S512x512, .f32⟩
  | .local _ .vmem, ⟨26, _⟩ => ⟨S512x512, .f32⟩
  | .local _ .vmem, ⟨27, _⟩ => ⟨S4x128x128, .f32⟩
  | .local _ .vmem, ⟨28, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference12Ideal.lean ====
abbrev S8192x1024 : Shape := ⟨2, ![8192, 1024]⟩
abbrev S8192x2048 : Shape := ⟨2, ![8192, 2048]⟩
abbrev S8192x512 : Shape := ⟨2, ![8192, 512]⟩
abbrev S1024x1024 : Shape := ⟨2, ![1024, 1024]⟩
abbrev S4x128x128 : Shape := ⟨3, ![4, 128, 128]⟩
abbrev S1x512 : Shape := ⟨2, ![1, 512]⟩
abbrev S1024x512 : Shape := ⟨2, ![1024, 512]⟩
abbrev S_ : Shape := ⟨0, ![]⟩
abbrev S512 : Shape := ⟨1, ![512]⟩
abbrev S8192x4x128 : Shape := ⟨3, ![8192, 4, 128]⟩
abbrev S4x128x8192 : Shape := ⟨3, ![4, 128, 8192]⟩
abbrev S512x1024 : Shape := ⟨2, ![512, 1024]⟩
abbrev S4x8192x128 : Shape := ⟨3, ![4, 8192, 128]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S8192x512, .bf16⟩
  | .hbm, ⟨5, _⟩ => ⟨S1024x1024, .bf16⟩
  | .hbm, ⟨6, _⟩ => ⟨S4x128x128, .bf16⟩
  | .hbm, ⟨7, _⟩ => ⟨S1x512, .f32⟩
  | .hbm, ⟨8, _⟩ => ⟨S1024x512, .bf16⟩
  | .hbm, ⟨9, _⟩ => ⟨S1024x1024, .bf16⟩
  | .hbm, ⟨10, _⟩ => ⟨S8192x2048, .f32⟩
  | .hbm, ⟨11, _⟩ => ⟨S8192x1024, .f32⟩
  | .hbm, ⟨12, _⟩ => ⟨S8192x1024, .f32⟩
  | .hbm, ⟨13, _⟩ => ⟨S8192x512, .f32⟩
  | .hbm, ⟨14, _⟩ => ⟨S1024x1024, .f32⟩
  | .hbm, ⟨15, _⟩ => ⟨S4x128x128, .f32⟩
  | .hbm, ⟨16, _⟩ => ⟨S1024x512, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S512, .f32⟩
  | .hbm, ⟨60, _⟩ => ⟨S8192x4x128, .f32⟩
  | .hbm, ⟨61, _⟩ => ⟨S4x128x8192, .f32⟩
  | .hbm, ⟨62, _⟩ => ⟨S8192x4x128, .f32⟩
  | .hbm, ⟨63, _⟩ => ⟨S8192x512, .f32⟩
  | .hbm, ⟨64, _⟩ => ⟨S1x512, .f32⟩
  | .hbm, ⟨65, _⟩ => ⟨S8192x512, .f32⟩
  | .hbm, ⟨66, _⟩ => ⟨S8192x512, .f32⟩
  | .hbm, ⟨67, _⟩ => ⟨S512x1024, .f32⟩
  | .hbm, ⟨68, _⟩ => ⟨S8192x1024, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S8192x512, .f32⟩
  | .hbm, ⟨75, _⟩ => ⟨S8192x512, .f32⟩
  | .hbm, ⟨76, _⟩ => ⟨S_, .f32⟩
  | .hbm, ⟨77, _⟩ => ⟨S512, .f32⟩
  | .hbm, ⟨78, _⟩ => ⟨S8192x4x128, .f32⟩
  | .hbm, ⟨79, _⟩ => ⟨S4x128x8192, .f32⟩
  | .hbm, ⟨80, _⟩ => ⟨S4x8192x128, .f32⟩
  | .hbm, ⟨81, _⟩ => ⟨S8192x4x128, .f32⟩
  | .hbm, ⟨82, _⟩ => ⟨S4x128x128, .f32⟩
  | .hbm, ⟨83, _⟩ => ⟨S4x128x128, .f32⟩
  | .hbm, ⟨84, _⟩ => ⟨S8192x512, .f32⟩
  | .hbm, ⟨85, _⟩ => ⟨S8192x2048, .f32⟩
  | .hbm, ⟨86, _⟩ => ⟨S8192x1024, .bf16⟩
  | .hbm, ⟨87, _⟩ => ⟨S8192x1024, .bf16⟩
  | .hbm, ⟨88, _⟩ => ⟨S8192x1024, .bf16⟩
  | .hbm, ⟨89, _⟩ => ⟨S8192x1024, .bf16⟩
  | .hbm, ⟨90, _⟩ => ⟨S8192x2048, .bf16⟩
  | .hbm, ⟨91, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_7 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Proof.Vocab.lean ====
/-
  The kernel's block computation in a few functions of a head.

  One grid point works on a block of 128 query rows against its own 128 keys and the 128 before it.
  The body does the same for each of the sixteen heads; here each step is written once, for a head `h`,
  at any instance of the floats.  `Opened.lean` shows that what the body leaves in its windows is this.
-/
module

public import proofs.«01_k».proof.Proof.Gen.KernelIdeal.Value

@[expose] public section

set_option maxRecDepth 16384

noncomputable section

namespace Cert.KernelIdeal.Attn

open Idealize.ShloMosaic Idealize.ShloMosaic.TcCoe
open Cert.KernelIdeal Cert.KernelIdeal.Gen

variable {F : FTy → Type} [FloatOps F]

/-- The sixteen ALiBi slopes, as the words the body multiplies by. -/
def slopeWord : Fin 16 → BitVec 32 :=
  ![0x3F3504F3#32, 0x3F000000#32, 0x3EB504F3#32, 0x3E800000#32, 0x3E3504F3#32, 0x3E000000#32, 0x3DB504F3#32, 0x3D800000#32,
    0x3D3504F3#32, 0x3D000000#32, 0x3CB504F3#32, 0x3C800000#32, 0x3C3504F3#32, 0x3C000000#32, 0x3BB504F3#32, 0x3B800000#32]

/-- Whether head `h` lies in the upper 64 lanes of its pair. -/
def hi (h : Fin 16) : Bool := h.val % 2 == 1

/-- Column is not after row: the key belongs to the block itself. -/
def own : IVec S128x128 1 :=
  cmpi .sle (iota .tc S128x128 32 [1] iota_S128x128_d1_w32) (iota .tc S128x128 32 [0] iota_S128x128_d0_w32)

/-- The lanes below 64. -/
def lowLanes : IVec S128x128 1 :=
  cmpi .slt (iota .tc S128x128 32 [1] iota_S128x128_d1_w32) (broadcast S128x128 64#32)

/-- The lanes of the half a head lies in. -/
def lanesOf (up : Bool) : IVec S128x128 1 :=
  bif up then xori lowLanes (constantI S128x128 1 1#1) else lowLanes

/-- A pair's 128 lanes with the other head's half set to zero. -/
def halfOf (up : Bool) (x : FVec F S128x128 .bf16) : FVec F S128x128 .bf16 :=
  select (lanesOf up) x (broadcast S128x128 (Scalar.ofBits .bf16 0x0000#16))

/-- The 128 lanes of a pair of heads. -/
def lanes (x : Vec F S128x1024 .bf16) (p : Fin 8) : Vec F S128x128 .bf16 :=
  View.ld x (Rect.unit ![0, 128 * p.val] ![128, 128] (by
    intro d; fin_cases d
    · show 0 + 128 ≤ 128; omega
    · show 128 * p.val + 128 ≤ 1024; omega))

/-- The pair a head belongs to. -/
def pairOf (h : Fin 16) : Fin 8 := ⟨h.val / 2, by omega⟩

/-- Keys and values of both blocks, the block before on top. -/
def band (before own : FVec F S128x128 .bf16) : FVec F S256x128 .bf16 :=
  concatenate S256x128 0 [⟨S128x128, before⟩, ⟨S128x128, own⟩] concatenates_S128x128_S128x128_S256x128_d0

/-- One kv head's 64 lanes copied to both halves. -/
def twice (second : Bool) (x : FVec F S256x128 .bf16) : FVec F S256x128 .bf16 :=
  let low := cmpi .slt (iota .tc S256x128 32 [1] iota_S256x128_d1_w32) (broadcast S256x128 64#32)
  let swapped := dynamicRotate 1 64#32 none x rotates_S256x128_d1
  bif second then select low swapped x else select low x swapped

/-- Which of the two kv heads head `h` reads. -/
def kvOf (h : Fin 16) : Bool := h.val / 8 == 1

/-- The keys of the band, one kv head's in both halves. -/
def keys (second : Bool) (x1 x2 : Vec F S128x256 .bf16) : FVec F S256x128 .bf16 :=
  twice second (band (extractStridedSlice S128x128 ![0, 0] x2 slices_S128x256_o0_0_S128x128)
    (View.ld x1 (Rect.unit ![0, 0] ![128, 128] inb_S128x256_S128x128_0_0)))

/-- The values of the band, one kv head's in both halves. -/
def vals (second : Bool) (x1 x2 : Vec F S128x256 .bf16) : FVec F S256x128 .bf16 :=
  twice second (band (extractStridedSlice S128x128 ![0, 128] x2 slices_S128x256_o0_128_S128x128)
    (View.ld x1 (Rect.unit ![0, 128] ![128, 128] inb_S128x256_S128x128_0_128)))

/-- A head's scores, the two blocks of the band folded into one. -/
def score (up : Bool) (w : BitVec 32) (dist : Vec F S128x128 .f32) (k : FVec F S256x128 .bf16) (first : BitVec 1)
    (q : Vec F S128x128 .bf16) : FVec F S1x1x128x128 .f32 :=
  let s2 := matmul dot_S128x128_S256x128_S128x256_1_1_0_0_n_n none
    (mulf (halfOf up q) (broadcast S128x128 (Scalar.ofBits .bf16 0x3E00#16))) k (constant S128x256 .f32 0x00000000#32)
  let before := Scalar.select first (broadcast S128x128 (Scalar.ofBits .f32 0xFF800000#32))
    (extractStridedSlice S128x128 ![0, 0] s2 slices_S128x256_o0_0_S128x128)
  shapeCast S1x1x128x128
    (subf (select own (extractStridedSlice S128x128 ![0, 128] s2 slices_S128x256_o0_128_S128x128) before)
      (mulf (broadcast S128x128 (Scalar.ofBits .f32 w)) dist)) shapeCasts_S128x128_S1x1x128x128

/-- A head's gradient of the probabilities, folded. -/
def dprob (up : Bool) (v : FVec F S256x128 .bf16) (g : Vec F S128x128 .bf16) : FVec F S1x1x128x128 .f32 :=
  let s2 := matmul dot_S128x128_S256x128_S128x256_1_1_0_0_n_n none (halfOf up g) v (constant S128x256 .f32 0x00000000#32)
  shapeCast S1x1x128x128
    (select own (extractStridedSlice S128x128 ![0, 128] s2 slices_S128x256_o0_128_S128x128)
      (extractStridedSlice S128x128 ![0, 0] s2 slices_S128x256_o0_0_S128x128)) shapeCasts_S128x128_S1x1x128x128

/-- A tile of one head, read back as rows and columns. -/
def tile (s : Vec F S1x1x128x128 .f32) : FVec F S128x128 .f32 := shapeCast S128x128 s shapeCasts_S1x1x128x128_S128x128

/-- The larger of a row's greatest score and the sink. -/
def rowMax (s : FVec F S128x128 .f32) (sink : Elt F .f32) : FVec F S128x1 .f32 :=
  maximumf (shapeCast S128x1 (multiReduction .maximumf [1] S128 s 0xFF800000#32 reduces_S128x128_S128 (.inl rfl) rfl)
    shapeCasts_S128_S128x1) (broadcast S128x1 sink)

/-- The sum of a row. -/
def rowSum (x : FVec F S128x128 .f32) : FVec F S128x1 .f32 :=
  shapeCast S128x1 (multiReduction .add [1] S128 x 0x00000000#32 reduces_S128x128_S128 (.inl rfl) rfl) shapeCasts_S128_S128x1

/-- A row's value in every column. -/
def cols (x : FVec F S128x1 .f32) : FVec F S128x128 .f32 := broadcastTo S128x128 x broadcasts_S128x1_S128x128

/-- The exponentials of the scores less the row's maximum. -/
def expo (s : FVec F S128x128 .f32) (sink : Elt F .f32) : FVec F S128x128 .f32 := exp (subf s (cols (rowMax s sink)))

/-- The exponential of the sink less the row's maximum. -/
def expoSink (s : FVec F S128x128 .f32) (sink : Elt F .f32) : FVec F S128x1 .f32 :=
  exp (subf (broadcast S128x1 sink) (rowMax s sink))

/-- One over the row's denominator. -/
def inv (s : FVec F S128x128 .f32) (sink : Elt F .f32) : FVec F S128x1 .f32 :=
  divf (broadcast S128x1 (Scalar.ofBits .f32 0x3F800000#32)) (addf (rowSum (expo s sink)) (expoSink s sink))

/-- The probabilities. -/
def prob (s : FVec F S128x128 .f32) (sink : Elt F .f32) : FVec F S128x128 .f32 := mulf (expo s sink) (cols (inv s sink))

/-- The sink's share. -/
def probSink (s : FVec F S128x128 .f32) (sink : Elt F .f32) : FVec F S128x1 .f32 := mulf (expoSink s sink) (inv s sink)

/-- The row's sum of probabilities times their gradients. -/
def rowDot (s : FVec F S128x128 .f32) (sink : Elt F .f32) (dp : FVec F S128x128 .f32) : FVec F S128x1 .f32 :=
  rowSum (mulf (prob s sink) dp)

/-- The gradient of the scores. -/
def dscore (s : FVec F S128x128 .f32) (sink : Elt F .f32) (dp : FVec F S128x128 .f32) : FVec F S128x128 .f32 :=
  mulf (prob s sink) (subf dp (cols (rowDot s sink dp)))

/-- A folded tile spread over both blocks again, zero where a column's key was not used. -/
def spread (x : FVec F S128x128 .f32) : FVec F S1x1x128x256 .bf16 :=
  let y := truncf .bf16 x bitsLt_bf16_f32
  let z := broadcast S128x128 (Scalar.ofBits .bf16 0x0000#16)
  shapeCast S1x1x128x256 (concatenate S128x256 1 [⟨S128x128, select own z y⟩, ⟨S128x128, select own y z⟩]
    concatenates_S128x128_S128x128_S128x256_d1) shapeCasts_S128x256_S1x1x128x256

/-- A head's spread tile, read back. -/
def tile2 (x : Vec F S1x1x128x256 .bf16) : FVec F S128x256 .bf16 := shapeCast S128x256 x shapeCasts_S1x1x128x256_S128x256

/-- A block's sum of the sink's gradients. -/
def sinkSum (s : FVec F S128x128 .f32) (sink : Elt F .f32) (dp : FVec F S128x128 .f32) : FVec F S1x128 .f32 :=
  broadcastTo S1x128 (shapeCast S1x1 (shapeCast S1x1 (multiReduction .add [0] S1
    (mulf (subf (broadcast S128x1 (Scalar.ofBits .f32 0x00000000#32)) (probSink s sink)) (rowDot s sink dp))
    0x00000000#32 reduces_S128x1_S1 (.inl rfl) rfl) shapeCasts_S1_S1x1) shapeCasts_S1x1_S1x1) broadcasts_S1x1_S1x128

variable (first : BitVec 1) (x0 : Vec F S128x1024 .bf16) (x1 x2 : Vec F S128x256 .bf16) (x3 : Vec F S128x1024 .bf16)
  (x4 : Vec F S128x128 .f32) (x5 : Vec F S16 .f32)

/-- Head `h`'s scores. -/
def scoreH (h : Fin 16) : FVec F S128x128 .f32 :=
  tile (score (hi h) (slopeWord h) x4 (keys (kvOf h) x1 x2) first (lanes x0 (pairOf h)))

/-- A rectangle of one element has one. -/
theorem oneNumel {b : Fin 1 → ℕ} (inb : ∀ d, b d + (![1] : Fin 1 → ℕ) d ≤ S16.size d) :
    0 < (Rect.unit (s := S16) b ![1] inb).shape.numel := by
  show 0 < ∏ d : Fin 1, (![1] : Fin 1 → ℕ) d
  simp

/-- Head `h`'s sink. -/
def sinkH (h : Fin 16) : Elt F .f32 :=
  View.ld x5 (Rect.unit ![h.val] ![1] (by intro d; fin_cases d; show h.val + 1 ≤ 16; omega)) (Shape.Idx.first (oneNumel _))

/-- Head `h`'s gradient of the probabilities. -/
def dprobH (h : Fin 16) : FVec F S128x128 .f32 :=
  tile (dprob (hi h) (vals (kvOf h) x1 x2) (lanes x3 (pairOf h)))

/-- Head `h`'s probabilities over the band. -/
def probH (h : Fin 16) : FVec F S128x256 .bf16 :=
  tile2 (spread (prob (scoreH first x0 x1 x2 x4 h) (sinkH x5 h)))

/-- Head `h`'s gradient of the scores over the band. -/
def dscoreH (h : Fin 16) : FVec F S128x256 .bf16 :=
  tile2 (spread (dscore (scoreH first x0 x1 x2 x4 h) (sinkH x5 h) (dprobH x1 x2 x3 h)))

/-- Head `h`'s gradient of the queries, before the scale. -/
def dqH (h : Fin 16) : FVec F S128x128 .f32 :=
  matmul dot_S128x256_S256x128_S128x128_1_0_0_1_n_n none (dscoreH first x0 x1 x2 x3 x4 x5 h) (keys (kvOf h) x1 x2)
    (constant S128x128 .f32 0x00000000#32)

/-- The pair's gradient of the queries. -/
def dqPair (p : Fin 8) : FVec F S128x128 .bf16 :=
  truncf .bf16 (mulf (select lowLanes (dqH first x0 x1 x2 x3 x4 x5 ⟨2 * p.val, by omega⟩)
      (dqH first x0 x1 x2 x3 x4 x5 ⟨2 * p.val + 1, by omega⟩))
    (broadcast S128x128 (Scalar.ofBits .f32 0x3E000000#32))) bitsLt_bf16_f32

/-- A head's rows of a transposed pair, the other head's set to zero. -/
def halfT (up : Bool) (x : FVec F S128x128 .bf16) : FVec F S128x128 .bf16 :=
  select (xori (xori (cmpi .slt (iota .tc S128x128 32 [0] iota_S128x128_d0_w32) (broadcast S128x128 64#32))
      (broadcastTo S128x128 (broadcast S128x128 (bif up then 0#1 else 1#1)) broadcasts_S128x128_S128x128))
    (constantI S128x128 1 1#1)) x (broadcast S128x128 (Scalar.ofBits .bf16 0x0000#16))

/-- The `n`-th head of a kv head. -/
def headOf (second : Bool) (n : ℕ) : Fin 16 := ⟨((bif second then 8 else 0) + n) % 16, Nat.mod_lt _ (by decide)⟩

/-- What head `h` adds to the transposed gradient of its keys. -/
def dkH (h : Fin 16) : FVec F S128x256 .f32 :=
  matmul dot_S128x128_S128x256_S128x256_1_0_0_1_n_n none
    (halfT (hi h) (transpose S128x128 [1, 0] (mulf (lanes x0 (pairOf h)) (broadcast S128x128 (Scalar.ofBits .bf16 0x3E00#16)))
      transposes_S128x128_p1_0_S128x128))
    (dscoreH first x0 x1 x2 x3 x4 x5 h) (constant S128x256 .f32 0x00000000#32)

/-- What head `h` adds to the transposed gradient of its values. -/
def dvH (h : Fin 16) : FVec F S128x256 .f32 :=
  matmul dot_S128x128_S128x256_S128x256_1_0_0_1_n_n none
    (halfT (hi h) (transpose S128x128 [1, 0] (lanes x3 (pairOf h)) transposes_S128x128_p1_0_S128x128))
    (probH first x0 x1 x2 x4 x5 h) (constant S128x256 .f32 0x00000000#32)

/-- A kv head's sum over the first `n` of its heads. -/
def sumTo (f : Fin 16 → FVec F S128x256 .f32) (second : Bool) : ℕ → FVec F S128x256 .f32
  | 0 => broadcast S128x256 (Scalar.ofBits .f32 0x00000000#32)
  | n + 1 => addf (sumTo f second n) (f (headOf second n))

/-- The two halves of a kv head's gradient added, in both halves. -/
def folded (x : FVec F S128x256 .f32) : FVec F S256x128 .f32 :=
  let y := transpose S256x128 [1, 0] x transposes_S128x256_p1_0_S256x128
  addf y (dynamicRotate 1 64#32 none y rotates_S256x128_d1)

/-- Both kv heads' gradients side by side. -/
def bothKv (f : Fin 16 → FVec F S128x256 .f32) : FVec F S256x128 .f32 :=
  select (cmpi .slt (iota .tc S256x128 32 [1] iota_S256x128_d1_w32) (broadcast S256x128 64#32))
    (folded (sumTo f false 8)) (folded (sumTo f true 8))

/-- The gradients of the band's keys and values. -/
def dkv : FVec F S256x256 .f32 :=
  concatenate S256x256 1 [⟨S256x128, bothKv (dkH first x0 x1 x2 x3 x4 x5)⟩, ⟨S256x128, bothKv (dvH first x0 x1 x2 x3 x4 x5)⟩]
    concatenates_S256x128_S256x128_S256x256_d1

/-- The sum of the first `n` heads' sink gradients, each in its own lane. -/
def dsinkTo : ℕ → FVec F S1x128 .f32
  | 0 => broadcast S1x128 (Scalar.ofBits .f32 0x00000000#32)
  | n + 1 =>
    let h : Fin 16 := ⟨n % 16, Nat.mod_lt _ (by decide)⟩
    addf (dsinkTo n)
      (select (cmpi .eq (iota .tc S1x128 32 [1] iota_S1x128_d1_w32) (broadcast S1x128 (BitVec.ofNat 32 h.val)))
        (sinkSum (scoreH first x0 x1 x2 x4 h) (sinkH x5 h) (dprobH x1 x2 x3 h))
        (broadcast S1x128 (Scalar.ofBits .f32 0x00000000#32)))

end Cert.KernelIdeal.Attn

end
-- ==== Proof.Opened.lean ====
/-
  What the body leaves in its four output windows, as the functions of `Vocab.lean`.
-/
module

public import proofs.«01_k».proof.Proof.Vocab
public import Idealize.ShloMosaic.Lib.Pipeline.ReadBack
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F]
variable (m : (ℓ : Loc nD τ sig) → Buf (Elt F) ℓ)

/-- Whether the grid point is the first one, as the body computes it. -/
def firstBlock (t : Fin cfg0.N) : BitVec 1 :=
  Scalar.andi (Scalar.cmpi .eq (BitVec.ofNat 32 ↑(grid0.coords t 0)) 0#32) 1#1

/-- The 128 columns of a pair in the block of query gradients. -/
def pairRect (p : Fin 8) : Rect S128x1024 :=
  Rect.unit ![0, 128 * p.val] ![128, 128] (by
    intro d; fin_cases d
    · show 0 + 128 ≤ 128; omega
    · show 128 * p.val + 128 ≤ 1024; omega)

/-- The eight pairs' pieces of the block of query gradients. -/
def dqPieces (c : Dev nD) (t : Fin cfg0.N) (p : Fin 8) : View.Piece (Elt F) S128x1024 .bf16 :=
  ⟨pairRect p, dqPair (firstBlock t) (iblk m c 0 t) (iblk m c 1 t) (iblk m c 2 t) (iblk m c 3 t) (iblk m c 4 t) (iblk m c 5 t) p⟩

/-- The gradients of the band's keys and values at a grid point. -/
def dkvAt (c : Dev nD) (t : Fin cfg0.N) : FVec F S256x256 .f32 :=
  dkv (firstBlock t) (iblk m c 0 t) (iblk m c 1 t) (iblk m c 2 t) (iblk m c 3 t) (iblk m c 4 t) (iblk m c 5 t)

/-- The sixteen heads' sink gradients at a grid point. -/
def dsinkAt (c : Dev nD) (t : Fin cfg0.N) : FVec F S1x128 .f32 :=
  dsinkTo (firstBlock t) (iblk m c 0 t) (iblk m c 1 t) (iblk m c 2 t) (iblk m c 3 t) (iblk m c 4 t) (iblk m c 5 t) 16

/-- What a grid point leaves in the first three output windows, and in the fourth over what it found there. -/
def leaves (c : Dev nD) (t : Fin cfg0.N) (before : FVec F S1x128 .f32) :
    Vec F S128x1024 .bf16 × Vec F S128x256 .f32 × Vec F S128x256 .f32 × Vec F S1x128 .f32 :=
  (View.canon [dqPieces m c t 7, dqPieces m c t 6, dqPieces m c t 5, dqPieces m c t 4,
      dqPieces m c t 3, dqPieces m c t 2, dqPieces m c t 1, dqPieces m c t 0],
    extractStridedSlice S128x256 ![128, 0] (dkvAt m c t) slices_S256x256_o128_0_S128x256,
    extractStridedSlice S128x256 ![0, 0] (dkvAt m c t) slices_S256x256_o0_0_S128x256,
    addf (shapeCast S1x128 before shapeCasts_S1x128_S1x128) (dsinkAt m c t))

set_option maxHeartbeats 4000000 in
/-- A point after the first adds its sink gradients to what the point before left. -/
theorem outs_B (c : Dev nD) (t : Fin cfg0.N) (h0 : ¬t.val % 64 = 0) :
    outsAt0 m c t.val t.isLt = leaves m c t (outsAt0 m c (t.val - 1) (Nat.lt_of_le_of_lt (Nat.sub_le _ _) t.isLt)).2.2.2 := by
  rw [outsAt0_B m c t h0]
  refine Prod.ext ?_ (Prod.ext ?_ (Prod.ext ?_ ?_))
  all_goals
    frame_open
    simp (disch := decide) only [↓ View.readCov_skip, ↓ View.readCov_cons_toLoadRect, ↓ View.readCov_fill]
    frame_out
    rfl

set_option maxHeartbeats 4000000 in
/-- The first point adds its sink gradients to zero. -/
theorem outs_A (c : Dev nD) (t : Fin cfg0.N) (h0 : t.val % 64 = 0) :
    outsAt0 m c t.val t.isLt = leaves m c t (broadcast S1x128 (Scalar.ofBits .f32 0x00000000#32)) := by
  rw [outsAt0_A m c t h0]
  refine Prod.ext ?_ (Prod.ext ?_ (Prod.ext ?_ ?_))
  all_goals
    frame_open
    simp (disch := decide) only [↓ View.readCov_skip, ↓ View.readCov_cons_toLoadRect, ↓ View.readCov_fill]
    frame_out
    rfl

end Cert.KernelIdeal.Attn

end
-- ==== Proof.DistWords.lean ====
/-
  The table of distances the host hands the kernel: its words, read as natural numbers.
-/
module

public import proofs.«01_k».proof.KernelIdeal

@[expose] public section

set_option maxRecDepth 16384

namespace Cert.KernelIdeal.Attn

open Idealize.ShloMosaic

/-- A word of thirty-two bits is the natural number `k`: the zero word, or a positive normal word whose significand times its
    power of two is `k`. -/
def isNat (w : BitVec 32) (k : ℕ) : Bool :=
  (w == 0#32 && k == 0)
    || ((w.extractLsb' 31 1 != 1#1) && ((w.extractLsb' 23 8).toNat != 255) && ((w.extractLsb' 23 8).toNat != 0)
      && ((2 ^ 23 + (w.extractLsb' 0 23).toNat) * 2 ^ (w.extractLsb' 23 8).toNat == k * 2 ^ 150))

/-- The table's words. -/
theorem lit0_isNat : ∀ r c : Fin 128, isNat (lit0 ⟨128 * r.val + c.val, by show _ < 16384; omega⟩) ((r.val + 128 - c.val) % 128) = true := by
  decide +kernel

end Cert.KernelIdeal.Attn
-- ==== Proof.Real.lean ====
/-
  Attention with a sink, over the real numbers: the mathematics both programs compute.

  A row's scores are extended reals, `⊥` where a key is masked; the probabilities, the gradients and their sums are reals.
-/
module

public import Idealize.ShloMosaic.PureOps.Ideal
public import Idealize.ShloMosaic.PureOps.Ideal.Laws

@[expose] public section

noncomputable section

namespace Cert.Attn

open Idealize.ShloMosaic

/-! ## A row's softmax with a sink -/

section Softmax

variable {ι : Type} [Fintype ι] (s : ι → EReal) (k : ℝ) (dp : ι → ℝ)

/-- The larger of a row's greatest score and the sink. -/
def peak : EReal := max (Finset.univ.sup s) (k : EReal)

/-- A score's weight. -/
def wt (i : ι) : ℝ := (Ideal.exp (s i - peak s k)).toReal

/-- The sink's weight. -/
def wtSink : ℝ := (Ideal.exp ((k : EReal) - peak s k)).toReal

/-- The sum of the weights. -/
def den : ℝ := (∑ i, wt s k i) + wtSink s k

/-- A key's probability. -/
def pr (i : ι) : ℝ := wt s k i / den s k

/-- The sink's probability. -/
def prSink : ℝ := wtSink s k / den s k

/-- The sum of the probabilities times their gradients. -/
def rd : ℝ := ∑ i, pr s k i * dp i

/-- The gradient of a score. -/
def dsc (i : ι) : ℝ := pr s k i * (dp i - rd s k dp)

variable {s}

/-- The peak is a number. -/
theorem peak_real (hs : ∀ i, s i ≠ ⊤) : ∃ x : ℝ, peak s k = (x : EReal) := by
  have htop : peak s k ≠ ⊤ := by
    have h : Finset.univ.sup s < ⊤ := (Finset.sup_lt_iff (by simp)).2 fun i _ => lt_top_iff_ne_top.2 (hs i)
    exact (max_lt h (EReal.coe_lt_top k)).ne
  have hbot : peak s k ≠ ⊥ := ((EReal.bot_lt_coe k).trans_le (le_max_right _ _)).ne'
  exact ⟨(peak s k).toReal, (EReal.coe_toReal htop hbot).symm⟩

/-- The exponential of what is not `⊤` is a number that is not negative. -/
theorem exp_real {x : EReal} (h : x ≠ ⊤) : ∃ y : ℝ, 0 ≤ y ∧ Ideal.exp x = (y : EReal) := by
  induction x using EReal.rec with
  | bot => exact ⟨0, le_rfl, rfl⟩
  | coe r => exact ⟨Real.exp r, (Real.exp_pos r).le, rfl⟩
  | top => exact absurd rfl h

/-- A score less the peak is not `⊤`. -/
theorem sub_peak_ne_top (hs : ∀ i, s i ≠ ⊤) (i : ι) : s i - peak s k ≠ ⊤ := by
  obtain ⟨x, hx⟩ := peak_real k hs
  rw [hx]
  have := hs i
  revert this
  induction s i using EReal.rec with
  | bot => intro _; simp
  | coe r => intro _; rw [← EReal.coe_sub]; exact EReal.coe_ne_top _
  | top => intro h; exact absurd rfl h

/-- The weight is the exponential. -/
theorem wt_coe (hs : ∀ i, s i ≠ ⊤) (i : ι) : Ideal.exp (s i - peak s k) = (wt s k i : EReal) := by
  obtain ⟨y, _, hy⟩ := exp_real (sub_peak_ne_top k hs i)
  rw [wt, hy, EReal.toReal_coe]

/-- A weight is not negative. -/
theorem wt_nonneg (hs : ∀ i, s i ≠ ⊤) (i : ι) : 0 ≤ wt s k i := by
  obtain ⟨y, h0, hy⟩ := exp_real (sub_peak_ne_top k hs i)
  rw [wt, hy, EReal.toReal_coe]; exact h0

/-- The sink's weight is the exponential. -/
theorem wtSink_coe (hs : ∀ i, s i ≠ ⊤) : Ideal.exp ((k : EReal) - peak s k) = (wtSink s k : EReal) := by
  obtain ⟨x, hx⟩ := peak_real k hs
  rw [wtSink, hx, ← EReal.coe_sub]; rfl

/-- The sink's weight is positive. -/
theorem wtSink_pos (hs : ∀ i, s i ≠ ⊤) : 0 < wtSink s k := by
  obtain ⟨x, hx⟩ := peak_real k hs
  rw [wtSink, hx, ← EReal.coe_sub]; exact Real.exp_pos _

/-- The sum of the weights is positive. -/
theorem den_pos (hs : ∀ i, s i ≠ ⊤) : 0 < den s k :=
  add_pos_of_nonneg_of_pos (Finset.sum_nonneg fun i _ => wt_nonneg k hs i) (wtSink_pos k hs)

/-- A masked key has no weight. -/
theorem wt_bot {i : ι} (h : s i = ⊥) : wt s k i = 0 := by
  rw [wt, h, EReal.bot_sub]; rfl

/-- A masked key has no probability. -/
theorem pr_bot {i : ι} (h : s i = ⊥) : pr s k i = 0 := by rw [pr, wt_bot k h, zero_div]

/-- A masked key's score has no gradient. -/
theorem dsc_bot {i : ι} (h : s i = ⊥) : dsc s k dp i = 0 := by rw [dsc, pr_bot k h, zero_mul]

/-- A finite sum of numbers is the sum of them as extended reals. -/
theorem coe_sum {κ : Type} (t : Finset κ) (f : κ → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The sum of the weights, as extended reals. -/
theorem den_coe (hs : ∀ i, s i ≠ ⊤) :
    (∑ i, Ideal.exp (s i - peak s k)) + Ideal.exp ((k : EReal) - peak s k) = (den s k : EReal) := by
  rw [den, EReal.coe_add, coe_sum, wtSink_coe k hs]
  simp only [wt_coe k hs]

/-- A quotient of numbers. -/
theorem div_real (x y : ℝ) (hy : y ≠ 0) : Ideal.div (x : EReal) (y : EReal) = ((x / y : ℝ) : EReal) := by
  rw [Ideal.div_coe hy, ← EReal.coe_mul]; congr 1; rw [mul_one_div]

/-- The sink's and the scores' gradients of a row add up to zero. -/
theorem sum_dsc (s : ι → EReal) (h : den s k ≠ 0) : -(-(prSink s k * rd s k dp)) + ∑ i, -dsc s k dp i = 0 := by
  have hp : (∑ i, pr s k i) + prSink s k = 1 := by
    unfold pr prSink
    rw [← Finset.sum_div, ← add_div]; exact div_self h
  have hs : ∑ i, -dsc s k dp i = -(rd s k dp) + (∑ i, pr s k i) * rd s k dp := by
    rw [Finset.sum_mul, rd, ← Finset.sum_neg_distrib, ← Finset.sum_add_distrib]
    refine Finset.sum_congr rfl fun i _ => ?_
    rw [dsc, rd]; ring
  rw [hs]
  linear_combination (rd s k dp) * hp

variable (s)

/-- Only a masked key's gradient may differ without changing the row's sum. -/
theorem rd_congr {dp' : ι → ℝ} (h : ∀ i, s i ≠ ⊥ → dp i = dp' i) : rd s k dp = rd s k dp' := by
  refine Finset.sum_congr rfl fun i _ => ?_
  by_cases hi : s i = ⊥
  · rw [pr_bot k hi, zero_mul, zero_mul]
  · rw [h i hi]

/-- Only a masked key's gradient may differ without changing the scores' gradients. -/
theorem dsc_congr {dp' : ι → ℝ} (h : ∀ i, s i ≠ ⊥ → dp i = dp' i) (i : ι) : dsc s k dp i = dsc s k dp' i := by
  by_cases hi : s i = ⊥
  · rw [dsc_bot k dp hi, dsc_bot k dp' hi]
  · rw [dsc, dsc, rd_congr s k dp h, h i hi]

end Softmax

/-! ## A window folded into one block -/

/-- The key a folded column stands for: of the block itself up to the row, of the block before after it. -/
def unfold (r c : Fin 128) : Fin 256 := if c.val ≤ r.val then ⟨c.val + 128, by omega⟩ else ⟨c.val, by omega⟩

/-- The row's window: the 128 keys up to its own. -/
def inWindow (r : Fin 128) (j : Fin 256) : Prop := r.val < j.val ∧ j.val ≤ r.val + 128

instance (r : Fin 128) (j : Fin 256) : Decidable (inWindow r j) := inferInstanceAs (Decidable (_ ∧ _))

/-- A folded column stands for a key of the window. -/
theorem inWindow_unfold (r c : Fin 128) : inWindow r (unfold r c) := by
  unfold inWindow unfold
  split <;> simp <;> omega

/-- The column a key of the window folds to. -/
def foldCol (j : Fin 256) : Fin 128 := if h : j.val < 128 then ⟨j.val, h⟩ else ⟨j.val - 128, by omega⟩

/-- Folding and unfolding a key of the window. -/
theorem unfold_foldCol (r : Fin 128) (j : Fin 256) (h : inWindow r j) : unfold r (foldCol j) = j := by
  unfold inWindow at h
  unfold unfold foldCol
  by_cases hj : j.val < 128
  · simp only [hj, dite_true]; rw [if_neg (by simp; omega)]
  · simp only [hj, dite_false]; rw [if_pos (by simp; omega)]; ext; simp; omega

/-- A sum over the folded columns is the sum over the band of what is zero outside the window. -/
theorem sum_unfold (r : Fin 128) (f : Fin 256 → ℝ) (hf : ∀ j, ¬ inWindow r j → f j = 0) :
    ∑ c, f (unfold r c) = ∑ j, f j := by
  have hsplit : ∑ j, f j = ∑ c : Fin 128, f (Fin.castAdd 128 c) + ∑ c : Fin 128, f (Fin.natAdd 128 c) :=
    Fin.sum_univ_add (a := 128) (b := 128) f
  rw [hsplit, ← Finset.sum_add_distrib]
  refine Finset.sum_congr rfl fun c _ => ?_
  by_cases hc : c.val ≤ r.val
  · rw [hf (Fin.castAdd 128 c) (fun h => by have := h.1; simp at this; omega), zero_add]
    congr 1; unfold unfold; rw [if_pos hc]; ext; simp
  · rw [hf (Fin.natAdd 128 c) (fun h => by have := h.2; simp at this; omega), add_zero]
    congr 1; unfold unfold; rw [if_neg hc]; ext; simp

variable (r : Fin 128) {s : Fin 256 → EReal} (k : ℝ)

/-- The greatest of the folded scores is the greatest of the band's. -/
theorem peak_unfold (hs : ∀ j, ¬ inWindow r j → s j = ⊥) : peak (fun c => s (unfold r c)) k = peak s k := by
  unfold peak
  congr 1
  refine le_antisymm (Finset.sup_le fun c _ => Finset.le_sup (f := s) (Finset.mem_univ _)) (Finset.sup_le fun j _ => ?_)
  by_cases hj : inWindow r j
  · rw [← unfold_foldCol r j hj]
    exact Finset.le_sup (f := fun c => s (unfold r c)) (Finset.mem_univ (foldCol j))
  · rw [hs j hj]; exact bot_le

/-- Weights of folded scores. -/
theorem wt_unfold (hs : ∀ j, ¬ inWindow r j → s j = ⊥) (c : Fin 128) :
    wt (fun c => s (unfold r c)) k c = wt s k (unfold r c) := by
  unfold wt; rw [peak_unfold r k hs]

/-- The sink's weight beside folded scores. -/
theorem wtSink_unfold (hs : ∀ j, ¬ inWindow r j → s j = ⊥) : wtSink (fun c => s (unfold r c)) k = wtSink s k := by
  unfold wtSink; rw [peak_unfold r k hs]

/-- The sum of the weights of folded scores. -/
theorem den_unfold (hs : ∀ j, ¬ inWindow r j → s j = ⊥) : den (fun c => s (unfold r c)) k = den s k := by
  unfold den
  rw [wtSink_unfold r k hs, ← sum_unfold r (wt s k) fun j hj => wt_bot k (hs j hj)]
  simp only [wt_unfold r k hs]

/-- Probabilities of folded scores. -/
theorem pr_unfold (hs : ∀ j, ¬ inWindow r j → s j = ⊥) (c : Fin 128) :
    pr (fun c => s (unfold r c)) k c = pr s k (unfold r c) := by
  unfold pr; rw [den_unfold r k hs, wt_unfold r k hs]

/-- The sink's probability beside folded scores. -/
theorem prSink_unfold (hs : ∀ j, ¬ inWindow r j → s j = ⊥) : prSink (fun c => s (unfold r c)) k = prSink s k := by
  unfold prSink; rw [den_unfold r k hs, wtSink_unfold r k hs]

/-- A row's sum of probabilities times gradients, folded. -/
theorem rd_unfold (hs : ∀ j, ¬ inWindow r j → s j = ⊥) (dp : Fin 256 → ℝ) :
    rd (fun c => s (unfold r c)) k (fun c => dp (unfold r c)) = rd s k dp := by
  unfold rd
  rw [← sum_unfold r _ fun j hj => by rw [pr_bot k (hs j hj), zero_mul]]
  simp only [pr_unfold r k hs]

/-- The gradients of folded scores. -/
theorem dsc_unfold (hs : ∀ j, ¬ inWindow r j → s j = ⊥) (dp : Fin 256 → ℝ) (c : Fin 128) :
    dsc (fun c => s (unfold r c)) k (fun c => dp (unfold r c)) c = dsc s k dp (unfold r c) := by
  unfold dsc; rw [rd_unfold r k hs, pr_unfold r k hs]

/-! ## One block of 128 rows -/

section Block

variable (later : Prop) [Decidable later] (slope : Fin 16 → ℝ) (q g : Fin 128 → Fin 1024 → ℝ) (kv : Fin 256 → Fin 256 → ℝ)
  (sk : Fin 16 → ℝ)

/-- A head's 64 lanes of a row. -/
def lane (h : Fin 16) (d : Fin 64) : Fin 1024 := ⟨64 * h.val + d.val, by omega⟩

/-- A head's keys' lanes. -/
def keyLane (h : Fin 16) (d : Fin 64) : Fin 256 := ⟨64 * (h.val / 8) + d.val, by omega⟩

/-- A head's values' lanes. -/
def valLane (h : Fin 16) (d : Fin 64) : Fin 256 := ⟨128 + 64 * (h.val / 8) + d.val, by omega⟩

/-- A key is seen by a row: it is in the window, and not before the sequence's start. -/
def seen (r : Fin 128) (j : Fin 256) : Prop := inWindow r j ∧ (later ∨ 128 ≤ j.val)

instance (r : Fin 128) (j : Fin 256) : Decidable (seen later r j) := inferInstanceAs (Decidable (_ ∧ _))

/-- The scores. -/
def sc (h : Fin 16) (r : Fin 128) (j : Fin 256) : EReal :=
  if seen later r j then
    (((∑ d, q r (lane h d) * kv j (keyLane h d)) * (1 / 8) - slope h * ((r.val : ℝ) + 128 - (j.val : ℝ)) : ℝ) : EReal)
  else ⊥

/-- The gradients of the probabilities. -/
def dpr (h : Fin 16) (r : Fin 128) (j : Fin 256) : ℝ := ∑ d, g r (lane h d) * kv j (valLane h d)

/-- The probabilities. -/
def prb (h : Fin 16) (r : Fin 128) (j : Fin 256) : ℝ := pr (sc later slope q kv h r) (sk h) j

/-- The gradients of the scores. -/
def dsb (h : Fin 16) (r : Fin 128) (j : Fin 256) : ℝ := dsc (sc later slope q kv h r) (sk h) (dpr g kv h r) j

/-- The head a query lane belongs to. -/
def headOfLane (l : Fin 1024) : Fin 16 := ⟨l.val / 64, by omega⟩

/-- The gradient of the queries. -/
def dqb (r : Fin 128) (l : Fin 1024) : ℝ :=
  (∑ j, dsb later slope q g kv sk (headOfLane l) r j * kv j (keyLane (headOfLane l) ⟨l.val % 64, by omega⟩)) * (1 / 8)

/-- The head that is the `n`-th of those reading lane `l` of the keys. -/
def headOfKey (l : Fin 128) (n : Fin 8) : Fin 16 := ⟨8 * (l.val / 64) + n.val, by omega⟩

/-- The gradient of the band's keys. -/
def dkb (j : Fin 256) (l : Fin 128) : ℝ :=
  ∑ n, ∑ r, dsb later slope q g kv sk (headOfKey l n) r j * (q r (lane (headOfKey l n) ⟨l.val % 64, by omega⟩) * (1 / 8))

/-- The gradient of the band's values. -/
def dvb (j : Fin 256) (l : Fin 128) : ℝ :=
  ∑ n, ∑ r, prb later slope q kv sk (headOfKey l n) r j * g r (lane (headOfKey l n) ⟨l.val % 64, by omega⟩)

/-- The gradient of the band's keys and values. -/
def dkvb (j : Fin 256) (l : Fin 256) : ℝ :=
  if h : l.val < 128 then dkb later slope q g kv sk j ⟨l.val, h⟩ else dvb later slope q g kv sk j ⟨l.val - 128, by omega⟩

/-- A block's part of the gradient of the sinks. -/
def dskb (h : Fin 16) : ℝ :=
  ∑ r, -(prSink (sc later slope q kv h r) (sk h) * rd (sc later slope q kv h r) (sk h) (dpr g kv h r))

/-- A score is not `⊤`. -/
theorem sc_ne_top (h : Fin 16) (r : Fin 128) (j : Fin 256) : sc later slope q kv h r j ≠ ⊤ := by
  unfold sc; split
  · exact EReal.coe_ne_top _
  · exact bot_ne_top

/-- A key not seen is masked. -/
theorem sc_bot (h : Fin 16) (r : Fin 128) (j : Fin 256) (hj : ¬ seen later r j) : sc later slope q kv h r j = ⊥ := if_neg hj

/-- A key outside the window is masked. -/
theorem sc_window (h : Fin 16) (r : Fin 128) (j : Fin 256) (hj : ¬ inWindow r j) : sc later slope q kv h r j = ⊥ :=
  sc_bot later slope q kv h r j fun h => hj h.1

/-- A key whose score is a number is seen. -/
theorem seen_of_sc (h : Fin 16) (r : Fin 128) (j : Fin 256) (hj : sc later slope q kv h r j ≠ ⊥) : seen later r j := by
  by_contra hn; exact hj (sc_bot later slope q kv h r j hn)

variable {kv} {kv' : Fin 256 → Fin 256 → ℝ}

/-- Only the keys of the sequence matter: what stands before its start changes no score. -/
theorem sc_congr (hkv : ∀ j, (later ∨ 128 ≤ j.val) → kv j = kv' j) (h : Fin 16) (r : Fin 128) :
    sc later slope q kv h r = sc later slope q kv' h r := by
  funext j
  unfold sc
  by_cases hj : seen later r j
  · rw [if_pos hj, if_pos hj, hkv j hj.2]
  · rw [if_neg hj, if_neg hj]

/-- … nor a probability's gradient where the score is a number. -/
theorem dpr_congr (hkv : ∀ j, (later ∨ 128 ≤ j.val) → kv j = kv' j) (h : Fin 16) (r : Fin 128) (j : Fin 256)
    (hj : sc later slope q kv' h r j ≠ ⊥) : dpr g kv h r j = dpr g kv' h r j := by
  unfold dpr; rw [hkv j (seen_of_sc later slope q kv' h r j hj).2]

/-- … nor a score's gradient. -/
theorem dsb_congr (hkv : ∀ j, (later ∨ 128 ≤ j.val) → kv j = kv' j) (h : Fin 16) (r : Fin 128) (j : Fin 256) :
    dsb later slope q g kv sk h r j = dsb later slope q g kv' sk h r j := by
  unfold dsb
  rw [sc_congr later slope q hkv]
  exact dsc_congr _ _ _ (dpr_congr later slope q g hkv h r) j

/-- … nor the gradient of the queries. -/
theorem dqb_congr (hkv : ∀ j, (later ∨ 128 ≤ j.val) → kv j = kv' j) :
    dqb later slope q g kv sk = dqb later slope q g kv' sk := by
  funext r l
  unfold dqb
  congr 1
  refine Finset.sum_congr rfl fun j _ => ?_
  rw [dsb_congr later slope q g sk hkv]
  by_cases hj : seen later r j
  · rw [hkv j hj.2]
  · unfold dsb; rw [dsc_bot _ _ (sc_bot later slope q kv' _ r j hj), zero_mul, zero_mul]

/-- … nor the gradient of the keys and values. -/
theorem dkvb_congr (hkv : ∀ j, (later ∨ 128 ≤ j.val) → kv j = kv' j) :
    dkvb later slope q g kv sk = dkvb later slope q g kv' sk := by
  funext j l
  unfold dkvb dkb dvb prb
  simp only [dsb_congr later slope q g sk hkv, sc_congr later slope q hkv]

/-- … nor the gradient of the sinks. -/
theorem dskb_congr (hkv : ∀ j, (later ∨ 128 ≤ j.val) → kv j = kv' j) :
    dskb later slope q g kv sk = dskb later slope q g kv' sk := by
  funext h
  unfold dskb
  refine Finset.sum_congr rfl fun r _ => ?_
  rw [sc_congr later slope q hkv, rd_congr _ _ _ (dpr_congr later slope q g hkv h r)]

end Block

end Cert.Attn

end
-- ==== Proof.KernelAt.lean ====
/-
  The kernel's block computation over the real numbers: each function of `Vocab.lean`, read at an index of arrays whose
  entries are numbers, is the function of `Real.lean` it stands for.
-/
module

public import proofs.«01_k».proof.Proof.Vocab
public import proofs.«01_k».proof.Proof.Real
public import Idealize.ShloMosaic.Lib.Pointwise
public import Idealize.ShloMosaic.Lib.WordCmp
public import Idealize.ShloMosaic.Lib.IdealHost

@[expose] public section

set_option maxRecDepth 16384

noncomputable section

namespace Cert.KernelIdeal.Attn

open Idealize.ShloMosaic Idealize.ShloMosaic.TcCoe Cert.Attn
open Cert.KernelIdeal Cert.KernelIdeal.Gen

/-! ## Masks -/

/-- The mask of a block's own keys. -/
theorem own_at (r c : Fin 128) : own (ix2 r c) = BitVec.ofBool (decide (c.val ≤ r.val)) := by
  pointwise [own]
  exact WordCmp.cmpi_sle_ofNat (by omega) (by omega)

/-- The mask of the lanes below 64. -/
theorem lowLanes_at (r l : Fin 128) : lowLanes (ix2 r l) = BitVec.ofBool (decide (l.val < 64)) := by
  pointwise [lowLanes]
  exact WordCmp.cmpi_slt_ofNat (by omega) (by omega)

/-- The mask of a head's lanes. -/
theorem lanesOf_at (up : Bool) (r l : Fin 128) : lanesOf up (ix2 r l) = BitVec.ofBool (decide (l.val < 64) != up) := by
  cases up
  · show lowLanes (ix2 r l) = _
    rw [lowLanes_at]; simp
  · show IntOp.xori (lowLanes (ix2 r l)) 1#1 = _
    rw [lowLanes_at]; by_cases h : l.val < 64 <;> simp [h] <;> rfl

/-! ## Words as numbers -/

/-- One eighth, as a word of sixteen bits. -/
theorem eighth_bf16 : Ideal.ofBits .bf16 0x3E00#16 = ((1 / 8 : ℝ) : EReal) := by
  simp [Ideal.ofBits, Ideal.ieee]; rw [← EReal.coe_mul]; congr 1; norm_num

/-- One eighth, as a word of thirty-two bits. -/
theorem eighth_f32 : Ideal.ofBits .f32 0x3E000000#32 = ((1 / 8 : ℝ) : EReal) := by
  simp [Ideal.ofBits, Ideal.ieee]; rw [← EReal.coe_mul]; congr 1; norm_num

/-- Minus infinity. -/
theorem neg_inf_f32 : Ideal.ofBits .f32 0xFF800000#32 = ⊥ := by
  simp [Ideal.ofBits, Ideal.ieee]

/-- The slopes as numbers. -/
def slope (h : Fin 16) : ℝ := (Ideal.ofBits .f32 (slopeWord h)).toReal

/-- A word that is no infinity and no NaN is a number. -/
theorem word_real (w : BitVec 32) (h : (w.extractLsb' 23 8).toNat ≠ 2 ^ 8 - 1) :
    Ideal.ofBits .f32 w = ((Ideal.ofBits .f32 w).toReal : EReal) := by
  unfold Ideal.ofBits Ideal.ieee
  simp only [h, if_false]
  split <;> exact (EReal.toReal_coe _).symm ▸ rfl

/-- A slope's word is its number. -/
theorem slope_coe (h : Fin 16) : Ideal.ofBits .f32 (slopeWord h) = (slope h : EReal) :=
  word_real _ (by revert h; decide)

/-! ## Bands and halves -/

/-- A sum over a pair's lanes with the other head's lanes zero is a sum over the head's 64 lanes. -/
theorem half_sum (up : Bool) (r : Fin 128) (F : Fin 128 → EReal) (f : Fin 128 → ℝ) (hF : ∀ l, F l = (f l : EReal)) :
    ∑ l, Scalar.select (lanesOf up (ix2 r l)) (F l) 0
      = ((∑ d : Fin 64, f ⟨64 * up.toNat + d.val, by cases up <;> simp <;> omega⟩ : ℝ) : EReal) := by
  have hlo : ∀ d : Fin 64, (Fin.castAdd 64 d).val < 64 := fun d => d.isLt
  have hhi : ∀ d : Fin 64, ¬ (Fin.natAdd 64 d).val < 64 := fun d => by simp
  have hsplit : ∀ G : Fin 128 → EReal, ∑ l, G l = ∑ d : Fin 64, G (Fin.castAdd 64 d) + ∑ d : Fin 64, G (Fin.natAdd 64 d) :=
    fun G => Fin.sum_univ_add (a := 64) (b := 64) G
  simp only [lanesOf_at, hF, Scalar.select_ofBool]
  rw [hsplit, coe_sum]
  cases up <;> simp only [hlo, hhi, decide_true, decide_false] <;> simp
  · exact Finset.sum_congr rfl fun d _ => by congr 2
  · exact Finset.sum_congr rfl fun d _ => by congr 2; ext; simp; omega

/-- A pair's lanes of an array. -/
theorem lanes_at (x : Vec Ideal S128x1024 .bf16) (p : Fin 8) (r l : Fin 128) :
    lanes x p (ix2 r l) = x (ix2 r ⟨128 * p.val + l.val, by omega⟩) := by
  pointwise [lanes]

/-- A band is the block before, then the block itself. -/
theorem band_at (u v : FVec Ideal S128x128 .bf16) (f : Fin 256 → Fin 128 → ℝ)
    (hu : ∀ r l : Fin 128, u (ix2 r l) = (f ⟨r.val, by omega⟩ l : EReal))
    (hv : ∀ r l : Fin 128, v (ix2 r l) = (f ⟨r.val + 128, by omega⟩ l : EReal)) (j : Fin 256) (l : Fin 128) :
    band u v (ix2 j l) = (f j l : EReal) := by
  pointwise [band]
  split
  · next h => rw [hu]
  · next h =>
    rw [hv]; congr 2; ext; simp; omega

/-- One kv head's 64 lanes stand in both halves. -/
theorem twice_at (second : Bool) (x : FVec Ideal S256x128 .bf16) (f : Fin 256 → Fin 128 → ℝ)
    (hx : ∀ j l, x (ix2 j l) = (f j l : EReal)) (j : Fin 256) (l : Fin 128) :
    twice second x (ix2 j l) = (f j ⟨64 * second.toNat + l.val % 64, by cases second <;> simp <;> omega⟩ : EReal) := by
  have hm : IntOp.cmpi .slt (BitVec.ofNat 32 l.val) 64#32 = BitVec.ofBool (decide (l.val < 64)) :=
    WordCmp.cmpi_slt_ofNat (by omega) (by omega)
  cases second
  · pointwise [twice, cond_false]
    rw [hm, Scalar.select_ofBool, hx, hx]
    by_cases h : l.val < 64
    · simp only [h, decide_true, if_true]; congr 2; ext; simp; omega
    · simp only [h, decide_false]; simp only [Bool.false_eq_true, if_false]; congr 2; ext; simp; omega
  · pointwise [twice, cond_true]
    rw [hm, Scalar.select_ofBool, hx, hx]
    by_cases h : l.val < 64
    · simp only [h, decide_true, if_true]; congr 2; ext; simp; omega
    · simp only [h, decide_false]; simp only [Bool.false_eq_true, if_false]; congr 2; ext; simp; omega

/-! ## A row's softmax -/

section Softmax

variable {s dp : FVec Ideal S128x128 .f32} {f : Fin 128 → Fin 128 → EReal} {k : ℝ} {df : Fin 128 → Fin 128 → ℝ}
variable (hs : ∀ r c, s (ix2 r c) = f r c) (ht : ∀ r c, f r c ≠ ⊤) (hdp : ∀ r c, dp (ix2 r c) = (df r c : EReal))

include hs in
/-- The row's peak. -/
theorem rowMax_at (r : Fin 128) : rowMax s (k : EReal) (ix2 r 0) = peak (f r) k := by
  pointwise [rowMax]
  simp only [hs, neg_inf_f32]
  rfl

include hs in
/-- A score's exponential. -/
theorem expo_at (r c : Fin 128) : expo s (k : EReal) (ix2 r c) = Ideal.exp (f r c - peak (f r) k) := by
  pointwise [expo, cols]
  rw [rowMax_at hs, hs]

include hs in
/-- The sink's exponential. -/
theorem expoSink_at (r : Fin 128) : expoSink s (k : EReal) (ix2 r 0) = Ideal.exp ((k : EReal) - peak (f r) k) := by
  pointwise [expoSink]
  rw [rowMax_at hs]

include hs ht in
/-- One over the row's denominator. -/
theorem inv_at (r : Fin 128) : inv s (k : EReal) (ix2 r 0) = ((1 / den (f r) k : ℝ) : EReal) := by
  pointwise [inv, rowSum]
  simp only [expo_at hs, expoSink_at hs]
  rw [den_coe k (ht r), ← EReal.coe_one, div_real _ _ (den_pos k (ht r)).ne']

include hs ht in
/-- A probability. -/
theorem prob_at (r c : Fin 128) : prob s (k : EReal) (ix2 r c) = (pr (f r) k c : EReal) := by
  pointwise [prob, cols]
  rw [expo_at hs, inv_at hs ht, wt_coe k (ht r), ← EReal.coe_mul, mul_one_div]; rfl

include hs ht in
/-- The sink's probability. -/
theorem probSink_at (r : Fin 128) : probSink s (k : EReal) (ix2 r 0) = (prSink (f r) k : EReal) := by
  pointwise [probSink]
  rw [expoSink_at hs, inv_at hs ht, wtSink_coe k (ht r), ← EReal.coe_mul, mul_one_div]; rfl

include hs ht hdp in
/-- A row's sum of probabilities times gradients. -/
theorem rowDot_at (r : Fin 128) : rowDot s (k : EReal) dp (ix2 r 0) = (rd (f r) k (df r) : EReal) := by
  pointwise [rowDot, rowSum]
  simp only [prob_at hs ht, hdp, ← EReal.coe_mul]
  rw [← coe_sum]; rfl

include hs ht hdp in
/-- A score's gradient. -/
theorem dscore_at (r c : Fin 128) : dscore s (k : EReal) dp (ix2 r c) = (dsc (f r) k (df r) c : EReal) := by
  pointwise [dscore, cols]
  rw [prob_at hs ht, rowDot_at hs ht hdp, hdp, ← EReal.coe_sub, ← EReal.coe_mul]; rfl

include hs ht hdp in
/-- A block's sum of the sink's gradients. -/
theorem sinkSum_at (c : Fin 128) : sinkSum s (k : EReal) dp (ix2 0 c)
    = ((∑ r, -(prSink (f r) k * rd (f r) k (df r)) : ℝ) : EReal) := by
  pointwise [sinkSum]
  simp only [probSink_at hs ht, rowDot_at hs ht hdp]
  rw [coe_sum]
  refine Finset.sum_congr rfl fun r _ => ?_
  rw [← neg_mul, EReal.coe_mul, EReal.coe_neg, zero_sub]

end Softmax

/-- A folded tile spread over the band: the tile at the window's keys, zero elsewhere. -/
theorem spread_at (x : FVec Ideal S128x128 .f32) (f : Fin 128 → Fin 256 → ℝ)
    (hx : ∀ r c, x (ix2 r c) = (f r (unfold r c) : EReal)) (hf : ∀ r j, ¬ inWindow r j → f r j = 0)
    (r : Fin 128) (j : Fin 256) : tile2 (spread x) (ix2 r j) = (f r j : EReal) := by
  pointwise [tile2, spread]
  simp only [own_at, Scalar.select_ofBool, hx]
  by_cases hj : j.val < 128
  · simp only [hj, dite_true]
    by_cases hc : j.val ≤ r.val
    · rw [hf r j (fun h => by have := h.1; omega)]; simp [hc]
    · simp only [hc, decide_false, Bool.false_eq_true, if_false]; congr 2; unfold unfold; rw [if_neg hc]
  · simp only [hj, dite_false]
    by_cases hc : j.val - 128 ≤ r.val
    · simp only [hc, decide_true, if_true]; congr 2; unfold unfold; rw [if_pos hc]; ext; simp; omega
    · rw [hf r j (fun h => by have := h.2; omega)]; simp [hc]

/-! ## A block's arrays -/

variable (later : Prop) [Decidable later] (q g : Fin 128 → Fin 1024 → ℝ) (kv : Fin 256 → Fin 256 → ℝ) (sk : Fin 16 → ℝ)

/-- The block's arrays hold these numbers. -/
structure Reads (first : BitVec 1) (x0 : Vec Ideal S128x1024 .bf16) (x1 x2 : Vec Ideal S128x256 .bf16)
    (x3 : Vec Ideal S128x1024 .bf16) (x4 : Vec Ideal S128x128 .f32) (x5 : Vec Ideal S16 .f32) : Prop where
  first : first = BitVec.ofBool (!decide later)
  q : ∀ r l, x0 (ix2 r l) = (q r l : EReal)
  own : ∀ r l, x1 (ix2 r l) = (kv ⟨r.val + 128, by omega⟩ l : EReal)
  before : ∀ r l, x2 (ix2 r l) = (kv ⟨r.val, by omega⟩ l : EReal)
  g : ∀ r l, x3 (ix2 r l) = (g r l : EReal)
  dist : ∀ r c : Fin 128, x4 (ix2 r c) = (((r.val + 128 - c.val) % 128 : ℕ) : ℝ)
  sink : ∀ h : Fin 16, x5 (ix1 h) = (sk h : EReal)

variable {later q g kv sk}
variable {first : BitVec 1} {x0 : Vec Ideal S128x1024 .bf16} {x1 x2 : Vec Ideal S128x256 .bf16}
  {x3 : Vec Ideal S128x1024 .bf16} {x4 : Vec Ideal S128x128 .f32} {x5 : Vec Ideal S16 .f32}
variable (R : Reads later q g kv sk first x0 x1 x2 x3 x4 x5)

include R

/-- The keys of the band. -/
theorem keys_at (h : Fin 16) (j : Fin 256) (l : Fin 128) :
    keys (kvOf h) x1 x2 (ix2 j l) = (kv j (keyLane h ⟨l.val % 64, by omega⟩) : EReal) := by
  rw [keys, twice_at (kvOf h) _ (fun j l => kv j ⟨l.val, by omega⟩)]
  · congr 3; simp only [kvOf]
    have := h.isLt
    rcases (by omega : h.val / 8 = 0 ∨ h.val / 8 = 1) with e | e <;> simp [e]
  · refine band_at _ _ _ (fun r l => ?_) (fun r l => ?_)
    · pointwise []; rw [R.before]
    · pointwise []; rw [R.own]

/-- The values of the band. -/
theorem vals_at (h : Fin 16) (j : Fin 256) (l : Fin 128) :
    vals (kvOf h) x1 x2 (ix2 j l) = (kv j (valLane h ⟨l.val % 64, by omega⟩) : EReal) := by
  rw [vals, twice_at (kvOf h) _ (fun j l => kv j ⟨128 + l.val, by omega⟩)]
  · congr 3; simp only [kvOf]
    have := h.isLt
    rcases (by omega : h.val / 8 = 0 ∨ h.val / 8 = 1) with e | e <;> simp [e] <;> omega
  · refine band_at _ _ _ (fun r l => ?_) (fun r l => ?_)
    · pointwise []; rw [R.before]
    · pointwise []; rw [R.own]

omit R in
/-- A head's half, as a number. -/
theorem hi_toNat (h : Fin 16) : (hi h).toNat = h.val % 2 := by
  simp only [hi]
  rcases (by omega : h.val % 2 = 0 ∨ h.val % 2 = 1) with e | e <;> simp [e]

omit R in
/-- The head's lanes of its pair, of an array. -/
theorem lane_eq (h : Fin 16) (d : Fin 64) (hlt : 128 * (pairOf h).val + (64 * (hi h).toNat + d.val) < 1024) :
    (⟨128 * (pairOf h).val + (64 * (hi h).toNat + d.val), hlt⟩ : Fin 1024) = lane h d := by
  ext; simp only [lane, pairOf, hi_toNat]; omega

omit R in
/-- What the folded keys are multiplied by: the sixty-four products of a head with a key or a value. -/
theorem dot_at (h : Fin 16) (r : Fin 128) (x : Vec Ideal S128x1024 .bf16) (e : ℝ) (b : FVec Ideal S256x128 .bf16)
    (f : Fin 1024 → ℝ) (hf : ∀ l, x (ix2 r l) = (f l : EReal)) (j : Fin 256) (v : Fin 64 → ℝ)
    (hv : ∀ l : Fin 128, b (ix2 j l) = (v ⟨l.val % 64, by omega⟩ : EReal)) :
    ∑ l, Scalar.select (lanesOf (hi h) (ix2 r l)) (lanes x (pairOf h) (ix2 r l) * (e : EReal) * b (ix2 j l)) 0
      = (((∑ d, f (lane h d) * v d) * e : ℝ) : EReal) := by
  rw [half_sum (hi h) r _ fun l => f ⟨128 * (pairOf h).val + l.val, by have := (pairOf h).isLt; omega⟩ * e * v ⟨l.val % 64, by omega⟩]
  · congr 1
    rw [Finset.sum_mul]
    refine Finset.sum_congr rfl fun d _ => ?_
    rw [lane_eq h d, mul_right_comm]
    congr 3
    ext; simp only [hi_toNat]; omega
  · intro l
    rw [lanes_at, hf, hv, ← EReal.coe_mul, ← EReal.coe_mul]

/-- A head's folded scores. -/
theorem score_at (h : Fin 16) (r c : Fin 128) :
    scoreH first x0 x1 x2 x4 h (ix2 r c) = sc later slope q kv h r (unfold r c) := by
  have hd := fun j => dot_at h r x0 (1 / 8) (keys (kvOf h) x1 x2) (q r) (R.q r) j (fun d => kv j (keyLane h d)) (keys_at R h j)
  pointwise [scoreH, tile, score, halfOf]
  simp only [eighth_bf16, neg_inf_f32, slope_coe, hd, own_at, R.dist, R.first, Scalar.select_ofBool]
  have hw : seen later r (unfold r c) ↔ (later ∨ c.val ≤ r.val) := by
    unfold seen
    refine ⟨fun hs => hs.2.imp_right fun h => ?_, fun hs => ⟨inWindow_unfold r c, hs.imp_right fun h => ?_⟩⟩
    · unfold unfold at h; split at h
      · assumption
      · simp at h; omega
    · unfold unfold; rw [if_pos h]; simp
  unfold sc
  simp only [hw]
  by_cases hc : c.val ≤ r.val
  · have e : (r.val + 128 - c.val) % 128 = r.val - c.val := by omega
    simp only [hc, decide_true, if_true, or_true, e]
    rw [← EReal.coe_mul, ← EReal.coe_sub]
    unfold unfold
    rw [if_pos hc, Nat.cast_sub hc]
    simp only [Nat.add_comm 128 c.val]
    refine congrArg Real.toEReal ?_
    push_cast
    ring
  · have e : (r.val + 128 - c.val) % 128 = r.val + 128 - c.val := by omega
    simp only [hc, decide_false, Bool.false_eq_true, if_false, or_false, e]
    by_cases hl : later
    · simp only [hl, decide_true, Bool.not_true, Bool.false_eq_true, if_false, if_true]
      rw [← EReal.coe_mul, ← EReal.coe_sub]
      unfold unfold
      rw [if_neg hc, Nat.cast_sub (by omega)]
      push_cast; rfl
    · simp only [hl, decide_false, Bool.not_false, if_true, if_false, EReal.bot_sub]

/-- A head's folded gradients of the probabilities. -/
theorem dprob_at (h : Fin 16) (r c : Fin 128) :
    dprobH x1 x2 x3 h (ix2 r c) = (dpr g kv h r (unfold r c) : EReal) := by
  have hd := fun j => dot_at h r x3 1 (vals (kvOf h) x1 x2) (g r) (R.g r) j (fun d => kv j (valLane h d)) (vals_at R h j)
  simp only [EReal.coe_one, mul_one] at hd
  pointwise [dprobH, tile, dprob, halfOf]
  simp only [hd, own_at, Scalar.select_ofBool, dpr, unfold]
  by_cases hc : c.val ≤ r.val <;> simp [hc, Nat.add_comm]

/-- A head's probabilities over the band. -/
theorem probH_at (h : Fin 16) (r : Fin 128) (j : Fin 256) :
    probH first x0 x1 x2 x4 x5 h (ix2 r j) = (prb later slope q kv sk h r j : EReal) := by
  have hsk : sinkH x5 h = (sk h : EReal) := by pointwise [sinkH]; exact R.sink h
  refine spread_at _ (prb later slope q kv sk h) (fun r c => ?_)
    (fun r j hj => pr_bot _ (sc_window later slope q kv h r j hj)) r j
  rw [hsk, prob_at (score_at R h) (fun r c => sc_ne_top later slope q kv h r (unfold r c))]
  rw [pr_unfold r _ (sc_window later slope q kv h r)]; rfl

/-- A head's gradients of the scores over the band. -/
theorem dscoreH_at (h : Fin 16) (r : Fin 128) (j : Fin 256) :
    dscoreH first x0 x1 x2 x3 x4 x5 h (ix2 r j) = (dsb later slope q g kv sk h r j : EReal) := by
  have hsk : sinkH x5 h = (sk h : EReal) := by pointwise [sinkH]; exact R.sink h
  refine spread_at _ (dsb later slope q g kv sk h) (fun r c => ?_)
    (fun r j hj => dsc_bot _ _ (sc_window later slope q kv h r j hj)) r j
  rw [hsk, dscore_at (score_at R h) (fun r c => sc_ne_top later slope q kv h r (unfold r c)) (dprob_at R h)]
  rw [dsc_unfold r _ (sc_window later slope q kv h r)]; rfl

/-- A head's part of the sinks' gradient. -/
theorem sinkSumH_at (h : Fin 16) (c : Fin 128) :
    sinkSum (scoreH first x0 x1 x2 x4 h) (sinkH x5 h) (dprobH x1 x2 x3 h) (ix2 0 c)
      = (dskb later slope q g kv sk h : EReal) := by
  have hsk : sinkH x5 h = (sk h : EReal) := by pointwise [sinkH]; exact R.sink h
  rw [hsk, sinkSum_at (score_at R h) (fun r c => sc_ne_top later slope q kv h r (unfold r c)) (dprob_at R h)]
  simp only [prSink_unfold _ _ (sc_window later slope q kv h _), rd_unfold _ _ (sc_window later slope q kv h _)]
  rfl

/-- A head's gradient of the queries, before the scale. -/
theorem dqH_at (h : Fin 16) (r l : Fin 128) : dqH first x0 x1 x2 x3 x4 x5 h (ix2 r l)
    = ((∑ j, dsb later slope q g kv sk h r j * kv j (keyLane h ⟨l.val % 64, by omega⟩) : ℝ) : EReal) := by
  pointwise [dqH]
  simp only [dscoreH_at R, keys_at R, ← EReal.coe_mul]
  rw [← coe_sum]

/-- A pair's gradient of the queries. -/
theorem dqPair_at (p : Fin 8) (r l : Fin 128) : dqPair first x0 x1 x2 x3 x4 x5 p (ix2 r l)
    = (dqb later slope q g kv sk r ⟨128 * p.val + l.val, by omega⟩ : EReal) := by
  pointwise [dqPair]
  simp only [dqH_at R, lowLanes_at, Scalar.select_ofBool, eighth_f32]
  have key : ∀ h : Fin 16, h = headOfLane ⟨128 * p.val + l.val, by omega⟩ →
      ((∑ j, dsb later slope q g kv sk h r j * kv j (keyLane h ⟨l.val % 64, by omega⟩) : ℝ) : EReal) * ((1 / 8 : ℝ) : EReal)
        = (dqb later slope q g kv sk r ⟨128 * p.val + l.val, by omega⟩ : EReal) := by
    intro h e
    rw [← EReal.coe_mul, dqb, ← e]
    congr 2
    refine Finset.sum_congr rfl fun j _ => ?_
    congr 3; ext; simp; omega
  by_cases hl : l.val < 64
  · simp only [hl, decide_true, if_true]
    exact key _ (by ext; simp [headOfLane]; omega)
  · simp only [hl, decide_false, Bool.false_eq_true, if_false]
    exact key _ (by ext; simp [headOfLane]; omega)

/-! ## The gradients of the keys and values -/

omit R in
/-- A head's rows of a transposed pair. -/
theorem halfT_at (up : Bool) (x : FVec Ideal S128x128 .bf16) (l r : Fin 128) :
    halfT up x (ix2 l r) = if decide (l.val < 64) != up then x (ix2 l r) else 0 := by
  have hm : IntOp.cmpi .slt (BitVec.ofNat 32 l.val) 64#32 = BitVec.ofBool (decide (l.val < 64)) :=
    WordCmp.cmpi_slt_ofNat (by omega) (by omega)
  cases up
  · pointwise [halfT, cond_false]
    rw [hm]
    by_cases h : l.val < 64 <;> simp [h] <;> rfl
  · pointwise [halfT, cond_true]
    rw [hm]
    by_cases h : l.val < 64 <;> simp [h] <;> rfl

omit R in
/-- A kv head's sum is the sum over its heads. -/
theorem sumTo_at (f : Fin 16 → FVec Ideal S128x256 .f32) (second : Bool) (l : Fin 128) (j : Fin 256) (n : ℕ) :
    sumTo f second n (ix2 l j) = ∑ i ∈ Finset.range n, f (headOf second i) (ix2 l j) := by
  induction n with
  | zero => pointwise [sumTo]; simp
  | succ n ih => rw [Finset.sum_range_succ, ← ih]; rfl

omit R in
/-- A kv head's gradient with its two halves added: each head's own sixty-four rows. -/
theorem folded_at (f : Fin 16 → FVec Ideal S128x256 .f32) (A : Fin 16 → Fin 64 → Fin 256 → ℝ)
    (hf : ∀ h l j, f h (ix2 l j) = ((if decide (l.val < 64) != hi h then A h ⟨l.val % 64, by omega⟩ j else 0 : ℝ) : EReal))
    (second : Bool) (j : Fin 256) (l : Fin 128) (hl : l.val / 64 = second.toNat) :
    folded (sumTo f second 8) (ix2 j l) = ((∑ n, A (headOfKey l n) ⟨l.val % 64, by omega⟩ j : ℝ) : EReal) := by
  pointwise [folded]
  rw [sumTo_at, sumTo_at, ← Finset.sum_add_distrib, Finset.sum_range, coe_sum]
  refine Finset.sum_congr rfl fun n _ => ?_
  have hh : headOf second n.val = headOfKey l n := by
    ext; simp only [headOf, headOfKey, hl]; cases second <;> simp <;> omega
  rw [hf, hf, ← EReal.coe_add, hh]
  refine congrArg Real.toEReal ?_
  have e : (l.val + 128 - 64) % 128 % 64 = l.val % 64 := by omega
  simp only [e]
  by_cases hlo : l.val < 64
  · have h2 : ¬ (l.val + 128 - 64) % 128 < 64 := by omega
    cases hi (headOfKey l n) <;> simp only [hlo, h2, decide_true, decide_false] <;> simp
  · have h2 : (l.val + 128 - 64) % 128 < 64 := by omega
    cases hi (headOfKey l n) <;> simp only [hlo, h2, decide_true, decide_false] <;> simp

omit R in
/-- Both kv heads' gradients side by side. -/
theorem bothKv_at (f : Fin 16 → FVec Ideal S128x256 .f32) (A : Fin 16 → Fin 64 → Fin 256 → ℝ)
    (hf : ∀ h l j, f h (ix2 l j) = ((if decide (l.val < 64) != hi h then A h ⟨l.val % 64, by omega⟩ j else 0 : ℝ) : EReal))
    (j : Fin 256) (l : Fin 128) :
    bothKv f (ix2 j l) = ((∑ n, A (headOfKey l n) ⟨l.val % 64, by omega⟩ j : ℝ) : EReal) := by
  have hm : IntOp.cmpi .slt (BitVec.ofNat 32 l.val) 64#32 = BitVec.ofBool (decide (l.val < 64)) :=
    WordCmp.cmpi_slt_ofNat (by omega) (by omega)
  pointwise [bothKv]
  rw [hm, Scalar.select_ofBool]
  by_cases h : l.val < 64
  · simp only [h, decide_true, if_true]
    exact folded_at f A hf false j l (by simp; omega)
  · simp only [h, decide_false, Bool.false_eq_true, if_false]
    exact folded_at f A hf true j l (by simp; omega)

omit R in
/-- A head's lanes of its pair, when the lane is the head's. -/
theorem lane_of_pair (h : Fin 16) (l : Fin 128) (hl : (decide (l.val < 64) != hi h) = true)
    (hlt : 128 * (pairOf h).val + l.val < 1024) :
    (⟨128 * (pairOf h).val + l.val, hlt⟩ : Fin 1024) = lane h ⟨l.val % 64, by omega⟩ := by
  have hn := hi_toNat h
  ext; simp only [lane, pairOf]
  by_cases h64 : l.val < 64
  · have : hi h = false := by simpa [h64] using hl
    rw [this] at hn; simp at hn; omega
  · have : hi h = true := by simpa [h64] using hl
    rw [this] at hn; simp at hn; omega

/-- What a head adds to its keys' gradient. -/
theorem dkH_at (h : Fin 16) (l : Fin 128) (j : Fin 256) : dkH first x0 x1 x2 x3 x4 x5 h (ix2 l j)
    = ((if decide (l.val < 64) != hi h then
        ∑ r, dsb later slope q g kv sk h r j * (q r (lane h ⟨l.val % 64, by omega⟩) * (1 / 8)) else 0 : ℝ) : EReal) := by
  pointwise [dkH]
  simp only [halfT_at]
  by_cases hl : (decide (l.val < 64) != hi h) = true
  · simp only [hl, if_true]
    rw [coe_sum]
    refine Finset.sum_congr rfl fun r _ => ?_
    pointwise []
    rw [lanes_at, R.q, lane_of_pair h l hl, dscoreH_at R, eighth_bf16, ← EReal.coe_mul, ← EReal.coe_mul, mul_comm]
  · simp [hl]

/-- What a head adds to its values' gradient. -/
theorem dvH_at (h : Fin 16) (l : Fin 128) (j : Fin 256) : dvH first x0 x1 x2 x3 x4 x5 h (ix2 l j)
    = ((if decide (l.val < 64) != hi h then
        ∑ r, prb later slope q kv sk h r j * g r (lane h ⟨l.val % 64, by omega⟩) else 0 : ℝ) : EReal) := by
  pointwise [dvH]
  simp only [halfT_at]
  by_cases hl : (decide (l.val < 64) != hi h) = true
  · simp only [hl, if_true]
    rw [coe_sum]
    refine Finset.sum_congr rfl fun r _ => ?_
    pointwise []
    rw [lanes_at, R.g, lane_of_pair h l hl, probH_at R, ← EReal.coe_mul, mul_comm]
  · simp [hl]

/-- The gradients of the band's keys and values. -/
theorem dkv_at (j l : Fin 256) :
    dkv first x0 x1 x2 x3 x4 x5 (ix2 j l) = (dkvb later slope q g kv sk j l : EReal) := by
  pointwise [dkv]
  unfold dkvb
  split
  · rw [bothKv_at _ (fun h d j => ∑ r, dsb later slope q g kv sk h r j * (q r (lane h d) * (1 / 8))) (dkH_at R)]; rfl
  · rw [bothKv_at _ (fun h d j => ∑ r, prb later slope q kv sk h r j * g r (lane h d)) (dvH_at R)]; rfl

/-- The first heads' parts of the sinks' gradient, each in its lane. -/
theorem dsinkTo_at (c : Fin 128) (n : ℕ) : dsinkTo first x0 x1 x2 x3 x4 x5 n (ix2 0 c)
    = ((∑ i ∈ Finset.range n, if c.val = i % 16 then dskb later slope q g kv sk ⟨i % 16, by omega⟩ else 0 : ℝ) : EReal) := by
  induction n with
  | zero => pointwise [dsinkTo]; simp
  | succ n ih =>
    rw [Finset.sum_range_succ, EReal.coe_add, ← ih]
    have hm : IntOp.cmpi .eq (BitVec.ofNat 32 c.val) (BitVec.ofNat 32 (n % 16)) = BitVec.ofBool (decide (c.val = n % 16)) :=
      WordCmp.cmpi_eq_ofNat (by omega) (by omega)
    pointwise [dsinkTo]
    rw [sinkSumH_at R, hm, Scalar.select_ofBool]
    congr 1
    by_cases h : c.val = n % 16 <;> simp [h]

/-- The sixteen heads' parts of the sinks' gradient. -/
theorem dsink_at (c : Fin 128) : dsinkTo first x0 x1 x2 x3 x4 x5 16 (ix2 0 c)
    = ((if h : c.val < 16 then dskb later slope q g kv sk ⟨c.val, h⟩ else 0 : ℝ) : EReal) := by
  rw [dsinkTo_at R]
  refine congrArg Real.toEReal ?_
  split
  · next h =>
    rw [Finset.sum_eq_single_of_mem c.val (Finset.mem_range.2 h)]
    · have e : c.val % 16 = c.val := by omega
      simp only [e, if_true]
    · intro i hi hne
      have := Finset.mem_range.1 hi
      rw [if_neg (by omega)]
  · next h =>
    refine Finset.sum_eq_zero fun i hi => ?_
    rw [if_neg (by omega)]

end Cert.KernelIdeal.Attn

end
-- ==== Proof.Dist.lean ====
/-
  The table of distances the host hands the kernel: entry (r, c) is the number (r − c) mod 128.
-/
module

public import proofs.«01_k».proof.Proof.DistWords
public import proofs.«01_k».proof.Proof.KernelAt

@[expose] public section

set_option maxRecDepth 16384

noncomputable section

namespace Cert.KernelIdeal.Attn

open Idealize.ShloMosaic

/-- What such a word stands for. -/
theorem ofBits_isNat {w : BitVec 32} {k : ℕ} (h : isNat w k = true) : Ideal.ofBits .f32 w = ((k : ℝ) : EReal) := by
  simp only [isNat, Bool.or_eq_true, Bool.and_eq_true, beq_iff_eq, bne_iff_ne] at h
  rcases h with ⟨rfl, rfl⟩ | ⟨⟨⟨hs, h255⟩, h0⟩, he⟩
  · simp [Ideal.ofBits, Ideal.ieee]
  · unfold Ideal.ofBits Ideal.ieee
    have h1 : ¬ (w.extractLsb' 23 8).toNat = 2 ^ 8 - 1 := by simpa using h255
    have hb : (w.extractLsb' (8 + 23) 1 == 1#1) = false := by simpa using hs
    simp only [h1, h0, if_false, hb]
    refine congrArg Real.toEReal ?_
    have hr : ((2 : ℝ) ^ 23 + ((w.extractLsb' 0 23).toNat : ℝ)) * 2 ^ (w.extractLsb' 23 8).toNat = k * 2 ^ 150 := by exact_mod_cast he
    have hz : (2 : ℝ) ^ (((w.extractLsb' 23 8).toNat : ℤ) - (2 ^ (8 - 1) - 1) - (23 : ℕ)) = 2 ^ (w.extractLsb' 23 8).toNat / 2 ^ 150 := by
      rw [show (((w.extractLsb' 23 8).toNat : ℤ) - (2 ^ (8 - 1) - 1) - (23 : ℕ)) = ((w.extractLsb' 23 8).toNat : ℤ) - (150 : ℕ) by norm_num; ring,
        zpow_sub₀ two_ne_zero, zpow_natCast, zpow_natCast]
    rw [hz]
    push_cast at hr ⊢
    norm_num at hr ⊢
    rw [← mul_div_assoc, hr]
    norm_num

end Cert.KernelIdeal.Attn
-- ==== Proof.Sequence.lean ====
/-
  The whole sequence cut into 64 blocks of 128 rows, over the real numbers: the rows a block reads, the band of keys and
  values before and in it, and the four gradients of the sequence put together from the blocks'.
-/
module

public import proofs.«01_k».proof.Proof.Real

@[expose] public section

noncomputable section

namespace Cert.Attn

variable (slope : Fin 16 → ℝ) (Q G : Fin 8192 → Fin 1024 → ℝ) (KV : Fin 8192 → Fin 256 → ℝ) (sk : Fin 16 → ℝ)

/-- Row `r` of block `n`. -/
def rowOf (n : Fin 64) (r : Fin 128) : Fin 8192 := ⟨128 * n.val + r.val, by omega⟩

/-- The block of a row. -/
def blockOf (r : Fin 8192) : Fin 64 := ⟨r.val / 128, by omega⟩

/-- A row's place in its block. -/
def placeOf (r : Fin 8192) : Fin 128 := ⟨r.val % 128, by omega⟩

/-- The band of block `n`: the 128 rows before the block, zeros where there are none, and the block's own 128. -/
def band (n : Fin 64) (j : Fin 256) (l : Fin 256) : ℝ :=
  if 128 * n.val + j.val < 128 then 0 else KV ⟨128 * n.val + j.val - 128, by omega⟩ l

/-- The band with the first block's own rows where no rows precede it. -/
def bandOwn (n : Fin 64) (j : Fin 256) (l : Fin 256) : ℝ :=
  if 128 * n.val + j.val < 128 then KV ⟨j.val, by omega⟩ l else KV ⟨128 * n.val + j.val - 128, by omega⟩ l

/-- The two bands agree on the keys of the sequence. -/
theorem band_eq (n : Fin 64) (j : Fin 256) (h : 0 < n.val ∨ 128 ≤ j.val) : bandOwn KV n j = band KV n j := by
  funext l
  unfold bandOwn band
  rw [if_neg (by omega), if_neg (by omega)]

/-- A row lies at its place in its block. -/
theorem rowOf_block (r : Fin 8192) : rowOf (blockOf r) (placeOf r) = r :=
  Fin.ext (Nat.div_add_mod r.val 128)

/-- The gradient of the queries. -/
def gradQ (r : Fin 8192) (l : Fin 1024) : ℝ :=
  dqb (0 < (blockOf r).val) slope (fun i => Q (rowOf (blockOf r) i)) (fun i => G (rowOf (blockOf r) i))
    (band KV (blockOf r)) sk (placeOf r) l

/-- What block `n` adds to the gradient of the keys and values of its band. -/
def gradBand (n : Fin 64) (j : Fin 256) (l : Fin 256) : ℝ :=
  dkvb (0 < n.val) slope (fun i => Q (rowOf n i)) (fun i => G (rowOf n i)) (band KV n) sk j l

/-- What each block adds to the gradient of its own keys and values. -/
def gradOwn (r : Fin 8192) (l : Fin 256) : ℝ :=
  gradBand slope Q G KV sk (blockOf r) ⟨128 + (placeOf r).val, by omega⟩ l

/-- What each block adds to the gradient of the keys and values before it. -/
def gradBefore (r : Fin 8192) (l : Fin 256) : ℝ :=
  gradBand slope Q G KV sk (blockOf r) ⟨(placeOf r).val, by omega⟩ l

/-- What block `n` adds to the gradient of the sinks. -/
def gradSinkOf (n : Fin 64) (h : Fin 16) : ℝ :=
  dskb (0 < n.val) slope (fun i => Q (rowOf n i)) (fun i => G (rowOf n i)) (band KV n) sk h

/-- The gradient of the sinks. -/
def gradSink (h : Fin 16) : ℝ := ∑ n, gradSinkOf slope Q G KV sk n h

end Cert.Attn
-- ==== Proof.Blocks.lean ====
/-
  The blocks the grid points read are the blocks of the sequence.
-/
module

public import proofs.«01_k».proof.Proof.Opened
public import proofs.«01_k».proof.Proof.Dist
public import proofs.«01_k».proof.Proof.Sequence
public import proofs.«01_k».proof.Proof.Gen.KernelIdeal.Value
public import Idealize.ShloMosaic.Lib.Claim

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen Cert.Attn

variable (m : (ℓ : Loc nD τ sig) → Buf (Elt Ideal) ℓ) (c : Dev nD)

/-- The block of the sequence a grid point works on. -/
def pointBlock (t : Fin cfg0.N) : Fin 64 := ⟨t.val, t.isLt⟩

/-- The four arguments hold real numbers. -/
structure Starts (Q G : Fin 8192 → Fin 1024 → ℝ) (KV : Fin 8192 → Fin 256 → ℝ) (sk : Fin 16 → ℝ) : Prop where
  q : ∀ r l, m ((c : Thread nD τ).loc main_arg0) (ix2 r l) = (Q r l : EReal)
  kv : ∀ r l, m ((c : Thread nD τ).loc main_arg1) (ix2 r l) = (KV r l : EReal)
  g : ∀ r l, m ((c : Thread nD τ).loc main_arg2) (ix2 r l) = (G r l : EReal)
  sink : ∀ h : Fin 16, m ((c : Thread nD τ).loc main_arg3) (ix2 (0 : Fin 1) h) = (sk h : EReal)

/-- The index maps. -/
theorem idx : ∀ t : Fin cfg0.N, win0_0.index t = ![t.val, 0] ∧ win0_1.index t = ![t.val, 0] ∧ win0_2.index t = ![t.val - 1, 0]
    ∧ win0_3.index t = ![t.val, 0] ∧ win0_4.index t = ![0, 0] ∧ win0_5.index t = ![0] ∧ win0_6.index t = ![t.val, 0]
    ∧ win0_7.index t = ![t.val, 0] ∧ win0_8.index t = ![t.val, 0] ∧ win0_9.index t = ![0, 0] :=
  (by decide +kernel : ∀ t : Fin grid0.N, _)

/-- The first point is the one whose block has no rows before it. -/
theorem firstBlock_eq : ∀ t : Fin cfg0.N, firstBlock t = BitVec.ofBool (!decide (0 < (pointBlock t).val)) :=
  (by decide +kernel : ∀ t : Fin grid0.N, firstBlock t = BitVec.ofBool (!decide (0 < t.val)))

variable {m c} {Q G : Fin 8192 → Fin 1024 → ℝ} {KV : Fin 8192 → Fin 256 → ℝ} {sk : Fin 16 → ℝ}

/-- Each block of queries. -/
theorem iblk0_at (t : Fin cfg0.N) (r : Fin 128) (l : Fin 1024) :
    iblk m c 0 t (ix2 r l) = m ((c : Thread nD τ).loc main_arg0) (ix2 (rowOf (pointBlock t) r) l) := by
  blk_ext! [iblk, V, idx t, rowOf, pointBlock]

/-- Each block of keys and values. -/
theorem iblk1_at (t : Fin cfg0.N) (r : Fin 128) (l : Fin 256) :
    iblk m c 1 t (ix2 r l) = m ((c : Thread nD τ).loc main_arg1) (ix2 (rowOf (pointBlock t) r) l) := by
  blk_ext! [iblk, V, idx t, rowOf, pointBlock]

/-- The block of keys and values before it. -/
theorem iblk2_at (t : Fin cfg0.N) (r : Fin 128) (l : Fin 256) :
    iblk m c 2 t (ix2 r l) = m ((c : Thread nD τ).loc main_arg1) (ix2 (⟨128 * (t.val - 1) + r.val, by have : t.val < 64 := t.isLt; omega⟩ : Fin 8192) l) := by
  blk_ext! [iblk, V, idx t]

/-- Each block of output gradients. -/
theorem iblk3_at (t : Fin cfg0.N) (r : Fin 128) (l : Fin 1024) :
    iblk m c 3 t (ix2 r l) = m ((c : Thread nD τ).loc main_arg2) (ix2 (rowOf (pointBlock t) r) l) := by
  blk_ext! [iblk, V, idx t, rowOf, pointBlock]

/-- The table of distances. -/
theorem iblk4_at (t : Fin cfg0.N) (r s : Fin 128) :
    iblk m c 4 t (ix2 r s) = ((((r.val + 128 - s.val) % 128 : ℕ) : ℝ) : EReal) := by
  refine Eq.trans ?_ (ofBits_isNat (lit0_isNat r s))
  have hV : V m c main_cst = fun i => Ideal.ofBits .f32 (lit0 (S128x128.rowMajor i)) := by
    entry_read; rfl
  have : iblk m c 4 t (ix2 r s) = V m c main_cst (ix2 r s) := by
    blk_ext [iblk, idx t]
  rw [this, hV]
  show Ideal.ofBits .f32 (lit0 _) = _
  congr 2
  apply Fin.ext
  rw [rowMajor_val2 (σ0 := 128) _ (by rfl)]
  simp [ix2, Nat.mul_comm]

/-- The sinks. -/
theorem iblk5_at (t : Fin cfg0.N) (h : Fin 16) :
    iblk m c 5 t (ix1 h) = m ((c : Thread nD τ).loc main_arg3) (ix2 (0 : Fin 1) h) := by
  blk_ext! [iblk, V, idx t]

/-- What a grid point reads. -/
theorem reads_at (S : Starts m c Q G KV sk) (t : Fin cfg0.N) :
    Reads (0 < (pointBlock t).val) (fun i => Q (rowOf (pointBlock t) i)) (fun i => G (rowOf (pointBlock t) i))
      (bandOwn KV (pointBlock t)) sk (firstBlock t) (iblk m c 0 t) (iblk m c 1 t) (iblk m c 2 t) (iblk m c 3 t)
      (iblk m c 4 t) (iblk m c 5 t) where
  first := firstBlock_eq t
  q r l := (iblk0_at t r l).trans (S.q _ _)
  own r l := by
    refine (iblk1_at t r l).trans ((S.kv _ _).trans ?_)
    refine congrArg Real.toEReal ?_
    simp only [bandOwn, rowOf]
    rw [if_neg (by omega)]
    congr 1
  before r l := by
    refine (iblk2_at t r l).trans ((S.kv _ _).trans ?_)
    refine congrArg Real.toEReal ?_
    have ht : t.val < 64 := t.isLt
    unfold bandOwn
    by_cases h : 128 * (pointBlock t).val + r.val < 128
    · rw [if_pos h]; congr 2; simp only [pointBlock] at h ⊢; omega
    · rw [if_neg h]; congr 2; simp only [pointBlock] at h ⊢; omega
  g r l := (iblk3_at t r l).trans (S.g _ _)
  dist r s := iblk4_at t r s
  sink h := (iblk5_at t h).trans (S.sink h)

end Cert.KernelIdeal.Attn
-- ==== Proof.KernelRun.lean ====
/-
  What the idealized kernel's four arrays hold when it has run: the gradients of `Sequence.lean`.
-/
module

public import proofs.«01_k».proof.Proof.Blocks

@[expose] public section

set_option maxRecDepth 16384

noncomputable section

namespace Cert.KernelIdeal.Attn

open Idealize.ShloMosaic Idealize.ShloMosaic.TcCoe Idealize.ShloMosaic.Tactic Idealize.SL.Sem
open Idealize.ShloMosaic.RefSig (ofTc)
open Cert.KernelIdeal Cert.KernelIdeal.Gen Cert.Attn

variable {m : (ℓ : Loc nD τ sig) → Buf (Elt Ideal) ℓ} {c : Dev nD}
variable {Q G : Fin 8192 → Fin 1024 → ℝ} {KV : Fin 8192 → Fin 256 → ℝ} {sk : Fin 16 → ℝ}

/-- What a point leaves, whichever point it is: its parts do not depend on what it found but for the sinks' sum. -/
theorem outs_eq (t : Fin cfg0.N) : ∃ before, outsAt0 m c t.val t.isLt = leaves m c t before := by
  by_cases h0 : t.val % 64 = 0
  · exact ⟨_, outs_A m c t h0⟩
  · exact ⟨_, outs_B m c t h0⟩

/-- The block of a row of block `n`. -/
theorem blockOf_rowOf (n : Fin 64) (r : Fin 128) : blockOf (rowOf n r) = n :=
  Fin.ext (by simp only [blockOf, rowOf]; omega)

/-- Its place. -/
theorem placeOf_rowOf (n : Fin 64) (r : Fin 128) : placeOf (rowOf n r) = r :=
  Fin.ext (by simp only [placeOf, rowOf]; omega)

/-- A pair's columns. -/
theorem pairRect_emb (p : Fin 8) (r l : Fin 128) : (pairRect p).emb (ix2 r l) = ix2 r (⟨128 * p.val + l.val, by omega⟩ : Fin 1024) := by
  funext a
  apply Fin.ext
  match a with
  | ⟨0, _⟩ => exact (ValueKit.rect_emb_unit_val _ _ _ _ _).trans (Nat.zero_add _)
  | ⟨1, _⟩ => exact ValueKit.rect_emb_unit_val _ _ _ _ _

/-- The block of query gradients a point leaves. -/
theorem dq_out (S : Starts m c Q G KV sk) (t : Fin cfg0.N) (r : Fin 128) (l : Fin 1024) :
    (outsAt0 m c t.val t.isLt).1 (ix2 r l) = (gradQ slope Q G KV sk (rowOf (pointBlock t) r) l : EReal) := by
  obtain ⟨before, e⟩ := outs_eq (m := m) (c := c) t
  rw [e]
  show View.canon _ (ix2 r l) = _
  refine View.canon_apply_of_pieces (Val := Elt Ideal) (e := .bf16)
    (fun y : S128x1024.Idx => ((gradQ slope Q G KV sk (rowOf (pointBlock t) (y 0)) (y 1) : ℝ) : EReal)) _ ?_ (ix2 r l) ?_
  · have key : ∀ p : Fin 8, ∀ x : (pairRect p).shape.Idx, (dqPieces m c t p).2 x
        = ((gradQ slope Q G KV sk (rowOf (pointBlock t) (((pairRect p).emb x) 0)) (((pairRect p).emb x) 1) : ℝ) : EReal) := by
      intro p x
      obtain ⟨a, b, rfl⟩ : ∃ a b : Fin 128, x = ix2 a b := ⟨x 0, x 1, by funext d; fin_cases d <;> rfl⟩
      rw [pairRect_emb]
      refine (dqPair_at (reads_at S t) p a b).trans (congrArg Real.toEReal ?_)
      show _ = gradQ slope Q G KV sk (rowOf (pointBlock t) a) _
      unfold gradQ
      rw [blockOf_rowOf, placeOf_rowOf, dqb_congr _ _ _ _ _ (Cert.Attn.band_eq KV (pointBlock t))]
      rfl
    intro q hq
    simp only [List.mem_cons, List.not_mem_nil, or_false] at hq
    rcases hq with rfl | rfl | rfl | rfl | rfl | rfl | rfl | rfl <;> exact key _
  · have hp : dqPieces m c t ⟨l.val / 128, by omega⟩ ∈ [dqPieces m c t 7, dqPieces m c t 6, dqPieces m c t 5, dqPieces m c t 4,
      dqPieces m c t 3, dqPieces m c t 2, dqPieces m c t 1, dqPieces m c t 0] := by
      have : ∀ p : Fin 8, dqPieces m c t p ∈ [dqPieces m c t 7, dqPieces m c t 6, dqPieces m c t 5, dqPieces m c t 4,
        dqPieces m c t 3, dqPieces m c t 2, dqPieces m c t 1, dqPieces m c t 0] := by
        intro p; fin_cases p <;> simp
      exact this _
    refine ⟨_, hp, ?_⟩
    have : ix2 r l = (pairRect ⟨l.val / 128, by omega⟩).emb (ix2 r (⟨l.val % 128, by omega⟩ : Fin 128)) := by
      rw [pairRect_emb]
      congr 1
      exact Fin.ext (by simp only []; omega)
    rw [this]
    exact LoadRect.idx_mem _ _

/-- The gradients of a point's band of keys and values. -/
theorem dkv_out (S : Starts m c Q G KV sk) (t : Fin cfg0.N) (j l : Fin 256) :
    dkvAt m c t (ix2 j l) = (gradBand slope Q G KV sk (pointBlock t) j l : EReal) := by
  refine (dkv_at (reads_at S t) j l).trans (congrArg Real.toEReal ?_)
  rw [gradBand, dkvb_congr _ _ _ _ _ (Cert.Attn.band_eq KV (pointBlock t))]

/-- The block of its own keys' and values' gradients a point leaves. -/
theorem own_out (S : Starts m c Q G KV sk) (t : Fin cfg0.N) (r : Fin 128) (l : Fin 256) :
    (outsAt0 m c t.val t.isLt).2.1 (ix2 r l) = (gradOwn slope Q G KV sk (rowOf (pointBlock t) r) l : EReal) := by
  obtain ⟨before, e⟩ := outs_eq (m := m) (c := c) t
  rw [e]
  show extractStridedSlice S128x256 ![128, 0] (dkvAt m c t) slices_S256x256_o128_0_S128x256 (ix2 r l) = _
  pointwise []
  refine Eq.trans ?_ ((dkv_out S t ⟨128 + r.val, by omega⟩ l).trans ?_)
  · rfl
  · simp only [gradOwn, blockOf_rowOf, placeOf_rowOf]

/-- The block of the gradients of the keys and values before it. -/
theorem before_out (S : Starts m c Q G KV sk) (t : Fin cfg0.N) (r : Fin 128) (l : Fin 256) :
    (outsAt0 m c t.val t.isLt).2.2.1 (ix2 r l) = (gradBefore slope Q G KV sk (rowOf (pointBlock t) r) l : EReal) := by
  obtain ⟨before, e⟩ := outs_eq (m := m) (c := c) t
  rw [e]
  show extractStridedSlice S128x256 ![0, 0] (dkvAt m c t) slices_S256x256_o0_0_S128x256 (ix2 r l) = _
  pointwise []
  refine Eq.trans ?_ ((dkv_out S t ⟨r.val, by omega⟩ l).trans ?_)
  · rfl
  · simp only [gradBefore, blockOf_rowOf, placeOf_rowOf]

/-- Entry `i` of a block's part of the sinks' gradient, zero past the sixteenth. -/
def sinkEntry (Q G : Fin 8192 → Fin 1024 → ℝ) (KV : Fin 8192 → Fin 256 → ℝ) (sk : Fin 16 → ℝ) (n : ℕ) (i : Fin 128) : ℝ :=
  if h : i.val < 16 then (if hn : n < 64 then gradSinkOf slope Q G KV sk ⟨n, hn⟩ ⟨i.val, h⟩ else 0) else 0

/-- A point's part of the sinks' gradient. -/
theorem dsink_out (S : Starts m c Q G KV sk) (t : Fin cfg0.N) (i : Fin 128) :
    dsinkAt m c t (ix2 0 i) = (sinkEntry Q G KV sk t.val i : EReal) := by
  refine (dsink_at (reads_at S t) i).trans (congrArg Real.toEReal ?_)
  rw [sinkEntry, dskb_congr _ _ _ _ _ (Cert.Attn.band_eq KV (pointBlock t))]
  have ht : t.val < 64 := t.isLt
  simp only [ht, dif_pos]
  rfl

/-- What has been summed after each point. -/
theorem sink_out (S : Starts m c Q G KV sk) (i : Fin 128) : ∀ (n : ℕ) (hn : n < cfg0.N),
    (outsAt0 m c n hn).2.2.2 (ix2 0 i) = ((∑ k ∈ Finset.range (n + 1), sinkEntry Q G KV sk k i : ℝ) : EReal)
  | 0, hn => by
      rw [outs_A m c ⟨0, hn⟩ rfl]
      show addf (shapeCast S1x128 (broadcast S1x128 (Scalar.ofBits .f32 0x00000000#32)) shapeCasts_S1x128_S1x128) (dsinkAt m c ⟨0, hn⟩) (ix2 0 i) = _
      rw [shapeCast_self]
      refine Eq.trans (congrArg (_ + ·) (dsink_out S ⟨0, hn⟩ i)) ?_
      pointwise []
      simp
  | n + 1, hn => by
      have ih := sink_out S i n (by omega)
      have hlt : n + 1 < 64 := hn
      rw [outs_B m c ⟨n + 1, hn⟩ (by simp only []; omega)]
      show addf (shapeCast S1x128 ((outsAt0 m c n _).2.2.2) shapeCasts_S1x128_S1x128) (dsinkAt m c ⟨n + 1, hn⟩) (ix2 0 i) = _
      rw [shapeCast_self]
      refine Eq.trans (congrArg₂ (· + ·) ih (dsink_out S ⟨n + 1, hn⟩ i)) ?_
      rw [Finset.sum_range_succ _ (n + 1)]
      exact (EReal.coe_add _ _).symm

/-- The array of query gradients. -/
theorem dq_final (S : Starts m c Q G KV sk) : (dats m 0 c).arrAt 6 cfg0.N
    = fun y => ((gradQ slope Q G KV sk (y 0) (y 1) : ℝ) : EReal) := by
  refine (dats m 0 c).arrAt_eq_of_covers 6 _ (by decide +kernel) fun t hf y => ?_
  obtain ⟨a, b, rfl⟩ : ∃ (a : Fin 128) (b : Fin 1024), y = ix2 a b := ⟨y 0, y 1, by funext d; fin_cases d <;> rfl⟩
  rw [after0_6]
  refine Eq.trans ?_ ((dq_out S t a b).trans ?_)
  · blk_simp
  · have e : (win0_6.blk t).view.emb (ix2 a b) = ix2 (rowOf (pointBlock t) a) b := by
      blk_ext [idx t, rowOf, pointBlock]
    show _ = ((gradQ slope Q G KV sk ((win0_6.blk t).view.emb (ix2 a b) 0) ((win0_6.blk t).view.emb (ix2 a b) 1) : ℝ) : EReal)
    rw [e]
    rfl

/-- The array of each block's own keys' and values' gradients. -/
theorem own_final (S : Starts m c Q G KV sk) : (dats m 0 c).arrAt 7 cfg0.N
    = fun y => ((gradOwn slope Q G KV sk (y 0) (y 1) : ℝ) : EReal) := by
  refine (dats m 0 c).arrAt_eq_of_covers 7 _ (by decide +kernel) fun t hf y => ?_
  obtain ⟨a, b, rfl⟩ : ∃ (a : Fin 128) (b : Fin 256), y = ix2 a b := ⟨y 0, y 1, by funext d; fin_cases d <;> rfl⟩
  rw [after0_7]
  refine Eq.trans ?_ ((own_out S t a b).trans ?_)
  · blk_simp
  · have e : (win0_7.blk t).view.emb (ix2 a b) = ix2 (rowOf (pointBlock t) a) b := by
      blk_ext [idx t, rowOf, pointBlock]
    show _ = ((gradOwn slope Q G KV sk ((win0_7.blk t).view.emb (ix2 a b) 0) ((win0_7.blk t).view.emb (ix2 a b) 1) : ℝ) : EReal)
    rw [e]
    rfl

/-- The array of the gradients of the keys and values before each block. -/
theorem before_final (S : Starts m c Q G KV sk) : (dats m 0 c).arrAt 8 cfg0.N
    = fun y => ((gradBefore slope Q G KV sk (y 0) (y 1) : ℝ) : EReal) := by
  refine (dats m 0 c).arrAt_eq_of_covers 8 _ (by decide +kernel) fun t hf y => ?_
  obtain ⟨a, b, rfl⟩ : ∃ (a : Fin 128) (b : Fin 256), y = ix2 a b := ⟨y 0, y 1, by funext d; fin_cases d <;> rfl⟩
  rw [after0_8]
  refine Eq.trans ?_ ((before_out S t a b).trans ?_)
  · blk_simp
  · have e : (win0_8.blk t).view.emb (ix2 a b) = ix2 (rowOf (pointBlock t) a) b := by
      blk_ext [idx t, rowOf, pointBlock]
    show _ = ((gradBefore slope Q G KV sk ((win0_8.blk t).view.emb (ix2 a b) 0) ((win0_8.blk t).view.emb (ix2 a b) 1) : ℝ) : EReal)
    rw [e]
    rfl

/-- The sum over the points is the sum over the blocks. -/
theorem sinkEntry_sum (i : Fin 128) : (∑ k ∈ Finset.range 64, sinkEntry Q G KV sk k i)
    = if h : i.val < 16 then gradSink slope Q G KV sk ⟨i.val, h⟩ else 0 := by
  rw [Finset.sum_range]
  split
  · next h =>
    unfold gradSink
    refine Finset.sum_congr rfl fun n _ => ?_
    rw [sinkEntry, dif_pos h, dif_pos n.isLt]
  · next h =>
    refine Finset.sum_eq_zero fun n _ => ?_
    rw [sinkEntry, dif_neg h]

/-- The last grid point. -/
def lastPoint : Fin cfg0.N := ⟨63, by decide⟩

/-- The array of the sinks' gradients. -/
theorem sink_final (S : Starts m c Q G KV sk) : (dats m 0 c).arrAt 9 cfg0.N
    = fun y => ((if h : (y 1).val < 16 then gradSink slope Q G KV sk ⟨(y 1).val, h⟩ else 0 : ℝ) : EReal) := by
  refine (dats m 0 c).arrAt_eq_of_after_last 9 lastPoint (by decide +kernel) _ fun j => ?_
  obtain ⟨a, i, rfl⟩ : ∃ (a : Fin 1) (i : Fin 128), j = ix2 a i := ⟨j 0, j 1, by funext d; fin_cases d <;> rfl⟩
  obtain rfl : a = 0 := Subsingleton.elim _ _
  blk_simp
  refine ((congrFun (after0_9 m c lastPoint) _).trans (sink_out S i 63 (by decide))).trans (congrArg Real.toEReal ?_)
  exact sinkEntry_sum i

/-- What the idealized kernel leaves. -/
theorem run_at (Q G : Dev nD → Fin 8192 → Fin 1024 → ℝ) (KV : Dev nD → Fin 8192 → Fin 256 → ℝ) (sk : Dev nD → Fin 16 → ℝ)
    (m : (ℓ : Loc nD τ sig) → Buf (Elt Ideal) ℓ) (ρ : Dev nD → PrngReg) (S : ∀ c, Starts m c (Q c) (G c) (KV c) (sk c)) :
    θ_run defs (onTc (τ := τ) (main (F := Ideal))) ⟨m, fun _ => 0, ρ⟩ fun r => ∀ c : Dev nD,
      (∀ i l, r.2.mem ((c.tc : Thread nD τ).loc main_v1_0) (ix2 i l) = (gradQ slope (Q c) (G c) (KV c) (sk c) i l : EReal))
      ∧ (∀ i l, r.2.mem ((c.tc : Thread nD τ).loc main_v1_1) (ix2 i l) = (gradOwn slope (Q c) (G c) (KV c) (sk c) i l : EReal))
      ∧ (∀ i l, r.2.mem ((c.tc : Thread nD τ).loc main_v1_2) (ix2 i l) = (gradBefore slope (Q c) (G c) (KV c) (sk c) i l : EReal))
      ∧ (∀ i : Fin 128, r.2.mem ((c.tc : Thread nD τ).loc main_v1_3) (ix2 0 i)
          = ((if h : i.val < 16 then gradSink slope (Q c) (G c) (KV c) (sk c) ⟨i.val, h⟩ else 0 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.KernelIdeal.Value.run_blocks m ρ)
  obtain ⟨h6, h7, h8, h9, hk⟩ := h c
  refine ⟨fun i l => ?_, fun i l => ?_, fun i l => ?_, fun i => ?_, hk⟩
  · rw [h6, dq_final (S c)]; rfl
  · rw [h7, own_final (S c)]; rfl
  · rw [h8, before_final (S c)]; rfl
  · rw [h9, sink_final (S c)]; rfl

end Cert.KernelIdeal.Attn
-- ==== Proof.ReferenceAt.lean ====
/-
  The reference over the real numbers: each value of its run, read at an index of arrays whose entries are numbers, is the
  function of `Real.lean` it stands for, and its four results are the gradients of `Sequence.lean`.
-/
module

public import proofs.«01_k».proof.Proof.KernelAt
public import proofs.«01_k».proof.Proof.Sequence
public import proofs.«01_k».proof.Proof.Gen.ReferenceIdeal.Run
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Attn

open Idealize.ShloMosaic Idealize.ShloMosaic.TcCoe Cert.Attn
open Cert.ReferenceIdeal Cert.ReferenceIdeal.Value
open Cert.KernelIdeal.Attn (eighth_f32 neg_inf_f32 word_real)

/-- The slopes as numbers. -/
def slope (h : Fin 16) : ℝ := (Ideal.ofBits .f32 (lit0 h)).toReal

/-- A slope's word is its number. -/
theorem slope_coe (h : Fin 16) : Ideal.ofBits .f32 (lit0 h) = (slope h : EReal) :=
  word_real _ (by revert h; decide)

variable (Q G : Fin 8192 → Fin 1024 → ℝ) (KV : Fin 8192 → Fin 256 → ℝ) (sk : Fin 16 → ℝ)

/-- The four arguments hold the given numbers. -/
structure Holds (V : Valuation τ sig (Elt Ideal)) : Prop where
  q : ∀ r l, V (Proc.devRef .tc main_arg0) (ix2 r l) = (Q r l : EReal)
  kv : ∀ r l, V (Proc.devRef .tc main_arg1) (ix2 r l) = (KV r l : EReal)
  g : ∀ r l, V (Proc.devRef .tc main_arg2) (ix2 r l) = (G r l : EReal)
  sink : ∀ h : Fin 16, V (Proc.devRef .tc main_arg3) (ix2 0 h) = (sk h : EReal)

variable {Q G KV sk} {V : Valuation τ sig (Elt Ideal)}

/-- The `p`-th head of the `k`-th group. -/
def head (k : Fin 2) (p : Fin 8) : Fin 16 := ⟨8 * k.val + p.val, by omega⟩

/-- A lane of a group's head among the 1024. -/
theorem lane_head (k : Fin 2) (p : Fin 8) (d : Fin 64) (h : k.val * 512 + p.val * 64 + d.val < 1024) :
    (⟨k.val * 512 + p.val * 64 + d.val, h⟩ : Fin 1024) = lane (head k p) d :=
  Fin.ext (by simp only [lane, head]; omega)

/-- A row of a block among all. -/
theorem row_eq (n : Fin 64) (r : Fin 128) (h : n.val * 128 + r.val < 8192) :
    (⟨n.val * 128 + r.val, h⟩ : Fin 8192) = rowOf n r :=
  Fin.ext (by simp only [rowOf]; omega)

/-- A row of the sequence in a block's band. -/
theorem band_of {n : Fin 64} {j l l' : Fin 256} {r : Fin 8192} (h : 128 ≤ 128 * n.val + j.val)
    (hr : r.val = 128 * n.val + j.val - 128) (hl : l'.val = l.val) : KV r l' = band KV n j l := by
  unfold band
  rw [if_neg (by omega), Fin.ext hl]
  exact congrFun (congrArg KV (Fin.ext hr)) l

variable (H : Holds Q G KV sk V)
include H

/-- The queries, by block, group, head and lane. -/
theorem q_at (n : Fin 64) (r : Fin 128) (k : Fin 2) (p : Fin 8) (d : Fin 64) :
    res_main_v10 V (ix5 n r k p d) = (Q (rowOf n r) (lane (head k p) d) : EReal) := by
  unfold res_main_v10; clean_types; pointwise
  exact (H.q _ _).trans (by rw [row_eq, lane_head])

/-- The band of keys. -/
theorem k_at (n : Fin 64) (j : Fin 256) (k : Fin 2) (d : Fin 64) (l : Fin 256) (hl : l.val = 64 * k.val + d.val) :
    res_main_v13 V (ix4 n j k d) = (band KV n j l : EReal) := by
  unfold res_main_v13 res_main_v5 res_main_v3 res_main_v1; clean_types; pointwise
  split_ifs with h1 h2
  · exact congrArg Real.toEReal (if_pos (by omega)).symm
  · exact (H.kv _ _).trans (congrArg Real.toEReal (band_of (by omega) (by dsimp only; omega) (by dsimp only; omega)))
  all_goals exact (H.kv _ _).trans (congrArg Real.toEReal (band_of (by omega) (by dsimp only; omega) (by dsimp only; omega)))

/-- The band of values. -/
theorem v_at (n : Fin 64) (j : Fin 256) (k : Fin 2) (d : Fin 64) (l : Fin 256) (hl : l.val = 128 + 64 * k.val + d.val) :
    res_main_v16 V (ix4 n j k d) = (band KV n j l : EReal) := by
  unfold res_main_v16 res_main_v5 res_main_v4 res_main_v1; clean_types; pointwise
  split_ifs with h1 h2
  · exact congrArg Real.toEReal (if_pos (by omega)).symm
  · exact (H.kv _ _).trans (congrArg Real.toEReal (band_of (by omega) (by dsimp only; omega) (by dsimp only; omega)))
  all_goals exact (H.kv _ _).trans (congrArg Real.toEReal (band_of (by omega) (by dsimp only; omega) (by dsimp only; omega)))

omit H in
/-- The distance of a key from its row, as a word. -/
theorem dist_word (r : Fin 128) (j : Fin 256) :
    (IntOp.subi (IntOp.addi (BitVec.ofNat 32 r.val) 128#32) (BitVec.ofNat 32 j.val)).toInt = (r.val : ℤ) + 128 - j.val := by
  show (BitVec.ofNat 32 r.val + 128#32 - BitVec.ofNat 32 j.val).toInt = _
  rw [BitVec.toInt_eq_toNat_cond]
  simp only [BitVec.toNat_sub, BitVec.toNat_add, BitVec.toNat_ofNat]
  omega

omit H in
/-- The row of a key in the sequence, as a word. -/
theorem key_word (n : Fin 64) (j : Fin 256) :
    (IntOp.addi (IntOp.subi (IntOp.muli (BitVec.ofNat 32 n.val) 128#32) 128#32) (BitVec.ofNat 32 j.val)).toInt
      = 128 * (n.val : ℤ) - 128 + j.val := by
  show (BitVec.ofNat 32 n.val * 128#32 - 128#32 + BitVec.ofNat 32 j.val).toInt = _
  rw [BitVec.toInt_eq_toNat_cond]
  simp only [BitVec.toNat_sub, BitVec.toNat_add, BitVec.toNat_mul, BitVec.toNat_ofNat]
  omega

omit H in
/-- The mask: the keys a row sees. -/
theorem mask_at (n : Fin 64) (k : Fin 2) (p : Fin 8) (r : Fin 128) (j : Fin 256) :
    res_main_v63_1 V (ix5 n k p r j) = BitVec.ofBool (decide (seen (0 < n.val) r j)) := by
  unfold res_main_v63_1 res_main_v29 res_main_v26; clean_types; pointwise
  have h1 := dist_word r j
  have h2 := key_word n j
  generalize IntOp.subi (IntOp.addi (BitVec.ofNat 32 r.val) 128#32) (BitVec.ofNat 32 j.val) = x at *
  generalize IntOp.addi (IntOp.subi (IntOp.muli (BitVec.ofNat 32 n.val) 128#32) 128#32) (BitVec.ofNat 32 j.val) = y at *
  have e : ∀ a b c : Bool, IntOp.andi (IntOp.andi (BitVec.ofBool a) (BitVec.ofBool b)) (BitVec.ofBool c) = BitVec.ofBool (a && b && c) := by
    decide
  refine (e _ _ _).trans (congrArg BitVec.ofBool (Bool.eq_iff_iff.2 ?_))
  simp only [Bool.and_eq_true, decide_eq_true_eq, BitVec.sle_iff_toInt_le, BitVec.slt_iff_toInt_lt, h1, h2, seen, inWindow]
  simp
  omega

/-- The masked scores. -/
theorem sc_at (n : Fin 64) (k : Fin 2) (p : Fin 8) (r : Fin 128) (j : Fin 256) :
    res_main_v63_0 V (ix5 n k p r j)
      = sc (0 < n.val) slope (fun i => Q (rowOf n i)) (band KV n) (head k p) r j := by
  unfold res_main_v63_0 res_main_v29 res_main_v26; clean_types; pointwise
  rw [mask_at, Scalar.select_ofBool]
  have hs : lit0 (S16.rowMajor (ix1 ⟨k.val * 8 + p.val, by omega⟩)) = lit0 (head k p) :=
    congrArg lit0 (Fin.ext ((rowMajor_val1 _).trans (by show k.val * 8 + p.val = 8 * k.val + p.val; omega)))
  have hd : (FloatOps.sitofp FTy.f32 (IntOp.subi (IntOp.addi (BitVec.ofNat 32 r.val) 128#32) (BitVec.ofNat 32 j.val)) : Ideal .f32)
      = (((r.val : ℝ) + 128 - (j.val : ℝ) : ℝ) : EReal) := by
    show (((IntOp.subi (IntOp.addi (BitVec.ofNat 32 r.val) 128#32) (BitVec.ofNat 32 j.val)).toInt : ℝ) : EReal) = _
    rw [dist_word]; push_cast; rfl
  unfold sc
  simp only [decide_eq_true_eq]
  split_ifs with hj
  · rw [hs, hd, slope_coe, eighth_f32]
    simp only [q_at H, fun d => k_at H n j k d (keyLane (head k p) d) (by simp only [keyLane, head]; omega)]
    simp only [← EReal.coe_mul, ← coe_sum, ← EReal.coe_sub]
    refine congrArg Real.toEReal ?_
    simp only [mul_comm]
  · exact neg_inf_f32

/-- A row's masked scores. -/
abbrev scores (Q : Fin 8192 → Fin 1024 → ℝ) (KV : Fin 8192 → Fin 256 → ℝ) (n : Fin 64) (h : Fin 16) (r : Fin 128) : Fin 256 → EReal :=
  sc (0 < n.val) slope (fun i => Q (rowOf n i)) (band KV n) h r

/-- The gradients of a row's probabilities. -/
abbrev dprobs (G : Fin 8192 → Fin 1024 → ℝ) (KV : Fin 8192 → Fin 256 → ℝ) (n : Fin 64) (h : Fin 16) (r : Fin 128) : Fin 256 → ℝ :=
  dpr (fun i => G (rowOf n i)) (band KV n) h r

omit H in
/-- No score is `⊤`. -/
theorem scores_ne_top (n : Fin 64) (h : Fin 16) (r : Fin 128) (j : Fin 256) : scores Q KV n h r j ≠ ⊤ :=
  sc_ne_top _ _ _ _ _ _ _

/-- A sink. -/
theorem sink_at (k : Fin 2) (p : Fin 8) : res_main_v73 V (ix5 0 k p 0 0) = (sk (head k p) : EReal) := by
  unfold res_main_v73 res_main_v65; clean_types; pointwise
  refine (H.sink _).trans (congrArg (fun h => (sk h : EReal)) (Fin.ext ?_))
  dsimp only [head]; omega

/-- A row's greatest score. -/
theorem top_at (n : Fin 64) (k : Fin 2) (p : Fin 8) (r : Fin 128) :
    res_main_v66 V (ix4 n k p r) = Finset.univ.sup (scores Q KV n (head k p) r) := by
  unfold res_main_v66; clean_types; pointwise
  simp only [sc_at H, neg_inf_f32]
  rfl

/-- A row's greatest score, as a column. -/
theorem top_col (n : Fin 64) (k : Fin 2) (p : Fin 8) (r : Fin 128) :
    res_main_v72 V (ix5 n k p r 0) = Finset.univ.sup (scores Q KV n (head k p) r) := by
  unfold res_main_v72; clean_types; pointwise
  exact top_at H n k p r

end Cert.ReferenceIdeal.Attn
-- ==== Proof.ReferenceRows.lean ====
/-
  The reference's softmax and its gradient over the real numbers, row by row.
-/
module

public import proofs.«01_k».proof.Proof.ReferenceAt
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Attn

open Idealize.ShloMosaic Idealize.ShloMosaic.TcCoe Cert.Attn
open Cert.ReferenceIdeal Cert.ReferenceIdeal.Value
open Cert.KernelIdeal.Attn (eighth_f32 neg_inf_f32 word_real)

variable {Q G : Fin 8192 → Fin 1024 → ℝ} {KV : Fin 8192 → Fin 256 → ℝ} {sk : Fin 16 → ℝ} {V : Valuation τ sig (Elt Ideal)}
/-- The greater of two arrays, at an index. -/
theorem maximumf_at {s : Shape} (x y : FVec Ideal s .f32) (i : s.Idx) : maximumf x y i = max (x i) (y i) := rfl

/-- A sink, the same for every row. -/
theorem sinkRows_at (y : FVec Ideal S1x2x8x1x1 .f32) (n : Fin 64) (k : Fin 2) (p : Fin 8) (r : Fin 128) :
    broadcastInDim S64x2x8x128x1 ![0, 1, 2, 3, 4] Gen.bcast_S1x2x8x1x1_S64x2x8x128x1_0_1_2_3_4 y (ix5 n k p r 0) = y (ix5 0 k p 0 0) := by
  pointwise

/-- The greater of a column and the sinks. -/
theorem max_at (x : FVec Ideal S64x2x8x128x1 .f32) (y : FVec Ideal S1x2x8x1x1 .f32) (n : Fin 64) (k : Fin 2) (p : Fin 8) (r : Fin 128) :
    maximumf x (broadcastInDim S64x2x8x128x1 ![0, 1, 2, 3, 4] Gen.bcast_S1x2x8x1x1_S64x2x8x128x1_0_1_2_3_4 y) (ix5 n k p r 0)
      = max (x (ix5 n k p r 0)) (y (ix5 0 k p 0 0)) :=
  (maximumf_at _ _ _).trans (congrArg (max (x (ix5 n k p r 0))) (sinkRows_at y n k p r))

variable (H : Holds Q G KV sk V)
include H

/-- The larger of a row's greatest score and the sink. -/
theorem peak_at (n : Fin 64) (k : Fin 2) (p : Fin 8) (r : Fin 128) :
    res_main_v75 V (ix5 n k p r 0) = peak (scores Q KV n (head k p) r) (sk (head k p)) := by
  exact (max_at (res_main_v72 V) (res_main_v73 V) n k p r).trans (congrArg₂ max (top_col H n k p r) (sink_at H k p))

/-- The weights. -/
theorem wt_at (n : Fin 64) (k : Fin 2) (p : Fin 8) (r : Fin 128) (j : Fin 256) :
    res_main_v96 V (ix5 n k p r j) = (wt (scores Q KV n (head k p) r) (sk (head k p)) j : EReal) := by
  unfold res_main_v96; clean_types; pointwise
  rw [sc_at H, peak_at H]
  exact wt_coe _ (scores_ne_top n _ r) j

/-- The sink's weight. -/
theorem wtSink_at (n : Fin 64) (k : Fin 2) (p : Fin 8) (r : Fin 128) :
    res_main_v102 V (ix5 n k p r 0) = (wtSink (scores Q KV n (head k p) r) (sk (head k p)) : EReal) := by
  have hs := sink_at H k p
  unfold res_main_v73 at hs
  unfold res_main_v102; clean_types; pointwise
  revert hs; clean_types; pointwise; intro hs
  rw [hs, peak_at H]
  exact wtSink_coe _ (scores_ne_top n _ r)

/-- The sum of the weights. -/
theorem den_at (n : Fin 64) (k : Fin 2) (p : Fin 8) (r : Fin 128) :
    res_main_v103 V (ix5 n k p r 0) = (den (scores Q KV n (head k p) r) (sk (head k p)) : EReal) := by
  unfold res_main_v103; clean_types; pointwise
  simp only [wt_at H, wtSink_at H]
  rw [den, EReal.coe_add, coe_sum]

omit H in
/-- The sum of the weights is not zero. -/
theorem den_ne (n : Fin 64) (h : Fin 16) (r : Fin 128) : den (scores Q KV n h r) (sk h) ≠ 0 :=
  (den_pos _ (scores_ne_top n h r)).ne'

/-- The probabilities. -/
theorem pr_at (n : Fin 64) (k : Fin 2) (p : Fin 8) (r : Fin 128) (j : Fin 256) :
    res_main_v105 V (ix5 n k p r j) = (pr (scores Q KV n (head k p) r) (sk (head k p)) j : EReal) := by
  unfold res_main_v105; clean_types; pointwise
  rw [wt_at H, den_at H, div_real _ _ (den_ne n _ r)]
  rfl

/-- The gradients of the attention's output, by block, group, head and lane. -/
theorem g_at (n : Fin 64) (k : Fin 2) (d : Fin 64) (p : Fin 8) (r : Fin 128) :
    res_main_v113 V (ix5 n k d p r) = (G (rowOf n r) (lane (head k p) d) : EReal) := by
  unfold res_main_v113; clean_types; pointwise
  exact (H.g _ _).trans (by rw [row_eq, lane_head])

/-- The gradients of the probabilities. -/
theorem dpr_at (n : Fin 64) (k : Fin 2) (p : Fin 8) (r : Fin 128) (j : Fin 256) :
    res_main_v114 V (ix5 n k p r j) = (dprobs G KV n (head k p) r j : EReal) := by
  unfold res_main_v114; clean_types; pointwise
  simp only [g_at H, fun d => v_at H n j k d (valLane (head k p) d) (by simp only [valLane, head]; omega), ← EReal.coe_mul, ← coe_sum]
  rfl

/-- Minus a row's sum of probabilities times gradients, over the sum of the weights. -/
theorem negRd_at (n : Fin 64) (k : Fin 2) (p : Fin 8) (r : Fin 128) :
    res_main_v122 V (ix5 n k p r 0)
      = ((-(rd (scores Q KV n (head k p) r) (sk (head k p)) (dprobs G KV n (head k p) r) / den (scores Q KV n (head k p) r) (sk (head k p))) : ℝ) : EReal) := by
  unfold res_main_v122; clean_types; pointwise
  have h := den_ne (Q := Q) (KV := KV) (sk := sk) n (head k p) r
  simp only [dpr_at H, wt_at H, den_at H, ← EReal.coe_mul, ← EReal.coe_one, div_real _ _ (mul_ne_zero h h), ← coe_sum, ← EReal.coe_neg]
  refine congrArg Real.toEReal (congrArg Neg.neg ?_)
  rw [rd, Finset.sum_div]
  refine Finset.sum_congr rfl fun j _ => ?_
  rw [pr]; field_simp

/-- A row's part of the gradient of its sink. -/
theorem dsink_at (n : Fin 64) (k : Fin 2) (p : Fin 8) (r : Fin 128) :
    res_main_v125 V (ix5 n k p r 0)
      = ((-(prSink (scores Q KV n (head k p) r) (sk (head k p)) * rd (scores Q KV n (head k p) r) (sk (head k p)) (dprobs G KV n (head k p) r)) : ℝ) : EReal) := by
  unfold res_main_v125; clean_types; pointwise
  rw [negRd_at H, wtSink_at H, ← EReal.coe_mul]
  refine congrArg Real.toEReal ?_
  rw [prSink]; ring

/-- The gradients of the scores. -/
theorem dsc_at (n : Fin 64) (k : Fin 2) (p : Fin 8) (r : Fin 128) (j : Fin 256) :
    res_main_v134 V (ix5 n k p r j)
      = (dsc (scores Q KV n (head k p) r) (sk (head k p)) (dprobs G KV n (head k p) r) j : EReal) := by
  unfold res_main_v134; clean_types; pointwise
  have h := den_ne (Q := Q) (KV := KV) (sk := sk) n (head k p) r
  simp only [Finset.univ_unique, Finset.sum_singleton, Fin.default_eq_zero]
  rw [dpr_at H, negRd_at H, wt_at H, den_at H, div_real _ _ h, ← EReal.coe_add, ← EReal.coe_mul]
  refine congrArg Real.toEReal ?_
  rw [dsc, pr]; ring

/-- The gradient of a row's greatest score is zero. -/
theorem dpeak_at (n : Fin 64) (k : Fin 2) (p : Fin 8) (r : Fin 128) : res_main_v138 V (ix5 n k p r 0) = ((0 : ℝ) : EReal) := by
  unfold res_main_v138; clean_types; pointwise
  simp only [dsink_at H, dsc_at H, ← EReal.coe_neg, ← coe_sum, ← EReal.coe_add]
  refine congrArg Real.toEReal ?_
  exact sum_dsc _ _ _ (den_ne n _ r)

end Cert.ReferenceIdeal.Attn
-- ==== Proof.ReferenceGrad.lean ====
/-
  The reference's four results over the real numbers: they are the gradients of `Sequence.lean`.
-/
module

public import proofs.«01_k».proof.Proof.ReferenceRows
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Attn

open Idealize.ShloMosaic Idealize.ShloMosaic.TcCoe Cert.Attn
open Cert.ReferenceIdeal Cert.ReferenceIdeal.Value
open Cert.KernelIdeal.Attn (eighth_f32 neg_inf_f32 word_real)

variable {Q G : Fin 8192 → Fin 1024 → ℝ} {KV : Fin 8192 → Fin 256 → ℝ} {sk : Fin 16 → ℝ} {V : Valuation τ sig (Elt Ideal)}
/-- The gradient of a row's greatest score, shared among the keys that reach it, is zero, since it is zero itself. -/
theorem ties_zero (c : Fin 1 → EReal) (t : Fin 256 → ℝ) (ht : ∀ j, 0 ≤ t j) (j : Fin 256) :
    Ideal.div (∑ x, ((0 : ℝ) : EReal) * c x) (∑ x, (t x : EReal)) * (t j : EReal) = 0 := by
  by_cases h : t j = 0
  · rw [h, EReal.coe_zero, mul_zero]
  · have hp : 0 < ∑ x, t x :=
      lt_of_lt_of_le (lt_of_le_of_ne (ht j) (Ne.symm h)) (Finset.single_le_sum (f := t) (fun i _ => ht i) (Finset.mem_univ j))
    simp only [EReal.coe_zero, zero_mul, Finset.sum_const_zero]
    rw [← coe_sum, ← EReal.coe_zero, div_real _ _ hp.ne', zero_div, ← EReal.coe_mul, zero_mul]

/-- The gradient of the scores before the mask and the scale, from its parts: a row's own, and the share of the greatest score. -/
theorem dsTerm_at (M : IVec S64x2x8x128x256 1) (a e : FVec Ideal S64x2x8x128x256 .f32) (b W : FVec Ideal S64x2x8x128x1 .f32)
    (n : Fin 64) (k : Fin 2) (p : Fin 8) (r : Fin 128) (j : Fin 256) :
    (transpose S64x2x256x128x8 [0, 1, 4, 3, 2] (mulf (select M (addf a (mulf (broadcastInDim S64x2x8x128x256 ![0, 1, 2, 3] Gen.bcast_S64x2x8x128_S64x2x8x128x256_0_1_2_3 (Host.divf (Host.reduceAdd (mulf b W) (constant S_ .f32 0x00000000#32) Gen.reducesTo_S64x2x8x128x1_S64x2x8x128_d4 Gen.h_S_) (Host.reduceAdd e (constant S_ .f32 0x00000000#32) Gen.reducesTo_S64x2x8x128x256_S64x2x8x128_d4 Gen.h_S_))) e)) (broadcastInDim S64x2x8x128x256 ![] Gen.bcast_S_S64x2x8x128x256 (constant S_ .f32 0x00000000#32))) (broadcastInDim S64x2x8x128x256 ![] Gen.bcast_S_S64x2x8x128x256 (constant S_ .f32 0x3E000000#32))) Gen.transposes_S64x2x8x128x256_S64x2x256x128x8_0_1_4_3_2) (ix5 n k j r p)
      = Scalar.select (M (ix5 n k p r j))
          (a (ix5 n k p r j) + Ideal.div (∑ x, b (ix5 n k p r x) * W (ix5 n k p r x)) (∑ x, e (ix5 n k p r x)) * e (ix5 n k p r j)) 0
        * Ideal.ofBits .f32 0x3E000000#32 := by
  pointwise

/-- A sum over the blocks and their rows. -/
theorem sumRows_at (a : FVec Ideal S64x2x8x128x1 .f32) (k : Fin 2) (p : Fin 8) (x : Fin 1) :
    Ideal.hostReduceAdd Gen.reducesTo_S64x2x8x128x1_S2x8x1_d0_3 a 0 (ix3 k p x) = ∑ n, ∑ r, a (ix5 n k p r 0) := by
  refine (zero_add _).trans ((Finset.sum_filter_eq_sum_of_fiber _ (fun e : Fin 64 × Fin 128 => ix5 e.1 k p e.2 (0 : Fin 1))
    (fun _ _ e => Prod.ext (congrFun e 0) (congrFun e 3)) (fun i => ?_) a).trans (by simp only [Fintype.sum_prod_type]))
  constructor
  · intro e
    refine ⟨(i 0, i 3), ?_⟩
    funext b
    apply Fin.ext
    match b with
    | ⟨0, _⟩ => rfl
    | ⟨1, _⟩ => exact (congrArg Fin.val (congrFun e 0)).symm
    | ⟨2, _⟩ => exact (congrArg Fin.val (congrFun e 1)).symm
    | ⟨3, _⟩ => rfl
    | ⟨4, h⟩ => exact (Nat.lt_one_iff.1 (i ⟨4, h⟩).isLt).symm
  · rintro ⟨e, rfl⟩
    funext b
    apply Fin.ext
    match b with
    | ⟨0, _⟩ => rfl
    | ⟨1, _⟩ => rfl
    | ⟨2, _⟩ => exact (Nat.lt_one_iff.1 x.isLt).symm

/-- A sum over axes of one element. -/
theorem sumOne_at (a : FVec Ideal S1x2x8x1x1 .f32) (k : Fin 2) (p : Fin 8) :
    Ideal.hostReduceAdd Gen.reducesTo_S1x2x8x1x1_S2x8_d0_3_4 a 0 (ix2 k p) = a (ix5 0 k p 0 0) := by
  refine (zero_add _).trans ((Finset.sum_filter_eq_sum_of_fiber _ (fun _ : Fin 1 => ix5 (0 : Fin 1) k p (0 : Fin 1) (0 : Fin 1))
    (fun _ _ _ => Subsingleton.elim _ _) (fun i => ?_) a).trans (Fin.sum_univ_one _))
  constructor
  · intro e
    refine ⟨0, ?_⟩
    funext b
    apply Fin.ext
    match b with
    | ⟨0, h⟩ => exact (Nat.lt_one_iff.1 (i ⟨0, h⟩).isLt).symm
    | ⟨1, _⟩ => exact (congrArg Fin.val (congrFun e 0)).symm
    | ⟨2, _⟩ => exact (congrArg Fin.val (congrFun e 1)).symm
    | ⟨3, h⟩ => exact (Nat.lt_one_iff.1 (i ⟨3, h⟩).isLt).symm
    | ⟨4, h⟩ => exact (Nat.lt_one_iff.1 (i ⟨4, h⟩).isLt).symm
  · rintro ⟨e, rfl⟩
    funext b
    apply Fin.ext
    match b with
    | ⟨0, _⟩ => rfl
    | ⟨1, _⟩ => rfl

/-- The host's sum over the blocks and their rows, one for each head. -/
theorem perHead_at (a : FVec Ideal S64x2x8x128x1 .f32) (k : Fin 2) (p : Fin 8) :
    Ideal.hostReduceAdd Gen.reducesTo_S1x2x8x1x1_S2x8_d0_3_4
        (shapeCast S1x2x8x1x1 (Host.reduceAdd a (constant S_ .f32 0x00000000#32) Gen.reducesTo_S64x2x8x128x1_S2x8x1_d0_3 Gen.h_S_)
          Gen.shapeCasts_S2x8x1_S1x2x8x1x1) 0 (ix2 k p)
      = ∑ n, ∑ r, a (ix5 n k p r 0) := by
  rw [sumOne_at]
  pointwise
  exact sumRows_at a _ _ _

/-- The gradient of the sinks from its parts: what the rows add directly, and what comes through the rows' greatest scores. -/
theorem sinkTerm_at (a b W : FVec Ideal S64x2x8x128x1 .f32) (i : Fin 128) :
    (pad S1x128 ![0, 0] ![0, 112] ![0, 0] (shapeCast _ (Host.reduceAdd (addf (broadcastInDim S2x8x1x1 ![0, 1] Gen.bcast_S2x8_S2x8x1x1_0_1 (Host.reduceAdd (shapeCast _ (Host.reduceAdd a (constant S_ .f32 0x00000000#32) Gen.reducesTo_S64x2x8x128x1_S2x8x1_d0_3 Gen.h_S_) Gen.shapeCasts_S2x8x1_S1x2x8x1x1) (constant S_ .f32 0x00000000#32) Gen.reducesTo_S1x2x8x1x1_S2x8_d0_3_4 Gen.h_S_)) (broadcastInDim S2x8x1x1 ![0, 1] Gen.bcast_S2x8_S2x8x1x1_0_1 (Host.reduceAdd (shapeCast _ (Host.reduceAdd (mulf b W) (constant S_ .f32 0x00000000#32) Gen.reducesTo_S64x2x8x128x1_S2x8x1_d0_3 Gen.h_S_) Gen.shapeCasts_S2x8x1_S1x2x8x1x1) (constant S_ .f32 0x00000000#32) Gen.reducesTo_S1x2x8x1x1_S2x8_d0_3_4 Gen.h_S_))) (constant S_ .f32 0x00000000#32) Gen.reducesTo_S2x8x1x1_S2x8_d2_3 Gen.h_S_) Gen.shapeCasts_S2x8_S1x16) (sitofp .f32 (constantI S_ 32 0#32)) Gen.pads_S1x16_S1x128_000_01120 Gen.h_S_ : FVec Ideal S1x128 .f32) (ix2 0 i)
      = if h : i.val < 16 then
          (∑ n, ∑ r, a (ix5 n ⟨i.val / 8, by omega⟩ ⟨i.val % 8, by omega⟩ r 0))
            + ∑ n, ∑ r, b (ix5 n ⟨i.val / 8, by omega⟩ ⟨i.val % 8, by omega⟩ r 0) * W (ix5 n ⟨i.val / 8, by omega⟩ ⟨i.val % 8, by omega⟩ r 0)
        else 0 := by
  pointwise
  simp only [perHead_at, Fin.sum_univ_one]
  split_ifs with h
  · congr 1
  · show (((0#32 : BitVec 32).toInt : ℝ) : EReal) = 0
    simp

variable (H : Holds Q G KV sk V)
include H

omit H in
/-- Whether a key reaches the row's greatest score, as a number. -/
theorem tie_at (n : Fin 64) (k : Fin 2) (p : Fin 8) (r : Fin 128) :
    ∃ t : Fin 256 → ℝ, (∀ j, 0 ≤ t j) ∧ ∀ j, res_main_v70 V (ix5 n k p r j) = (t j : EReal) := by
  refine ⟨fun j => ((BitVec.ofBool (decide ((res_main_v63_0 V (ix5 n k p r j) : EReal) = res_main_v66 V (ix4 n k p r)))).toNat : ℝ),
    fun j => Nat.cast_nonneg _, fun j => ?_⟩
  unfold res_main_v70; clean_types; pointwise
  rfl

/-- The gradient of the scaled products of queries and keys. -/
theorem ds_at (n : Fin 64) (k : Fin 2) (p : Fin 8) (r : Fin 128) (j : Fin 256) :
    res_main_v156 V (ix5 n k j r p)
      = ((dsc (scores Q KV n (head k p) r) (sk (head k p)) (dprobs G KV n (head k p) r) j * (1 / 8) : ℝ) : EReal) := by
  obtain ⟨t, ht, et⟩ := tie_at (V := V) n k p r
  refine (dsTerm_at (res_main_v63_1 V) (res_main_v134 V) (res_main_v70 V) (res_main_v138 V) _ n k p r j).trans ?_
  rw [mask_at, Scalar.select_ofBool, eighth_f32, dsc_at H]
  have hz : ∀ x : Fin 1, res_main_v138 V (ix5 n k p r x) = ((0 : ℝ) : EReal) := fun x => by
    rw [Fin.fin_one_eq_zero x]; exact dpeak_at H n k p r
  simp only [et, hz]
  rw [ties_zero _ t ht j]
  simp only [decide_eq_true_eq]
  split_ifs with hj
  · rw [add_zero, ← EReal.coe_mul]
  · rw [dsc_bot _ _ (sc_bot _ _ _ _ _ _ _ hj), ← EReal.coe_zero, ← EReal.coe_mul]

/-- The gradient of a band's keys. -/
theorem dk_at (n : Fin 64) (k : Fin 2) (j : Fin 256) (d : Fin 64) (l : Fin 128) (hl : l.val = 64 * k.val + d.val) :
    res_main_v160 V (ix4 n j k d) = (dkb (0 < n.val) slope (fun i => Q (rowOf n i)) (fun i => G (rowOf n i)) (band KV n) sk j l : EReal) := by
  unfold res_main_v160; clean_types; pointwise
  simp only [ds_at H, q_at H, ← EReal.coe_mul, ← coe_sum]
  refine congrArg Real.toEReal ?_
  have hd : (⟨l.val % 64, by omega⟩ : Fin 64) = d := Fin.ext (by dsimp only; omega)
  have hh : ∀ p, headOfKey l p = head k p := fun p => Fin.ext (by simp only [headOfKey, head]; omega)
  rw [dkb, Finset.sum_comm]
  simp only [hd, hh, dsb]
  refine Finset.sum_congr rfl fun p _ => Finset.sum_congr rfl fun r _ => ?_
  ring

/-- The gradient of a band's values. -/
theorem dv_at (n : Fin 64) (k : Fin 2) (j : Fin 256) (d : Fin 64) (l : Fin 128) (hl : l.val = 64 * k.val + d.val) :
    res_main_v116 V (ix4 n j k d) = (dvb (0 < n.val) slope (fun i => Q (rowOf n i)) (fun i => G (rowOf n i)) (band KV n) sk j l : EReal) := by
  unfold res_main_v116; clean_types; pointwise
  simp only [g_at H, pr_at H, ← EReal.coe_mul, ← coe_sum]
  refine congrArg Real.toEReal ?_
  have hd : (⟨l.val % 64, by omega⟩ : Fin 64) = d := Fin.ext (by dsimp only; omega)
  have hh : ∀ p, headOfKey l p = head k p := fun p => Fin.ext (by simp only [headOfKey, head]; omega)
  rw [dvb]
  simp only [hd, hh, prb]
  refine Finset.sum_congr rfl fun p _ => Finset.sum_congr rfl fun r _ => ?_
  ring

omit H in
/-- The reference's run: its four results, read at an index. -/
theorem run_at (Q G : Dev nD → Fin 8192 → Fin 1024 → ℝ) (KV : Dev nD → Fin 8192 → Fin 256 → ℝ) (sk : Dev nD → Fin 16 → ℝ)
    (m : (ℓ : Loc nD τ sig) → Buf (Elt Ideal) ℓ) (ρ : Dev nD → PrngReg)
    (H : ∀ c : Dev nD, Holds (Q c) (G c) (KV c) (sk c) (StableHlo.launchContents m c)) :
    θ_run defs (onTc (τ := τ) (main (F := Ideal))) ⟨m, fun _ => 0, ρ⟩ fun r => ∀ c : Dev nD,
      (∀ i l, r.2.mem ((c.tc : Thread nD τ).loc main_v170) (ix2 i l) = (gradQ slope (Q c) (G c) (KV c) (sk c) i l : EReal))
      ∧ (∀ i l, r.2.mem ((c.tc : Thread nD τ).loc main_v171) (ix2 i l) = (gradOwn slope (Q c) (G c) (KV c) (sk c) i l : EReal))
      ∧ (∀ i l, r.2.mem ((c.tc : Thread nD τ).loc main_v172) (ix2 i l) = (gradBefore slope (Q c) (G c) (KV c) (sk c) i l : EReal))
      ∧ (∀ i : Fin 128, r.2.mem ((c.tc : Thread nD τ).loc main_v173) (ix2 0 i)
          = ((if h : i.val < 16 then gradSink slope (Q c) (G c) (KV c) (sk c) ⟨i.val, h⟩ else 0 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨fun i l => ?_, fun i l => ?_, fun i l => ?_, fun i => ?_, (h c).2.2.2.2⟩) (Value.run (F := Ideal) m ρ)
  · have e := (h c).1
    clear h
    rw [e]
    clear e
    clean_types; pointwise
    have hh : head ⟨l.val / 512, by omega⟩ ⟨l.val / 64 % 8, by omega⟩ = headOfLane l := Fin.ext (by simp only [head, headOfLane]; omega)
    simp only [ds_at (H c), fun x => k_at (H c) ⟨i.val / 128, by omega⟩ x ⟨l.val / 512, by omega⟩ ⟨l.val % 64, by omega⟩
      (keyLane (headOfLane l) ⟨l.val % 64, by omega⟩) (by simp only [keyLane, headOfLane]; omega), ← EReal.coe_mul, ← coe_sum, hh]
    refine congrArg Real.toEReal ?_
    rw [gradQ, dqb, Finset.sum_mul]
    refine Finset.sum_congr rfl fun x _ => ?_
    exact mul_right_comm _ _ _
  · have e := (h c).2.1
    clear h
    rw [e]
    clear e
    clean_types; pointwise
    unfold gradOwn gradBand dkvb
    split_ifs with hl
    · exact dk_at (H c) _ _ _ _ ⟨l.val, hl⟩ (by dsimp only; omega)
    all_goals exact dv_at (H c) _ _ _ _ ⟨l.val - 128, by omega⟩ (by dsimp only; omega)
  · have e := (h c).2.2.1
    clear h
    rw [e]
    clear e
    clean_types; pointwise
    unfold gradBefore gradBand dkvb
    split_ifs with hl
    · exact dk_at (H c) _ _ _ _ ⟨l.val, hl⟩ (by dsimp only; omega)
    all_goals exact dv_at (H c) _ _ _ _ ⟨l.val - 128, by omega⟩ (by dsimp only; omega)
  · have e := (h c).2.2.2.1
    clear h
    rw [e]
    clear e
    refine (sinkTerm_at _ _ _ i).trans ?_
    split_ifs with hi
    · have hh : head ⟨i.val / 8, by omega⟩ ⟨i.val % 8, by omega⟩ = ⟨i.val, hi⟩ := Fin.ext (by simp only [head]; omega)
      simp only [dsink_at (H c), dpeak_at (H c), EReal.coe_zero, zero_mul, Finset.sum_const_zero, add_zero, ← coe_sum, hh]
      rfl
    · exact EReal.coe_zero.symm

end Cert.ReferenceIdeal.Attn
-- ==== Proof.Finite.lean ====
/-
  What the precondition says: the four arguments hold real numbers.
-/
module

public import proofs.«01_k».proof.Defs
public import proofs.«01_k».proof.Proof.Gen.ReferenceIdeal.Run
public import proofs.«01_k».proof.Proof.Gen.KernelIdeal
public import Idealize.ShloMosaic.Lib.ReduceAll
public import Idealize.ShloMosaic.Lib.Pointwise

@[expose] public section

set_option maxRecDepth 16384

noncomputable section

namespace Cert.Pre_finite

open Idealize.ShloMosaic

/-- The shapes the precondition's operations take fit together. -/
theorem facts : Facts where
  bcast_S_S8192x1024 := by decide +kernel
  reducesTo_S8192x1024_S_d0_1 := by decide +kernel
  h_S_ := by decide +kernel
  bcast_S_S8192x256 := by decide +kernel
  reducesTo_S8192x256_S_d0_1 := by decide +kernel
  bcast_S_S1x16 := by decide +kernel
  reducesTo_S1x16_S_d0_1 := by decide +kernel

/-- An extended real whose magnitude is below +∞ is a real number. -/
theorem real_of_abs_lt (x : EReal) (h : max x (-x) < ⊤) : x = (x.toReal : EReal) := by
  induction x with
  | bot => simp at h
  | top => simp at h
  | coe x => rfl

/-- The bfloat16 word 0x7F80 is +∞. -/
theorem inf_bf16 : Ideal.ofBits .bf16 0x7F80#16 = ⊤ := by simp [Ideal.ofBits, Ideal.ieee]

/-- The float32 word 0x7F800000 is +∞. -/
theorem inf_f32 : Ideal.ofBits .f32 0x7F800000#32 = ⊤ := by simp [Ideal.ofBits, Ideal.ieee]

/-- An array all of whose magnitudes are below +∞ holds real numbers. -/
theorem real_of_all {s : Shape} {φ : FTy} (x y : FVec Ideal s φ) (hy : ∀ i, y i = (⊤ : EReal)) (S : Shape) [Subsingleton S.Idx] {axes : List (Fin s.rank)}
    (init : S.Idx → BitVec 1) (hr : s.ReducesTo axes S) (h0 : 0 < S.numel) (j : S.Idx)
    (e : Host.reduce IntOp.andi (cmpf .olt (Host.absf x) y) init hr h0 j = 1#1) (i : s.Idx) : x i = ((x i : EReal).toReal : EReal) := by
  have h := Host.reduce_andi_all _ init hr h0 j e i
  refine real_of_abs_lt (x i) ?_
  have h2 : (cmpf .olt (Host.absf x) y) i = BitVec.ofBool (decide (max (x i : EReal) (-(x i : EReal)) < y i)) := rfl
  rw [h2, hy i] at h
  by_contra hn
  rw [decide_eq_false hn] at h
  exact absurd h (by decide)

instance : Subsingleton S_.Idx := ⟨fun a b => funext fun d => d.elim0⟩

variable [Facts]

/-- The precondition makes every entry of the four arrays a real number. -/
theorem real_of_finite (a0 : FVec Ideal S8192x1024 .bf16) (a1 : FVec Ideal S8192x256 .bf16) (a2 : FVec Ideal S8192x1024 .bf16)
    (a3 : FVec Ideal S1x16 .f32)
    (h : (fn (F := Ideal) a0 a1 a2 a3).1 = (fun _ => 1#1) ∧ (fn (F := Ideal) a0 a1 a2 a3).2.1 = (fun _ => 1#1)
      ∧ (fn (F := Ideal) a0 a1 a2 a3).2.2.1 = (fun _ => 1#1) ∧ (fn (F := Ideal) a0 a1 a2 a3).2.2.2 = (fun _ => 1#1)) :
    (∀ i, a0 i = ((a0 i : EReal).toReal : EReal)) ∧ (∀ i, a1 i = ((a1 i : EReal).toReal : EReal))
      ∧ (∀ i, a2 i = ((a2 i : EReal).toReal : EReal)) ∧ (∀ i, a3 i = ((a3 i : EReal).toReal : EReal)) := by
  simp only [fn] at h
  obtain ⟨h0, h1, h2, h3⟩ := h
  have j : S_.Idx := fun d => d.elim0
  refine ⟨real_of_all a0 _ (fun i => ?_) S_ _ _ _ j (congrFun h0 j), real_of_all a1 _ (fun i => ?_) S_ _ _ _ j (congrFun h1 j),
    real_of_all a2 _ (fun i => ?_) S_ _ _ _ j (congrFun h2 j), real_of_all a3 _ (fun i => ?_) S_ _ _ _ j (congrFun h3 j)⟩
  · exact inf_bf16
  · exact inf_bf16
  · exact inf_bf16
  · exact inf_f32

end Cert.Pre_finite
-- ==== Proof.Algebraic.lean ====
/-
  The idealized kernel and the reference end with the same arrays.
-/
module

public import proofs.«01_k».proof.Proof.KernelRun
public import proofs.«01_k».proof.Proof.ReferenceGrad
public import proofs.«01_k».proof.Proof.Finite

@[expose] public section

set_option maxRecDepth 16384

noncomputable section

namespace Cert.Proof

open Idealize.ShloMosaic Idealize.ShloMosaic.TcCoe Idealize.SL.Sem Cert.Attn
open Idealize.ShloMosaic.RefSig (ofTc)

instance : Cert.Pre_finite.Facts := Cert.Pre_finite.facts

/-- The two programs write the slopes alike. -/
theorem slope_eq : Cert.ReferenceIdeal.Attn.slope = Cert.KernelIdeal.Attn.slope := by
  have : ∀ h : Fin 16, Cert.ReferenceIdeal.lit0 h = Cert.KernelIdeal.Attn.slopeWord h := by decide
  funext h
  rw [Cert.ReferenceIdeal.Attn.slope, Cert.KernelIdeal.Attn.slope, this h]

/-- Arrays of two axes that agree at every pair of coordinates agree. -/
theorem ext2 {a b : ℕ} {X : Type} {f g : (⟨2, ![a, b]⟩ : Shape).Idx → X} (h : ∀ (i : Fin a) (j : Fin b), f (ix2 i j) = g (ix2 i j)) : f = g := by
  funext y
  have : y = ix2 (y 0) (y 1) := by funext d; fin_cases d <;> rfl
  rw [this]
  exact h _ _

/-- Both programs leave the gradients of `Sequence.lean`. -/
theorem algebraic : Cert.algebraic_KernelIdeal_ReferenceIdeal_pre_finite := by
  intro m ρ m' ρ' hpre hargs
  have hreal := fun c => Cert.Pre_finite.real_of_finite _ _ _ _ (hpre c)
  let Q : Dev Cert.KernelIdeal.nD → Fin 8192 → Fin 1024 → ℝ :=
    fun c r l => (m ((c.tc : Thread Cert.KernelIdeal.nD Cert.KernelIdeal.τ).loc Cert.KernelIdeal.main_arg0) (ix2 r l) : EReal).toReal
  let KV : Dev Cert.KernelIdeal.nD → Fin 8192 → Fin 256 → ℝ :=
    fun c r l => (m ((c.tc : Thread Cert.KernelIdeal.nD Cert.KernelIdeal.τ).loc Cert.KernelIdeal.main_arg1) (ix2 r l) : EReal).toReal
  let G : Dev Cert.KernelIdeal.nD → Fin 8192 → Fin 1024 → ℝ :=
    fun c r l => (m ((c.tc : Thread Cert.KernelIdeal.nD Cert.KernelIdeal.τ).loc Cert.KernelIdeal.main_arg2) (ix2 r l) : EReal).toReal
  let sk : Dev Cert.KernelIdeal.nD → Fin 16 → ℝ :=
    fun c h => (m ((c.tc : Thread Cert.KernelIdeal.nD Cert.KernelIdeal.τ).loc Cert.KernelIdeal.main_arg3) (ix2 (0 : Fin 1) h) : EReal).toReal
  have S : ∀ c, Cert.KernelIdeal.Attn.Starts m c (Q c) (G c) (KV c) (sk c) := fun c =>
    ⟨fun r l => (hreal c).1 _, fun r l => (hreal c).2.1 _, fun r l => (hreal c).2.2.1 _, fun h => (hreal c).2.2.2 _⟩
  have H : ∀ c, Cert.ReferenceIdeal.Attn.Holds (Q c) (G c) (KV c) (sk c) (StableHlo.launchContents m' c) := fun c =>
    ⟨fun r l => (congrFun (hargs c).1 _).trans ((S c).q r l), fun r l => (congrFun (hargs c).2.1 _).trans ((S c).kv r l),
      fun r l => (congrFun (hargs c).2.2.1 _).trans ((S c).g r l), fun h => (congrFun (hargs c).2.2.2 _).trans ((S c).sink h)⟩
  refine ⟨fun c y => ((gradQ Cert.KernelIdeal.Attn.slope (Q c) (G c) (KV c) (sk c) (y 0) (y 1) : ℝ) : EReal),
    fun c y => ((gradOwn Cert.KernelIdeal.Attn.slope (Q c) (G c) (KV c) (sk c) (y 0) (y 1) : ℝ) : EReal),
    fun c y => ((gradBefore Cert.KernelIdeal.Attn.slope (Q c) (G c) (KV c) (sk c) (y 0) (y 1) : ℝ) : EReal),
    fun c y => ((if h : (y 1).val < 16 then gradSink Cert.KernelIdeal.Attn.slope (Q c) (G c) (KV c) (sk c) ⟨(y 1).val, h⟩ else 0 : ℝ) : EReal),
    (θ_run Cert.KernelIdeal.defs _ _).mono (fun r h c => ?_) (Cert.KernelIdeal.Attn.run_at Q G KV sk m ρ S),
    (θ_run Cert.ReferenceIdeal.defs _ _).mono (fun r h c => ?_) (Cert.ReferenceIdeal.Attn.run_at Q G KV sk m' ρ' H)⟩
  · obtain ⟨h0, h1, h2, h3, hk⟩ := h c
    refine ⟨ext2 h0, ext2 h1, ext2 h2, ext2 fun a i => ?_, hk⟩
    obtain rfl : a = 0 := Subsingleton.elim _ _
    exact h3 i
  · obtain ⟨h0, h1, h2, h3, hk⟩ := h c
    rw [slope_eq] at h0 h1 h2 h3
    refine ⟨ext2 h0, ext2 h1, ext2 h2, ext2 fun a i => ?_, hk⟩
    obtain rfl : a = 0 := Subsingleton.elim _ _
    exact h3 i

end Cert.Proof
-- ==== Proof.RowSums.lean ====
/-
  Sums over rows taken block by block, and arrays stored in two halves.
-/
module

public import Idealize.ShloMosaic.Lib.Pointwise
public import Idealize.ShloMosaic.Lib.Pipeline.ReadBack
public import Idealize.ShloMosaic.Lib.Pipeline.ValueKit

@[expose] public section

set_option maxRecDepth 16384

noncomputable section

namespace Cert.Rows

open Idealize.ShloMosaic

/-- The sum of the first `n` terms of a list of 8192. -/
def firstRows (g : Fin 8192 → EReal) (n : ℕ) : EReal := ∑ i ∈ Finset.range n, if h : i < 8192 then g ⟨i, h⟩ else 0

/-- No term. -/
theorem firstRows_zero (g : Fin 8192 → EReal) : firstRows g 0 = 0 := rfl

/-- A block of `b` further terms. -/
theorem firstRows_step (g : Fin 8192 → EReal) (n b : ℕ) (h : n + b ≤ 8192) :
    firstRows g (n + b) = firstRows g n + ∑ j : Fin b, g ⟨n + j.val, by omega⟩ := by
  unfold firstRows
  rw [Finset.sum_range_add]
  refine congrArg (_ + ·) ((Finset.sum_range _).trans (Finset.sum_congr rfl fun j _ => dif_pos (by omega)))

/-- All of them. -/
theorem firstRows_all (g : Fin 8192 → EReal) : firstRows g 8192 = ∑ i, g i := by
  unfold firstRows
  rw [Finset.sum_range]
  exact Finset.sum_congr rfl fun j _ => dif_pos j.isLt

/-- A row's term of an entry of the product of two arrays over their rows. -/
def rowTerm {M N : ℕ} (x : Fin 8192 → Fin M → EReal) (y : Fin 8192 → Fin N → EReal) (r : Fin M) (l : Fin N) (i : Fin 8192) : EReal := x i r * y i l

/-- A quantity that starts anew with a block of 1024 rows at every eighth point, and gains the next block at the others, is the sum of the rows seen. -/
theorem firstRows_of_steps {N : ℕ} (a : (n : ℕ) → n < N → EReal) (g : (n : ℕ) → n < N → Fin 8192 → EReal)
    (hg : ∀ n h, ¬ n % 8 = 0 → g n h = g (n - 1) (by omega))
    (h0 : ∀ n h, n % 8 = 0 → a n h = ∑ j : Fin 1024, g n h ⟨1024 * (n % 8) + j.val, by omega⟩)
    (hs : ∀ n h, ¬ n % 8 = 0 → a n h = a (n - 1) (by omega) + ∑ j : Fin 1024, g n h ⟨1024 * (n % 8) + j.val, by omega⟩) :
    ∀ n h, a n h = firstRows (g n h) (1024 * (n % 8) + 1024) := by
  intro n
  induction n with
  | zero =>
    intro h
    rw [firstRows_step _ _ _ (by simp), h0 0 h rfl]
    exact (zero_add _).symm
  | succ n ih =>
    intro h
    rw [firstRows_step _ _ _ (by omega)]
    by_cases hn : (n + 1) % 8 = 0
    · rw [h0 _ h hn]
      refine (zero_add _).symm.trans (congrArg (· + _) ?_)
      rw [hn]
      rfl
    · rw [hs _ h hn]
      refine congrArg (· + _) ((ih (by omega)).trans ?_)
      have e : (n + 1) % 8 = n % 8 + 1 := by omega
      rw [hg _ h hn, e, Nat.mul_add, Nat.mul_one]
      rfl

/-- An array stored as a lower and an upper half is the array whose halves they are, whatever was stored before. -/
theorem canon_halves {H h n : ℕ} {e : EltTy} (hH : H = h + h) (G : (⟨2, ![H, n]⟩ : Shape).Idx → Elt Ideal e)
    (i1 : ∀ d, (![h, 0] : Fin 2 → ℕ) d + (![h, n] : Fin 2 → ℕ) d ≤ (⟨2, ![H, n]⟩ : Shape).size d)
    (i0 : ∀ d, (![0, 0] : Fin 2 → ℕ) d + (![h, n] : Fin 2 → ℕ) d ≤ (⟨2, ![H, n]⟩ : Shape).size d)
    (p1 p0 : (⟨2, ![h, n]⟩ : Shape).Idx → Elt Ideal e) (L : List (View.Piece (Elt Ideal) ⟨2, ![H, n]⟩ e))
    (h1 : ∀ (a : Fin h) (b : Fin n), p1 (ix2 a b) = G (ix2 (⟨h + a.val, by omega⟩ : Fin H) b))
    (h0 : ∀ (a : Fin h) (b : Fin n), p0 (ix2 a b) = G (ix2 (⟨a.val, by omega⟩ : Fin H) b)) (r : Fin H) (l : Fin n) :
    View.canon (⟨Rect.unit ![h, 0] ![h, n] i1, p1⟩ :: ⟨Rect.unit ![0, 0] ![h, n] i0, p0⟩ :: L) (ix2 r l) = G (ix2 r l) := by
  have e1 : ∀ (a : Fin h) (b : Fin n), (Rect.unit (s := ⟨2, ![H, n]⟩) ![h, 0] ![h, n] i1).emb (ix2 a b) = ix2 (⟨h + a.val, by omega⟩ : Fin H) b := by
    intro a b
    funext d
    apply Fin.ext
    match d with
    | ⟨0, _⟩ => exact ValueKit.rect_emb_unit_val _ _ _ _ _
    | ⟨1, _⟩ => exact (ValueKit.rect_emb_unit_val _ _ _ _ _).trans (Nat.zero_add _)
  have e0 : ∀ (a : Fin h) (b : Fin n), (Rect.unit (s := ⟨2, ![H, n]⟩) ![0, 0] ![h, n] i0).emb (ix2 a b) = ix2 (⟨a.val, by omega⟩ : Fin H) b := by
    intro a b
    funext d
    apply Fin.ext
    match d with
    | ⟨0, _⟩ => exact (ValueKit.rect_emb_unit_val _ _ _ _ _).trans (Nat.zero_add _)
    | ⟨1, _⟩ => exact (ValueKit.rect_emb_unit_val _ _ _ _ _).trans (Nat.zero_add _)
  refine View.canon_append_of_pieces (Val := Elt Ideal) (e := e) G L
    [⟨Rect.unit ![h, 0] ![h, n] i1, p1⟩, ⟨Rect.unit ![0, 0] ![h, n] i0, p0⟩] ?_ (ix2 r l) ?_
  · intro q hq x
    simp only [List.mem_cons, List.not_mem_nil, or_false] at hq
    rcases hq with rfl | rfl
    · obtain ⟨a, b, rfl⟩ : ∃ (a : Fin h) (b : Fin n), x = ix2 a b := ⟨x 0, x 1, by funext d; fin_cases d <;> rfl⟩
      exact (h1 a b).trans (congrArg G (e1 a b).symm)
    · obtain ⟨a, b, rfl⟩ : ∃ (a : Fin h) (b : Fin n), x = ix2 a b := ⟨x 0, x 1, by funext d; fin_cases d <;> rfl⟩
      exact (h0 a b).trans (congrArg G (e0 a b).symm)
  · by_cases hr : r.val < h
    · refine ⟨_, List.mem_cons_of_mem _ (List.mem_singleton.mpr rfl), ?_⟩
      rw [show ix2 r l = (Rect.unit (s := ⟨2, ![H, n]⟩) ![0, 0] ![h, n] i0).emb (ix2 (⟨r.val, hr⟩ : Fin h) l) from (e0 ⟨r.val, hr⟩ l).symm]
      exact LoadRect.idx_mem _ _
    · refine ⟨_, List.mem_cons_self, ?_⟩
      have : ix2 r l = (Rect.unit (s := ⟨2, ![H, n]⟩) ![h, 0] ![h, n] i1).emb (ix2 (⟨r.val - h, by omega⟩ : Fin h) l) := by
        rw [e1]
        congr 1
        exact Fin.ext (by simp only []; omega)
      rw [this]
      exact LoadRect.idx_mem _ _

/-- Reading the whole of an array back gives what was stored. -/
theorem read_all {sig : RefSig} {κ : Kind} {sp : Space} {H n : ℕ} {e : EltTy} {F : FTy → Type} [FloatOps F] (v : View sig κ sp ⟨2, ![H, n]⟩ e)
    (L : List (View.Piece (Elt F) ⟨2, ![H, n]⟩ e))
    (i : ∀ d, (![0, 0] : Fin 2 → ℕ) d + (![H, n] : Fin 2 → ℕ) d ≤ (⟨2, ![H, n]⟩ : Shape).size d) :
    v.readCov L (Rect.unit ![0, 0] ![H, n] i).toLoadRect = View.canon L := by
  rw [View.readCov_eq_canon']
  funext j
  refine congrArg (View.canon L) ?_
  funext d
  apply Fin.ext
  match d with
  | ⟨0, _⟩ => exact (ValueKit.rect_emb_unit_val _ _ _ _ _).trans (Nat.zero_add _)
  | ⟨1, _⟩ => exact (ValueKit.rect_emb_unit_val _ _ _ _ _).trans (Nat.zero_add _)

/-- The word of one. -/
theorem one_f32 : Ideal.ofBits .f32 0x3F800000#32 = 1 := by
  simp [Ideal.ofBits, Ideal.ieee]; rw [← EReal.coe_mul, ← EReal.coe_one]; congr 1; norm_num

/-- The word of one half. -/
theorem half_f32 : Ideal.ofBits .f32 0x3F000000#32 = ((1 / 2 : ℝ) : EReal) := by
  simp [Ideal.ofBits, Ideal.ieee]; rw [← EReal.coe_mul]; congr 1; norm_num

/-- A number that is neither negative nor +∞ goes into a sum of extended reals. -/
theorem mul_sum {ι : Type} (s : Finset ι) {k : EReal} (h0 : 0 ≤ k) (ht : k ≠ ⊤) (f : ι → EReal) : k * ∑ i ∈ s, f i = ∑ i ∈ s, k * f i := by
  classical
  induction s using Finset.induction_on with
  | empty => simp
  | insert a s ha ih => rw [Finset.sum_insert ha, Finset.sum_insert ha, EReal.left_distrib_of_nonneg_of_ne_top h0 ht, ih]

end Cert.Rows

end
-- ==== Proof.RmsRow.lean ====
/-
  One row of the gradient of an rms norm, over the extended reals.
-/
module

public import Idealize.ShloMosaic.Lib.IdealHost
public import proofs.«01_k».proof.Proof.RowSums
public import proofs.«01_k».proof.Proof.Real

@[expose] public section

noncomputable section

namespace Cert.Rows

open Idealize.ShloMosaic

/-- 1024 as a word. -/
theorem n_f32 : Ideal.ofBits .f32 0x44800000#32 = ((1024 : ℝ) : EReal) := by
  simp [Ideal.ofBits, Ideal.ieee]; rw [← EReal.coe_mul]; congr 1; norm_num

/-- Minus a half as a word. -/
theorem minus_half_f32 : Ideal.ofBits .f32 0xBF000000#32 = ((-(1 / 2) : ℝ) : EReal) := by
  simp [Ideal.ofBits, Ideal.ieee]; rw [← EReal.coe_mul]; congr 1; norm_num

/-- The norm's small constant is a positive real. -/
theorem eps_f32 : ∃ e : ℝ, 0 < e ∧ Ideal.ofBits .f32 0x358637BD#32 = (e : EReal) := by
  refine ⟨_, ?_, by simp [Ideal.ofBits, Ideal.ieee]; rw [← EReal.coe_mul]⟩
  norm_num

/-- A row's mean square with the small constant added. -/
def meanSq (x : Fin 1024 → EReal) : EReal :=
  Ideal.div (∑ k, x k * x k) (Ideal.ofBits .f32 0x44800000#32) + Ideal.ofBits .f32 0x358637BD#32

/-- It is a positive real, or +∞ if an entry is infinite. -/
theorem meanSq_cases (x : Fin 1024 → EReal) : (∃ q : ℝ, 0 < q ∧ meanSq x = (q : EReal)) ∨ meanSq x = ⊤ := by
  obtain ⟨e, he, hE⟩ := eps_f32
  rw [meanSq, n_f32, hE, Ideal.div_coe (by norm_num)]
  have hsq : ∀ k, 0 ≤ x k * x k := fun k => by
    rcases le_total 0 (x k) with h | h
    · exact mul_nonneg h h
    · rw [← neg_mul_neg]; exact mul_nonneg (EReal.neg_nonneg.mpr h) (EReal.neg_nonneg.mpr h)
  by_cases hx : ∀ k, ∃ a : ℝ, x k = (a : EReal)
  · choose a ha using hx
    left
    refine ⟨(∑ k, a k * a k) * (1 / 1024) + e, ?_, ?_⟩
    · have : 0 ≤ ∑ k, a k * a k := Finset.sum_nonneg fun k _ => mul_self_nonneg _
      positivity
    · simp only [ha, ← EReal.coe_mul]
      rw [EReal.coe_add, EReal.coe_mul]
      rw [Cert.Attn.coe_sum]
  · right
    push Not at hx
    obtain ⟨k, hk⟩ := hx
    have ht : x k * x k = ⊤ := by
      induction hx : x k with
      | bot => rfl
      | top => rfl
      | coe a => exact absurd hx (hk a)
    have hs : ∑ k, x k * x k = ⊤ := top_le_iff.mp (ht ▸ Finset.single_le_sum (f := fun k => x k * x k) (fun k _ => hsq k) (Finset.mem_univ k))
    rw [hs, EReal.top_mul_coe_of_pos (by norm_num), EReal.top_add_coe]

/-- One entry of the gradient as the kernel writes it. -/
def dxKernel (x p : Fin 1024 → EReal) (dh : EReal) (l : Fin 1024) : EReal :=
  dh + Ideal.rsqrt (meanSq x) * (p l - x l * Ideal.rsqrt (meanSq x)
    * Ideal.div (∑ k, p k * (x k * Ideal.rsqrt (meanSq x))) (Ideal.ofBits .f32 0x44800000#32))

/-- The factor of `x` in the reference's gradient. -/
def dxFactor (x p : Fin 1024 → EReal) : EReal :=
  Ideal.div ((∑ k, x k * p k) * (Ideal.ofBits .f32 0xBF000000#32 * Ideal.div (Ideal.rsqrt (meanSq x)) (meanSq x))) (Ideal.ofBits .f32 0x44800000#32)

/-- Twice half of minus a positive multiple of an extended real. -/
theorem halves {k : ℝ} (hk : 0 < k) (w : EReal) : ((-(k / 2) : ℝ) : EReal) * w + ((-(k / 2) : ℝ) : EReal) * w = -((k : EReal) * w) := by
  have h2 : -(k / 2) < 0 := by linarith
  induction w with
  | bot => rw [EReal.coe_mul_bot_of_neg h2, EReal.coe_mul_bot_of_pos hk]; rfl
  | top => rw [EReal.coe_mul_top_of_neg h2, EReal.coe_mul_top_of_pos hk]; rfl
  | coe a => rw [← EReal.coe_mul, ← EReal.coe_mul, ← EReal.coe_add, ← EReal.coe_neg]; congr 1; ring

/-- The two ways of writing the entry agree, whatever the row holds. -/
theorem dx_eq (x p : Fin 1024 → EReal) (dh : EReal) (l : Fin 1024) :
    dh + p l * Ideal.rsqrt (meanSq x) + x l * dxFactor x p + dxFactor x p * x l = dxKernel x p dh l := by
  rw [dxKernel, dxFactor, n_f32, minus_half_f32, Ideal.div_coe (by norm_num), Ideal.div_coe (by norm_num)]
  rcases meanSq_cases x with ⟨q, hq, e⟩ | e
  · have hr : 0 < (Real.sqrt q)⁻¹ := inv_pos.mpr (Real.sqrt_pos.mpr hq)
    have hR : Ideal.rsqrt (meanSq x) = (((Real.sqrt q)⁻¹ : ℝ) : EReal) := by
      rw [e, Ideal.rsqrt_coe, if_neg (not_lt.mpr hq.le), if_neg hq.ne']
    have hqq : 1 / q = (Real.sqrt q)⁻¹ * (Real.sqrt q)⁻¹ := by
      rw [← mul_inv, Real.mul_self_sqrt hq.le, one_div]
    rw [hR, e, Ideal.div_coe hq.ne', hqq]
    generalize (Real.sqrt q)⁻¹ = r at *
    have hT : ∑ k, p k * (x k * (r : EReal)) = (r : EReal) * ∑ k, x k * p k := by
      rw [mul_sum _ (EReal.coe_nonneg.mpr hr.le) (EReal.coe_ne_top _)]
      exact Finset.sum_congr rfl fun k _ => by rw [← mul_assoc, mul_comm _ (r : EReal), mul_comm (p k)]
    rw [hT]
    generalize ∑ k, x k * p k = T
    rw [sub_eq_add_neg, EReal.left_distrib_of_nonneg_of_ne_top (EReal.coe_nonneg.mpr hr.le) (EReal.coe_ne_top _), mul_neg]
    have h1 : T * (((-(1 / 2) : ℝ) : EReal) * ((r : EReal) * ((r * r : ℝ) : EReal))) * ((1 / 1024 : ℝ) : EReal)
        = ((-((r * r * r / 1024) / 2) : ℝ) : EReal) * T := by
      rw [mul_assoc, ← EReal.coe_mul, ← EReal.coe_mul, ← EReal.coe_mul, mul_comm]
      congr 2; ring
    have h2 : (r : EReal) * (x l * (r : EReal) * ((r : EReal) * T * ((1 / 1024 : ℝ) : EReal)))
        = ((r * r * r / 1024 : ℝ) : EReal) * (x l * T) := by
      have : ((r * r * r / 1024 : ℝ) : EReal) = (r : EReal) * (r : EReal) * (r : EReal) * ((1 / 1024 : ℝ) : EReal) := by
        rw [← EReal.coe_mul, ← EReal.coe_mul, ← EReal.coe_mul]
        congr 1; ring
      rw [this]
      ac_rfl
    rw [h1, h2, ← halves (k := r * r * r / 1024) (by positivity), mul_comm (p l), add_assoc, add_assoc, mul_comm _ (x l), mul_left_comm]
  · rw [e, Ideal.rsqrt_top, zero_mul, mul_zero, add_zero]
    have : Ideal.div 0 ⊤ = 0 := Ideal.zero_div (by simp)
    rw [this]
    simp

end Cert.Rows

end
-- ==== Proof.GradInput.lean ====
/-
  The gradients of the feed-forward block's input and of its norm's scale: what the idealized kernel leaves in its two arrays,
  and that the reference leaves the same.
-/
module

public import proofs.«01_k».proof.Proof.Gen.Kernel2Ideal.Value
public import proofs.«01_k».proof.Proof.Gen.Reference2Ideal.Run
public import proofs.«01_k».proof.Defs
public import proofs.«01_k».proof.Proof.RmsRow

@[expose] public section

set_option maxRecDepth 16384

noncomputable section

namespace Cert.Rows

open Idealize.ShloMosaic

/-- The arrays the gradients are taken at: the gradient of the product, that of the residual, the input, the scale, and the weights. -/
structure Inputs where
  d : Fin 8192 → Fin 5632 → EReal
  dh : Fin 8192 → Fin 1024 → EReal
  x : Fin 8192 → Fin 1024 → EReal
  g : Fin 1024 → EReal
  w : Fin 5632 → Fin 1024 → EReal

/-- The gradient of the normed row. -/
def Inputs.dn (V : Inputs) (r : Fin 8192) (l : Fin 1024) : EReal := ∑ k, V.d r k * V.w k l

/-- The gradient of the input. -/
def Inputs.dx (V : Inputs) (r : Fin 8192) (l : Fin 1024) : EReal := dxKernel (V.x r) (fun k => V.dn r k * V.g k) (V.dh r l) l

/-- A row's part of the gradient of the scale. -/
def Inputs.dgTerm (V : Inputs) (l : Fin 1024) (r : Fin 8192) : EReal := V.dn r l * (V.x r l * Ideal.rsqrt (meanSq (V.x r)))

/-- The gradient of the scale. -/
def Inputs.dg (V : Inputs) (l : Fin 1024) : EReal := ∑ r, V.dgTerm l r

end Cert.Rows

namespace Cert.Kernel2Ideal.Grad

open Idealize.ShloMosaic Idealize.ShloMosaic.TcCoe Idealize.ShloMosaic.Tactic Idealize.SL.Sem
open Cert.Kernel2Ideal Cert.Kernel2Ideal.Gen Cert.Rows

section
variable {F : FTy → Type} [FloatOps F] (m : (ℓ : Loc nD τ sig) → Buf (Elt F) ℓ)

/-- What a point writes to its rows. -/
theorem rows_eq (c : Dev nD) (t : Fin cfg0.N) : (outsAt0 m c t.val t.isLt).1
    = k0_pay6 (iblk m c 0 t) (iblk m c 4 t) (iblk m c 2 t) (iblk m c 3 t) (iblk m c 1 t) := by
  by_cases h0 : t.val % 16 = 0
  · rw [outsAt0_A m c t h0]
    frame_open
    frame_out
  · rw [outsAt0_B m c t h0]
    frame_open
    frame_out

/-- What the first point leaves in the sum over the rows. -/
theorem sum_A (c : Dev nD) (t : Fin cfg0.N) (h0 : t.val % 16 = 0) : (outsAt0 m c t.val t.isLt).2
    = k0_pay1 (k0_pay5 (iblk m c 0 t) (iblk m c 4 t) (iblk m c 2 t)) k0_pay7 := by
  rw [outsAt0_A m c t h0]
  frame_open
  frame_out

/-- What a later point leaves there. -/
theorem sum_B (c : Dev nD) (t : Fin cfg0.N) (h0 : ¬ t.val % 16 = 0) : (outsAt0 m c t.val t.isLt).2
    = k0_pay1 (k0_pay5 (iblk m c 0 t) (iblk m c 4 t) (iblk m c 2 t)) (outsAt0 m c (t.val - 1) (Nat.lt_of_le_of_lt (Nat.sub_le _ _) t.isLt)).2 := by
  rw [outsAt0_B m c t h0]
  frame_open
  frame_out

end

variable {m : (ℓ : Loc nD τ sig) → Buf (Elt Ideal) ℓ} {c : Dev nD} {A : Inputs}

/-- The blocks hold these rows of the inputs. -/
structure Holds (A : Inputs) (row : Fin 512 → Fin 8192) (D : Vec Ideal S512x5632 .bf16) (W : Vec Ideal S5632x1024 .bf16) (x dh : Vec Ideal S512x1024 .f32)
    (g : Vec Ideal S1x1024 .f32) : Prop where
  d : ∀ r k, D (ix2 r k) = A.d (row r) k
  w : ∀ k l, W (ix2 k l) = A.w k l
  x : ∀ r l, x (ix2 r l) = A.x (row r) l
  dh : ∀ r l, dh (ix2 r l) = A.dh (row r) l
  g : ∀ l, g (ix2 0 l) = A.g l

/-- The rows of the input's gradient, entry by entry. -/
theorem pay6_at {row : Fin 512 → Fin 8192} {D : Vec Ideal S512x5632 .bf16} {W : Vec Ideal S5632x1024 .bf16} {x dh : Vec Ideal S512x1024 .f32}
    {g : Vec Ideal S1x1024 .f32} (H : Holds A row D W x dh g) (r : Fin 512) (l : Fin 1024) : k0_pay6 D W x g dh (ix2 r l) = A.dx (row r) l := by
  pointwise [k0_pay6, k0_pay4, k0_pay3, k0_pay2]
  simp only [H.d, H.w, H.x, H.dh, H.g]
  rfl

/-- A block's part of the scale's gradient. -/
theorem pay5_at {row : Fin 512 → Fin 8192} {D : Vec Ideal S512x5632 .bf16} {W : Vec Ideal S5632x1024 .bf16} {x dh : Vec Ideal S512x1024 .f32}
    {g : Vec Ideal S1x1024 .f32} (H : Holds A row D W x dh g) (before : Vec Ideal S1x1024 .f32) (l : Fin 1024) :
    k0_pay1 (k0_pay5 D W x) before (ix2 0 l) = before (ix2 0 l) + ∑ r, A.dgTerm l (row r) := by
  pointwise [k0_pay1, k0_pay5, k0_pay4, k0_pay3, k0_pay2]
  simp only [H.d, H.w, H.x]
  rfl

/-- Where the blocks of a point lie. -/
theorem idx (t : Fin cfg0.N) : win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![0, 0]) t

/-- The row of the arrays that a block's row is. -/
def rowOf (n : ℕ) (h : n < 16) (r : Fin 512) : Fin 8192 := ⟨512 * n + r.val, by omega⟩

/-- The launch holds these arrays. -/
structure Starts (m : (ℓ : Loc nD τ sig) → Buf (Elt Ideal) ℓ) (c : Dev nD) (A : Inputs) : Prop where
  d : ∀ r k, m ((c : Thread nD τ).loc main_arg0) (ix2 r k) = A.d r k
  dh : ∀ r l, m ((c : Thread nD τ).loc main_arg1) (ix2 r l) = A.dh r l
  x : ∀ r l, m ((c : Thread nD τ).loc main_arg2) (ix2 r l) = A.x r l
  g : ∀ l, m ((c : Thread nD τ).loc main_arg3) (ix2 0 l) = A.g l
  w : ∀ k l, m ((c : Thread nD τ).loc main_arg4) (ix2 k l) = A.w k l

/-- What a point's blocks hold. -/
theorem holds (S : Starts m c A) (t : Fin cfg0.N) :
    Holds A (rowOf t.val t.isLt) (iblk m c 0 t) (iblk m c 4 t) (iblk m c 2 t) (iblk m c 1 t) (iblk m c 3 t) where
  d r k := by
    refine Eq.trans ?_ (S.d _ _)
    blk_ext! [iblk, V, idx t, rowOf]
  w k l := by
    refine Eq.trans ?_ (S.w _ _)
    blk_ext! [iblk, V, idx t]
  x r l := by
    refine Eq.trans ?_ (S.x _ _)
    blk_ext! [iblk, V, idx t, rowOf]
  dh r l := by
    refine Eq.trans ?_ (S.dh _ _)
    blk_ext! [iblk, V, idx t, rowOf]
  g l := by
    refine Eq.trans ?_ (S.g _)
    blk_ext! [iblk, V, idx t]

/-- The input's gradient, at the rows of a point. -/
theorem dx_out (S : Starts m c A) (t : Fin cfg0.N) (r : Fin 512) (l : Fin 1024) :
    (outsAt0 m c t.val t.isLt).1 (ix2 r l) = A.dx (rowOf t.val t.isLt r) l :=
  (congrFun (rows_eq m c t) _).trans (pay6_at (holds S t) r l)

/-- The scale's gradient after a point: the sum over the rows seen so far. -/
theorem dg_out (S : Starts m c A) (l : Fin 1024) (n : ℕ) : ∀ hn : n < cfg0.N,
    (outsAt0 m c n hn).2 (ix2 0 l) = firstRows (A.dgTerm l) (512 * n + 512) := by
  induction n with
  | zero =>
    intro hn
    rw [firstRows_step _ _ _ (by omega)]
    refine ((congrFun (sum_A m c ⟨0, hn⟩ rfl) _).trans (pay5_at (holds S ⟨0, hn⟩) _ l)).trans (congrArg₂ (· + ·) ?_ rfl)
    pointwise [k0_pay7]
    rfl
  | succ n ih =>
    intro hn
    have hn' : n + 1 < 16 := hn
    rw [firstRows_step _ _ _ (by omega)]
    refine ((congrFun (sum_B m c ⟨n + 1, hn⟩ (by simp only []; omega)) _).trans (pay5_at (holds S ⟨n + 1, hn⟩) _ l)).trans
      (congrArg₂ (· + ·) ((ih (by omega)).trans ?_) rfl)
    rw [Nat.mul_add, Nat.mul_one]

/-- The input's gradient the idealized kernel ends with. -/
theorem dx_final (S : Starts m c A) : (dats m 0 c).arrAt 5 cfg0.N = fun y => A.dx (y 0) (y 1) := by
  refine (dats m 0 c).arrAt_eq_of_covers 5 _ (by decide +kernel) fun t hf y => ?_
  obtain ⟨a, b, rfl⟩ : ∃ (a : Fin 512) (b : Fin 1024), y = ix2 a b := ⟨y 0, y 1, by funext d; fin_cases d <;> rfl⟩
  rw [after0_5]
  refine Eq.trans ?_ ((dx_out S t a b).trans ?_)
  · blk_simp
  · have e : (win0_5.blk t).view.emb (ix2 a b) = ix2 (rowOf t.val t.isLt a) b := by
      blk_ext [idx t, rowOf]
    show _ = A.dx ((win0_5.blk t).view.emb (ix2 a b) 0) ((win0_5.blk t).view.emb (ix2 a b) 1)
    rw [e]
    rfl

/-- The scale's gradient it ends with. -/
theorem dg_final (S : Starts m c A) : (dats m 0 c).arrAt 6 cfg0.N = fun y => A.dg (y 1) := by
  refine (dats m 0 c).arrAt_eq_of_covers 6 _ (by decide +kernel) fun t hf y => ?_
  have h15 : t.val = 15 := by
    have h := (flush0_6 t).mp hf
    have : t.val < 16 := t.isLt
    omega
  obtain ⟨z, b, rfl⟩ : ∃ (z : Fin 1) (b : Fin 1024), y = ix2 z b := ⟨y 0, y 1, by funext d; fin_cases d <;> rfl⟩
  obtain rfl : z = 0 := Subsingleton.elim _ _
  rw [after0_6]
  refine Eq.trans ?_ ((dg_out S b t.val t.isLt).trans ?_)
  · blk_simp
  · rw [h15, firstRows_all]
    have e : (win0_6.blk t).view.emb (ix2 0 b) = ix2 0 b := by
      blk_ext [idx t]
    show _ = A.dg ((win0_6.blk t).view.emb (ix2 0 b) 1)
    rw [e]
    rfl

/-- What the run ends with. -/
theorem run_at (A : Dev nD → Inputs) (m : (ℓ : Loc nD τ sig) → Buf (Elt Ideal) ℓ) (ρ : Dev nD → PrngReg) (S : ∀ c, Starts m c (A c)) :
    θ_run defs (onTc (τ := τ) (main (F := Ideal))) ⟨m, fun _ => 0, ρ⟩ fun r => ∀ c : Dev nD,
      r.2.mem ((c : Thread nD τ).loc main_v0_0) = (fun y => (A c).dx (y 0) (y 1))
      ∧ r.2.mem ((c : Thread nD τ).loc main_v0_1) = (fun y => (A c).dg (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (dx_final (S c)), (h c).2.1.trans (dg_final (S c)), (h c).2.2⟩) (Cert.Kernel2Ideal.Value.run_blocks m ρ)

end Cert.Kernel2Ideal.Grad

namespace Cert.Reference2Ideal.Grad

open Idealize.ShloMosaic Idealize.ShloMosaic.TcCoe Idealize.ShloMosaic.Tactic Idealize.SL.Sem
open Cert.Reference2Ideal Cert.Reference2Ideal.Gen Cert.Rows

variable (D : FVec Ideal S8192x5632 .bf16) (dh x : FVec Ideal S8192x1024 .f32) (g : FVec Ideal S1x1024 .f32) (W : FVec Ideal S5632x1024 .bf16)

/-- The arrays, entry by entry. -/
def inputs : Inputs := ⟨fun r k => D (ix2 r k), fun r l => dh (ix2 r l), fun r l => x (ix2 r l), fun l => g (ix2 0 l), fun k l => W (ix2 k l)⟩

/-- The mean squares of the rows, as the reference's term. -/
def meanSqs : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))

/-- The gradients of the normed rows. -/
def dns : FVec Ideal S8192x1024 .f32 :=
  Host.dotGeneral dot_S8192x5632_S1024x5632_S8192x1024_1_1_0_0_n_n none (extf .f32 D bitsLt_bf16_f32)
    (transpose S1024x5632 [1, 0] (extf .f32 W bitsLt_bf16_f32) transposes_S5632x1024_S1024x5632_1_0)

/-- Those times the scale. -/
def scaled : FVec Ideal S8192x1024 .f32 :=
  mulf (dns D W) (broadcastInDim S8192x1024 ![0, 1] bcast_S1x1024_S8192x1024_0_1 (broadcastInDim S1x1024 ![1] bcast_S1024_S1x1024_1 (shapeCast _ g shapeCasts_S1x1024_S1024)))

/-- The factors of the input in its gradient. -/
def factors : FVec Ideal S8192x1024 .f32 :=
  broadcastInDim S8192x1024 ![0] bcast_S8192_S8192x1024_0 (Host.reduceAdd (Host.divf (mulf
    (shapeCast _ (Host.reduceAdd (mulf x (scaled D g W)) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (meanSqs x)) (meanSqs x))))
    (broadcastInDim S8192x1 ![] bcast_S_S8192x1 (constant S_ .f32 0x44800000#32))) (constant S_ .f32 0x00000000#32) reducesTo_S8192x1_S8192_d1 h_S_)

/-- The input's gradient. -/
def dxs : FVec Ideal S8192x1024 .f32 :=
  addf (addf (addf dh (mulf (scaled D g W) (broadcastInDim S8192x1024 ![0, 1] bcast_S8192x1_S8192x1024_0_1 (Host.rsqrt (meanSqs x)))))
    (mulf x (factors D x g W))) (mulf (factors D x g W) x)

/-- The scale's gradient. -/
def dgs : FVec Ideal S1x1024 .f32 :=
  shapeCast _ (Host.reduceAdd (shapeCast _ (Host.reduceAdd (mulf
    (mulf x (broadcastInDim S8192x1024 ![0, 1] bcast_S8192x1_S8192x1024_0_1 (Host.rsqrt (meanSqs x)))) (dns D W))
    (constant S_ .f32 0x00000000#32) reducesTo_S8192x1024_S1024_d0 h_S_) shapeCasts_S1024_S1x1024) (constant S_ .f32 0x00000000#32) reducesTo_S1x1024_S1024_d0 h_S_)
    shapeCasts_S1024_S1x1024

/-- A row's mean square. -/
theorem meanSqs_at (r : Fin 8192) : meanSqs x (ix2 r 0) = meanSq (fun l => x (ix2 r l)) := by
  unfold meanSqs; pointwise []; rfl

/-- A row of the gradients times the scale. -/
theorem scaled_at (r : Fin 8192) (l : Fin 1024) : scaled D g W (ix2 r l) = (inputs D dh x g W).dn r l * g (ix2 0 l) := by
  unfold scaled dns; pointwise []; rfl

/-- A row's factor. -/
theorem factors_at (r : Fin 8192) (l : Fin 1024) : factors D x g W (ix2 r l)
    = dxFactor (fun l => x (ix2 r l)) (fun l => (inputs D dh x g W).dn r l * g (ix2 0 l)) := by
  unfold factors; pointwise []
  rw [dxFactor, ← meanSqs_at]
  simp [scaled_at D dh x g W]

/-- The reference's gradient of the input. -/
theorem dxs_at (r : Fin 8192) (l : Fin 1024) : dxs D dh x g W (ix2 r l) = (inputs D dh x g W).dx r l := by
  unfold dxs; pointwise []
  rw [scaled_at D dh x g W, factors_at D dh x g W, meanSqs_at]
  exact dx_eq (fun l => x (ix2 r l)) (fun l => (inputs D dh x g W).dn r l * g (ix2 0 l)) _ l

/-- The reference's gradient of the scale. -/
theorem dgs_at (l : Fin 1024) : dgs D x W (ix2 0 l) = (inputs D dh x g W).dg l := by
  unfold dgs dns; pointwise []
  simp only [meanSqs_at]
  simp only [Finset.univ_unique, Finset.sum_singleton]
  exact Finset.sum_congr rfl fun r _ => mul_comm _ _

end Cert.Reference2Ideal.Grad

namespace Cert.Proof

open Idealize.ShloMosaic Idealize.ShloMosaic.TcCoe Idealize.SL.Sem
open Cert.Reference2Ideal.Grad Cert.Rows

instance kernel2Facts : Cert.Kernel2Ideal.Facts := Cert.Kernel2Ideal.Gen.facts
instance reference2Facts : Cert.Reference2Ideal.Facts := Cert.Reference2Ideal.Gen.facts

/-- Both programs leave the same gradients of the input and of the scale. -/
theorem algebraic_input : Cert.algebraic_Kernel2Ideal_Reference2Ideal := by
  intro m ρ m' ρ' _ hargs
  let V : Dev Cert.Kernel2Ideal.nD → Inputs := fun c =>
    inputs (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
  refine ⟨fun c y => (V c).dx (y 0) (y 1), fun c y => (V c).dg (y 1),
    Cert.Kernel2Ideal.Grad.run_at V m ρ fun c => ⟨fun _ _ => rfl, fun _ _ => rfl, fun _ _ => rfl, fun _ => rfl, fun _ _ => rfl⟩,
    (θ_run Cert.Reference2Ideal.defs _ _).mono (fun r h c => ⟨(h c).1.trans ?_, (h c).2.1.trans ?_, (h c).2.2⟩) (Cert.Reference2Ideal.Value.run m' ρ')⟩
  · funext y
    obtain ⟨a, b, rfl⟩ : ∃ (a : Fin 8192) (b : Fin 1024), y = ix2 a b := ⟨y 0, y 1, by funext d; fin_cases d <;> rfl⟩
    unfold Cert.Reference2Ideal.Value.res_main_v42
    obtain ⟨e0, e1, e2, e3, e4⟩ := hargs c
    rw [e0, e1, e2, e3, e4]
    exact dxs_at _ _ _ _ _ a b
  · funext y
    obtain ⟨z, b, rfl⟩ : ∃ (z : Fin 1) (b : Fin 1024), y = ix2 z b := ⟨y 0, y 1, by funext d; fin_cases d <;> rfl⟩
    obtain rfl : z = 0 := Subsingleton.elim _ _
    obtain ⟨e0, e1, e2, e3, e4⟩ := hargs c
    rw [e0, e2, e4]
    exact dgs_at _ _ _ _ _ b

end Cert.Proof

end
-- ==== Proof.GradUp.lean ====
/-
  The gradient of the product with w_up: what the idealized kernel leaves in its array, and that the reference leaves the same.
-/
module

public import proofs.«01_k».proof.Proof.Gen.Kernel3Ideal.Value
public import proofs.«01_k».proof.Proof.Gen.Reference3Ideal.Run
public import proofs.«01_k».proof.Defs
public import proofs.«01_k».proof.Proof.RowSums

@[expose] public section

set_option maxRecDepth 16384

noncomputable section

namespace Cert.Kernel3Ideal.Grad

open Idealize.ShloMosaic Idealize.ShloMosaic.TcCoe Idealize.ShloMosaic.Tactic Idealize.SL.Sem
open Cert.Kernel3Ideal Cert.Kernel3Ideal.Gen Cert.Rows

variable {F : FTy → Type} [FloatOps F]

/-- The upper half of the accumulator with a block's product added. -/
def upperPiece (L : Vec F S1024x2816 .bf16) (R : Vec F S1024x1024 .bf16) (acc : Vec F S2816x1024 .f32) : View.Piece (Elt F) S2816x1024 .f32 :=
  ⟨Rect.unit ![1408, 0] ![1408, 1024] inb_S2816x1024_S1408x1024_1408_0,
    k0_pay3 (View.ld acc (Rect.unit ![1408, 0] ![1408, 1024] inb_S2816x1024_S1408x1024_1408_0))
      (View.ld L (Rect.unit ![0, 1408] ![1024, 1408] inb_S1024x2816_S1024x1408_0_1408)) R⟩

/-- The lower half. -/
def lowerPiece (L : Vec F S1024x2816 .bf16) (R : Vec F S1024x1024 .bf16) (acc : Vec F S2816x1024 .f32) : View.Piece (Elt F) S2816x1024 .f32 :=
  ⟨Rect.unit ![0, 0] ![1408, 1024] inb_S2816x1024_S1408x1024_0_0,
    k0_pay2 (View.ld acc (Rect.unit ![0, 0] ![1408, 1024] inb_S2816x1024_S1408x1024_0_0))
      (View.ld L (Rect.unit ![0, 0] ![1024, 1408] inb_S1024x2816_S1024x1408_0_0)) R⟩

section
variable (m : (ℓ : Loc nD τ sig) → Buf (Elt F) ℓ)

/-- What the first point of a block leaves in the accumulator. -/
theorem acc_A (c : Dev nD) (t : Fin cfg0.N) (h0 : t.val % 8 = 0) (h1 : ¬ t.val % 8 = 7) :
    ∃ rest, (outsAt0 m c t.val t.isLt).2 = View.canon (upperPiece (iblk m c 0 t) (iblk m c 1 t) k0_pay1
      :: lowerPiece (iblk m c 0 t) (iblk m c 1 t) k0_pay1 :: rest) := by
  rw [outsAt0_A m c t h0 h1]
  frame_open
  simp (disch := decide) only [↓ View.readCov_skip, ↓ View.readCov_cons_toLoadRect, ↓ View.readCov_fill]
  frame_out
  exact ⟨_, rfl⟩

/-- What a later point leaves there. -/
theorem acc_BC (c : Dev nD) (t : Fin cfg0.N) (h0 : ¬ t.val % 8 = 0) :
    (outsAt0 m c t.val t.isLt).2 = View.canon [upperPiece (iblk m c 0 t) (iblk m c 1 t)
        (outsAt0 m c (t.val - 1) (Nat.lt_of_le_of_lt (Nat.sub_le _ _) t.isLt)).2,
      lowerPiece (iblk m c 0 t) (iblk m c 1 t) (outsAt0 m c (t.val - 1) (Nat.lt_of_le_of_lt (Nat.sub_le _ _) t.isLt)).2] := by
  by_cases h1 : t.val % 8 = 7
  · rw [outsAt0_C m c t h0 h1]
    frame_open
    simp (disch := decide) only [↓ View.readCov_skip, ↓ View.readCov_cons_toLoadRect, ↓ View.readCov_fill]
    frame_out
    simp only [read_unread_whole]
    rfl
  · rw [outsAt0_B m c t h0 h1]
    frame_open
    simp (disch := decide) only [↓ View.readCov_skip, ↓ View.readCov_cons_toLoadRect, ↓ View.readCov_fill]
    frame_out
    simp only [read_unread_whole]
    rfl

/-- What the last point writes. -/
theorem out_C (c : Dev nD) (t : Fin cfg0.N) (h1 : t.val % 8 = 7) :
    (outsAt0 m c t.val t.isLt).1 = k0_pay4 (outsAt0 m c t.val t.isLt).2 := by
  rw [acc_BC m c t (by omega), outsAt0_C m c t (by omega) h1]
  frame_open
  simp (disch := decide) only [↓ View.readCov_skip, ↓ View.readCov_cons_toLoadRect, ↓ View.readCov_fill]
  frame_out
  simp only [read_unread_whole]
  exact congrArg k0_pay4 (read_all _ _ _)

end

/-- An entry of a block's product. -/
def product (L : Vec Ideal S1024x2816 .bf16) (R : Vec Ideal S1024x1024 .bf16) (r : Fin 2816) (l : Fin 1024) : EReal :=
  ∑ k : Fin 1024, L (ix2 k r) * R (ix2 k l)

/-- A block's product added to what the accumulator held. -/
def addBlock (L : Vec Ideal S1024x2816 .bf16) (R : Vec Ideal S1024x1024 .bf16) (acc : Vec Ideal S2816x1024 .f32) : Vec Ideal S2816x1024 .f32 :=
  fun y => acc y + product L R (y 0) (y 1)

/-- The two halves are those of the sum. -/
theorem pieces_at (L : Vec Ideal S1024x2816 .bf16) (R : Vec Ideal S1024x1024 .bf16) (acc : Vec Ideal S2816x1024 .f32)
    (rest : List (View.Piece (Elt Ideal) S2816x1024 .f32)) (r : Fin 2816) (l : Fin 1024) :
    View.canon (upperPiece L R acc :: lowerPiece L R acc :: rest) (ix2 r l) = acc (ix2 r l) + product L R r l := by
  refine canon_halves (h := 1408) rfl (addBlock L R acc) _ _ _ _ rest ?_ ?_ r l
  · intro a b
    pointwise [k0_pay3, addBlock, product]
  · intro a b
    pointwise [k0_pay2, addBlock, product]

variable {m : (ℓ : Loc nD τ sig) → Buf (Elt Ideal) ℓ} {c : Dev nD}

/-- Where the blocks of a point lie. -/
theorem idx (t : Fin cfg0.N) : win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0]) t

/-- A row of the left operand's block. -/
theorem left_at (t : Fin cfg0.N) (k : Fin 1024) (r : Fin 2816) : iblk m c 0 t (ix2 k r)
    = m ((c : Thread nD τ).loc main_arg0) (ix2 (⟨1024 * (t.val % 8) + k.val, by omega⟩ : Fin 8192)
      (⟨2816 * (t.val / 8) + r.val, by have : t.val < 16 := t.isLt; omega⟩ : Fin 5632)) := by
  blk_ext! [iblk, V, idx t]

/-- A row of the right operand's block. -/
theorem right_at (t : Fin cfg0.N) (k l : Fin 1024) : iblk m c 1 t (ix2 k l)
    = m ((c : Thread nD τ).loc main_arg1) (ix2 (⟨1024 * (t.val % 8) + k.val, by omega⟩ : Fin 8192) l) := by
  blk_ext! [iblk, V, idx t]

/-- A row's term of an entry of the gradient. -/
def term (x : Fin 8192 → Fin 5632 → EReal) (y : Fin 8192 → Fin 1024 → EReal) (r : Fin 5632) (l : Fin 1024) (i : Fin 8192) : EReal := x i r * y i l

variable {X : Fin 8192 → Fin 5632 → EReal} {Y : Fin 8192 → Fin 1024 → EReal}

/-- The launch holds these two arrays. -/
structure Starts (m : (ℓ : Loc nD τ sig) → Buf (Elt Ideal) ℓ) (c : Dev nD) (X : Fin 8192 → Fin 5632 → EReal) (Y : Fin 8192 → Fin 1024 → EReal) : Prop where
  left : ∀ i j, m ((c : Thread nD τ).loc main_arg0) (ix2 i j) = X i j
  right : ∀ i j, m ((c : Thread nD τ).loc main_arg1) (ix2 i j) = Y i j

/-- The column of the left operand that row `r` of a point's accumulator stands for. -/
def colOf (n : ℕ) (h : n < 16) (r : Fin 2816) : Fin 5632 := ⟨2816 * (n / 8) + r.val, by omega⟩

/-- The product of a point's blocks, as the terms of its rows. -/
theorem block_at (S : Starts m c X Y) (t : Fin cfg0.N) (r : Fin 2816) (l : Fin 1024) :
    product (iblk m c 0 t) (iblk m c 1 t) r l
      = ∑ k : Fin 1024, term X Y (colOf t.val t.isLt r) l ⟨1024 * (t.val % 8) + k.val, by omega⟩ := by
  refine Finset.sum_congr rfl fun k _ => ?_
  exact congrArg₂ (· * ·) ((left_at t k r).trans (S.left _ _)) ((right_at t k l).trans (S.right _ _))

/-- What the accumulator holds after a point: the sum over the rows seen so far. -/
theorem acc_at (S : Starts m c X Y) (r : Fin 2816) (l : Fin 1024) (n : ℕ) (hn : n < cfg0.N) :
    (outsAt0 m c n hn).2 (ix2 r l) = firstRows (term X Y (colOf n hn r) l) (1024 * (n % 8) + 1024) := by
  refine firstRows_of_steps (fun n hn => (outsAt0 m c n hn).2 (ix2 r l)) (fun n hn => term X Y (colOf n hn r) l) ?_ ?_ ?_ n hn
  · intro n h h0
    have e : n / 8 = (n - 1) / 8 := by omega
    simp only [colOf, e]
  · intro n h h0
    obtain ⟨rest, e⟩ := acc_A m c ⟨n, h⟩ h0 (by simp only []; omega)
    refine ((congrFun e _).trans (pieces_at _ _ _ _ _ _)).trans ?_
    refine Eq.trans (congrArg₂ (· + ·) ?_ (block_at S ⟨n, h⟩ r l)) (zero_add _)
    pointwise [k0_pay1]
  · intro n h h0
    refine ((congrFun (acc_BC m c ⟨n, h⟩ h0) _).trans (pieces_at _ _ _ _ _ _)).trans ?_
    exact congrArg (_ + ·) (block_at S ⟨n, h⟩ r l)

/-- What the last point of a block writes. -/
theorem out_at (S : Starts m c X Y) (t : Fin cfg0.N) (h7 : t.val % 8 = 7) (r : Fin 2816) (l : Fin 1024) :
    (outsAt0 m c t.val t.isLt).1 (ix2 r l) = ∑ i, X i (colOf t.val t.isLt r) * Y i l := by
  have e := acc_at S r l t.val t.isLt
  rw [h7, firstRows_all] at e
  rw [out_C m c t h7]
  pointwise [k0_pay4]
  exact e

/-- The array the idealized kernel ends with. -/
theorem final (S : Starts m c X Y) : (dats m 0 c).arrAt 2 cfg0.N = fun y => ∑ i, X i (y 0) * Y i (y 1) := by
  refine (dats m 0 c).arrAt_eq_of_covers 2 _ (by decide +kernel) fun t hf y => ?_
  have h7 : t.val % 8 = 7 := (flush0_2 t).mp hf
  obtain ⟨a, b, rfl⟩ : ∃ (a : Fin 2816) (b : Fin 1024), y = ix2 a b := ⟨y 0, y 1, by funext d; fin_cases d <;> rfl⟩
  rw [after0_2]
  refine Eq.trans ?_ ((out_at S t h7 a b).trans ?_)
  · blk_simp
  · have e : (win0_2.blk t).view.emb (ix2 a b) = ix2 (colOf t.val t.isLt a) b := by
      blk_ext [idx t, colOf]
    show _ = ∑ i, X i ((win0_2.blk t).view.emb (ix2 a b) 0) * Y i ((win0_2.blk t).view.emb (ix2 a b) 1)
    rw [e]
    rfl

/-- What the run ends with. -/
theorem run_at (X : Dev nD → Fin 8192 → Fin 5632 → EReal) (Y : Dev nD → Fin 8192 → Fin 1024 → EReal) (m : (ℓ : Loc nD τ sig) → Buf (Elt Ideal) ℓ)
    (ρ : Dev nD → PrngReg) (S : ∀ c, Starts m c (X c) (Y c)) :
    θ_run defs (onTc (τ := τ) (main (F := Ideal))) ⟨m, fun _ => 0, ρ⟩ fun r => ∀ c : Dev nD,
      r.2.mem ((c : Thread nD τ).loc main_v0) = (fun y => ∑ i, X c i (y 0) * Y c i (y 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final (S c)), (h c).2⟩) (Cert.Kernel3Ideal.Value.run_blocks m ρ)

end Cert.Kernel3Ideal.Grad

namespace Cert.Proof

open Idealize.ShloMosaic Idealize.ShloMosaic.TcCoe Idealize.SL.Sem

instance kernel3Facts : Cert.Kernel3Ideal.Facts := Cert.Kernel3Ideal.Gen.facts
instance reference3Facts : Cert.Reference3Ideal.Facts := Cert.Reference3Ideal.Gen.facts

/-- The reference's term, at an index. -/
theorem grad_up_reference (x : FVec Ideal Cert.Reference3Ideal.S8192x5632 .bf16) (y : FVec Ideal Cert.Reference3Ideal.S8192x1024 .bf16)
    (r : Fin 5632) (l : Fin 1024) :
    truncf .bf16 (transpose Cert.Reference3Ideal.S5632x1024 [1, 0] (transpose Cert.Reference3Ideal.S1024x5632 [1, 0]
      (Host.dotGeneral Cert.Reference3Ideal.dot_S8192x5632_S8192x1024_S5632x1024_0_0_1_1_n_n none (extf .f32 x Cert.Reference3Ideal.Facts₀.bitsLt_bf16_f32)
        (extf .f32 y Cert.Reference3Ideal.Facts₀.bitsLt_bf16_f32)) Cert.Reference3Ideal.Facts₀.transposes_S5632x1024_S1024x5632_1_0)
      Cert.Reference3Ideal.Facts₀.transposes_S1024x5632_S5632x1024_1_0) Cert.Reference3Ideal.Facts₀.bitsLt_bf16_f32 (ix2 r l) = ∑ i : Fin 8192, x (ix2 i r) * y (ix2 i l) := by
  pointwise []

/-- Both programs leave the same gradient of w_up. -/
theorem algebraic_up : Cert.algebraic_Kernel3Ideal_Reference3Ideal := by
  intro m ρ m' ρ' _ hargs
  let X : Dev Cert.Kernel3Ideal.nD → Fin 8192 → Fin 5632 → EReal :=
    fun c i j => m ((c.tc : Thread Cert.Kernel3Ideal.nD Cert.Kernel3Ideal.τ).loc Cert.Kernel3Ideal.main_arg0) (ix2 i j)
  let Y : Dev Cert.Kernel3Ideal.nD → Fin 8192 → Fin 1024 → EReal :=
    fun c i j => m ((c.tc : Thread Cert.Kernel3Ideal.nD Cert.Kernel3Ideal.τ).loc Cert.Kernel3Ideal.main_arg1) (ix2 i j)
  refine ⟨fun c y => (∑ i, X c i (y 0) * Y c i (y 1) : EReal),
    Cert.Kernel3Ideal.Grad.run_at X Y m ρ fun c => ⟨fun _ _ => rfl, fun _ _ => rfl⟩,
    (θ_run Cert.Reference3Ideal.defs _ _).mono (fun r h c => ⟨(h c).1.trans ?_, (h c).2⟩) (Cert.Reference3Ideal.Value.run m' ρ')⟩
  funext y
  obtain ⟨a, b, rfl⟩ : ∃ (a : Fin 5632) (b : Fin 1024), y = ix2 a b := ⟨y 0, y 1, by funext d; fin_cases d <;> rfl⟩
  rw [(hargs c).1, (hargs c).2]
  exact grad_up_reference _ _ a b

end Cert.Proof

end
-- ==== Proof.GradDown.lean ====
/-
  The gradient of the product with w_down: what the idealized kernel leaves in its array, and that the reference leaves the same.
  The body is that of the gradient of w_up, with one block of columns instead of two and the factor a half at the end.
-/
module

public import proofs.«01_k».proof.Proof.Gen.Kernel4Ideal.Value
public import proofs.«01_k».proof.Proof.Gen.Reference4Ideal.Run
public import proofs.«01_k».proof.Proof.GradUp

@[expose] public section

set_option maxRecDepth 16384

noncomputable section

namespace Cert.Kernel4Ideal.Grad

open Idealize.ShloMosaic Idealize.ShloMosaic.TcCoe Idealize.ShloMosaic.Tactic Idealize.SL.Sem
open Cert.Kernel4Ideal Cert.Kernel4Ideal.Gen Cert.Rows
open Cert.Kernel3Ideal.Grad (upperPiece lowerPiece product pieces_at)

section
variable {F : FTy → Type} [FloatOps F]
variable (m : (ℓ : Loc nD τ sig) → Buf (Elt F) ℓ)

/-- What the first point leaves in the accumulator. -/
theorem acc_A (c : Dev nD) (t : Fin cfg0.N) (h0 : t.val % 8 = 0) (h1 : ¬ t.val % 8 = 7) :
    ∃ rest, (outsAt0 m c t.val t.isLt).2 = View.canon (upperPiece (iblk m c 0 t) (iblk m c 1 t) k0_pay1
      :: lowerPiece (iblk m c 0 t) (iblk m c 1 t) k0_pay1 :: rest) := by
  rw [outsAt0_A m c t h0 h1]
  frame_open
  simp (disch := decide) only [↓ View.readCov_skip, ↓ View.readCov_cons_toLoadRect, ↓ View.readCov_fill]
  frame_out
  exact ⟨_, rfl⟩

/-- What a later point leaves there. -/
theorem acc_BC (c : Dev nD) (t : Fin cfg0.N) (h0 : ¬ t.val % 8 = 0) :
    (outsAt0 m c t.val t.isLt).2 = View.canon [upperPiece (iblk m c 0 t) (iblk m c 1 t)
        (outsAt0 m c (t.val - 1) (Nat.lt_of_le_of_lt (Nat.sub_le _ _) t.isLt)).2,
      lowerPiece (iblk m c 0 t) (iblk m c 1 t) (outsAt0 m c (t.val - 1) (Nat.lt_of_le_of_lt (Nat.sub_le _ _) t.isLt)).2] := by
  by_cases h1 : t.val % 8 = 7
  · rw [outsAt0_C m c t h0 h1]
    frame_open
    simp (disch := decide) only [↓ View.readCov_skip, ↓ View.readCov_cons_toLoadRect, ↓ View.readCov_fill]
    frame_out
    simp only [read_unread_whole]
    rfl
  · rw [outsAt0_B m c t h0 h1]
    frame_open
    simp (disch := decide) only [↓ View.readCov_skip, ↓ View.readCov_cons_toLoadRect, ↓ View.readCov_fill]
    frame_out
    simp only [read_unread_whole]
    rfl

/-- What the last point writes. -/
theorem out_C (c : Dev nD) (t : Fin cfg0.N) (h1 : t.val % 8 = 7) :
    (outsAt0 m c t.val t.isLt).1 = k0_pay4 (outsAt0 m c t.val t.isLt).2 := by
  rw [acc_BC m c t (by omega), outsAt0_C m c t (by omega) h1]
  frame_open
  simp (disch := decide) only [↓ View.readCov_skip, ↓ View.readCov_cons_toLoadRect, ↓ View.readCov_fill]
  frame_out
  simp only [read_unread_whole]
  exact congrArg k0_pay4 (read_all _ _ _)

end

variable {m : (ℓ : Loc nD τ sig) → Buf (Elt Ideal) ℓ} {c : Dev nD}

/-- Where the blocks of a point lie. -/
theorem idx (t : Fin cfg0.N) : win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0]) t

/-- A row of the left operand's block. -/
theorem left_at (t : Fin cfg0.N) (k : Fin 1024) (r : Fin 2816) : iblk m c 0 t (ix2 k r)
    = m ((c : Thread nD τ).loc main_arg0) (ix2 (⟨1024 * (t.val % 8) + k.val, by omega⟩ : Fin 8192) r) := by
  have h : t.val % 8 = t.val := Nat.mod_eq_of_lt t.isLt
  simp only [h]
  blk_ext! [iblk, V, idx t]

/-- A row of the right operand's block. -/
theorem right_at (t : Fin cfg0.N) (k l : Fin 1024) : iblk m c 1 t (ix2 k l)
    = m ((c : Thread nD τ).loc main_arg1) (ix2 (⟨1024 * (t.val % 8) + k.val, by omega⟩ : Fin 8192) l) := by
  have h : t.val % 8 = t.val := Nat.mod_eq_of_lt t.isLt
  simp only [h]
  blk_ext! [iblk, V, idx t]

variable {X : Fin 8192 → Fin 2816 → EReal} {Y : Fin 8192 → Fin 1024 → EReal}

/-- The launch holds these two arrays. -/
structure Starts (m : (ℓ : Loc nD τ sig) → Buf (Elt Ideal) ℓ) (c : Dev nD) (X : Fin 8192 → Fin 2816 → EReal) (Y : Fin 8192 → Fin 1024 → EReal) : Prop where
  left : ∀ i j, m ((c : Thread nD τ).loc main_arg0) (ix2 i j) = X i j
  right : ∀ i j, m ((c : Thread nD τ).loc main_arg1) (ix2 i j) = Y i j

/-- The product of a point's blocks, as the terms of its rows. -/
theorem block_at (S : Starts m c X Y) (t : Fin cfg0.N) (r : Fin 2816) (l : Fin 1024) :
    product (iblk m c 0 t) (iblk m c 1 t) r l
      = ∑ k : Fin 1024, (fun i => X i r * Y i l) ⟨1024 * (t.val % 8) + k.val, by omega⟩ := by
  refine Finset.sum_congr rfl fun k _ => ?_
  exact congrArg₂ (· * ·) ((left_at t k r).trans (S.left _ _)) ((right_at t k l).trans (S.right _ _))

/-- What the accumulator holds after a point: the sum over the rows seen so far. -/
theorem acc_at (S : Starts m c X Y) (r : Fin 2816) (l : Fin 1024) (n : ℕ) (hn : n < cfg0.N) :
    (outsAt0 m c n hn).2 (ix2 r l) = firstRows (fun i => X i r * Y i l) (1024 * (n % 8) + 1024) := by
  refine firstRows_of_steps (fun n hn => (outsAt0 m c n hn).2 (ix2 r l)) (fun _ _ i => X i r * Y i l) (fun _ _ _ => rfl) ?_ ?_ n hn
  · intro n h h0
    obtain ⟨rest, e⟩ := acc_A m c ⟨n, h⟩ h0 (by simp only []; omega)
    refine ((congrFun e _).trans (pieces_at _ _ _ _ _ _)).trans ?_
    refine Eq.trans (congrArg₂ (· + ·) ?_ (block_at S ⟨n, h⟩ r l)) (zero_add _)
    pointwise [k0_pay1]
  · intro n h h0
    refine ((congrFun (acc_BC m c ⟨n, h⟩ h0) _).trans (pieces_at _ _ _ _ _ _)).trans ?_
    exact congrArg (_ + ·) (block_at S ⟨n, h⟩ r l)

/-- What the last point writes. -/
theorem out_at (S : Starts m c X Y) (t : Fin cfg0.N) (h7 : t.val % 8 = 7) (r : Fin 2816) (l : Fin 1024) :
    (outsAt0 m c t.val t.isLt).1 (ix2 r l) = ((1 / 2 : ℝ) : EReal) * ∑ i, X i r * Y i l := by
  have e := acc_at S r l t.val t.isLt
  rw [h7, firstRows_all] at e
  rw [out_C m c t h7]
  pointwise [k0_pay4]
  rw [half_f32]
  exact congrArg (_ * ·) e

/-- The array the idealized kernel ends with. -/
theorem final (S : Starts m c X Y) : (dats m 0 c).arrAt 2 cfg0.N = fun y => ((1 / 2 : ℝ) : EReal) * ∑ i, X i (y 0) * Y i (y 1) := by
  refine (dats m 0 c).arrAt_eq_of_covers 2 _ (by decide +kernel) fun t hf y => ?_
  have h7 : t.val % 8 = 7 := by
    have := (flush0_2 t).mp hf
    omega
  obtain ⟨a, b, rfl⟩ : ∃ (a : Fin 2816) (b : Fin 1024), y = ix2 a b := ⟨y 0, y 1, by funext d; fin_cases d <;> rfl⟩
  rw [after0_2]
  refine Eq.trans ?_ ((out_at S t h7 a b).trans ?_)
  · blk_simp
  · have e : (win0_2.blk t).view.emb (ix2 a b) = ix2 a b := by
      blk_ext [idx t]
    show _ = ((1 / 2 : ℝ) : EReal) * ∑ i, X i ((win0_2.blk t).view.emb (ix2 a b) 0) * Y i ((win0_2.blk t).view.emb (ix2 a b) 1)
    rw [e]
    rfl

/-- What the run ends with. -/
theorem run_at (X : Dev nD → Fin 8192 → Fin 2816 → EReal) (Y : Dev nD → Fin 8192 → Fin 1024 → EReal) (m : (ℓ : Loc nD τ sig) → Buf (Elt Ideal) ℓ)
    (ρ : Dev nD → PrngReg) (S : ∀ c, Starts m c (X c) (Y c)) :
    θ_run defs (onTc (τ := τ) (main (F := Ideal))) ⟨m, fun _ => 0, ρ⟩ fun r => ∀ c : Dev nD,
      r.2.mem ((c : Thread nD τ).loc main_v0) = (fun y => ((1 / 2 : ℝ) : EReal) * ∑ i, X c i (y 0) * Y c i (y 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final (S c)), (h c).2⟩) (Cert.Kernel4Ideal.Value.run_blocks m ρ)

end Cert.Kernel4Ideal.Grad

namespace Cert.Proof

open Idealize.ShloMosaic Idealize.ShloMosaic.TcCoe Idealize.SL.Sem

instance kernel4Facts : Cert.Kernel4Ideal.Facts := Cert.Kernel4Ideal.Gen.facts
instance reference4Facts : Cert.Reference4Ideal.Facts := Cert.Reference4Ideal.Gen.facts

/-- The reference's term, at an index: the half goes out of the sum. -/
theorem grad_down_reference (x : FVec Ideal Cert.Reference4Ideal.S8192x2816 .bf16) (y : FVec Ideal Cert.Reference4Ideal.S8192x1024 .bf16)
    (r : Fin 2816) (l : Fin 1024) :
    truncf .bf16 (transpose Cert.Reference4Ideal.S2816x1024 [1, 0]
      (Host.dotGeneral Cert.Reference4Ideal.dot_S8192x1024_S8192x2816_S1024x2816_0_0_1_1_n_n none
        (mulf (broadcastInDim Cert.Reference4Ideal.S8192x1024 ![] Cert.Reference4Ideal.Facts₀.bcast_S_S8192x1024 (constant Cert.Reference4Ideal.S_ .f32 0x3F000000#32))
          (extf .f32 y Cert.Reference4Ideal.Facts₀.bitsLt_bf16_f32))
        (extf .f32 x Cert.Reference4Ideal.Facts₀.bitsLt_bf16_f32)) Cert.Reference4Ideal.Facts₀.transposes_S1024x2816_S2816x1024_1_0)
      Cert.Reference4Ideal.Facts₀.bitsLt_bf16_f32 (ix2 r l) = ((1 / 2 : ℝ) : EReal) * ∑ i : Fin 8192, x (ix2 i r) * y (ix2 i l) := by
  pointwise []
  rw [Cert.Rows.half_f32, Cert.Rows.mul_sum _ (by norm_num) (EReal.coe_ne_top _)]
  refine Finset.sum_congr rfl fun i _ => ?_
  rw [mul_assoc, mul_comm (y _)]

/-- Both programs leave the same gradient of w_down. -/
theorem algebraic_down : Cert.algebraic_Kernel4Ideal_Reference4Ideal := by
  intro m ρ m' ρ' _ hargs
  let X : Dev Cert.Kernel4Ideal.nD → Fin 8192 → Fin 2816 → EReal :=
    fun c i j => m ((c.tc : Thread Cert.Kernel4Ideal.nD Cert.Kernel4Ideal.τ).loc Cert.Kernel4Ideal.main_arg0) (ix2 i j)
  let Y : Dev Cert.Kernel4Ideal.nD → Fin 8192 → Fin 1024 → EReal :=
    fun c i j => m ((c.tc : Thread Cert.Kernel4Ideal.nD Cert.Kernel4Ideal.τ).loc Cert.Kernel4Ideal.main_arg1) (ix2 i j)
  refine ⟨fun c y => (((1 / 2 : ℝ) : EReal) * ∑ i, X c i (y 0) * Y c i (y 1) : EReal),
    Cert.Kernel4Ideal.Grad.run_at X Y m ρ fun c => ⟨fun _ _ => rfl, fun _ _ => rfl⟩,
    (θ_run Cert.Reference4Ideal.defs _ _).mono (fun r h c => ⟨(h c).1.trans ?_, (h c).2⟩) (Cert.Reference4Ideal.Value.run m' ρ')⟩
  funext y
  obtain ⟨a, b, rfl⟩ : ∃ (a : Fin 2816) (b : Fin 1024), y = ix2 a b := ⟨y 0, y 1, by funext d; fin_cases d <;> rfl⟩
  rw [(hargs c).1, (hargs c).2]
  exact grad_down_reference _ _ a b

end Cert.Proof

end
-- ==== Proof.GradIn.lean ====
/-
  The gradient of the product with w_in: what the idealized kernel leaves in its array, and that the reference leaves the same.
-/
module

public import proofs.«01_k».proof.Proof.Gen.Kernel5Ideal.Value
public import proofs.«01_k».proof.Proof.Gen.Reference5Ideal.Run
public import proofs.«01_k».proof.Defs
public import proofs.«01_k».proof.Proof.RowSums

@[expose] public section

set_option maxRecDepth 16384

noncomputable section

namespace Cert.Kernel5Ideal.Grad

open Idealize.ShloMosaic Idealize.ShloMosaic.TcCoe Idealize.ShloMosaic.Tactic Idealize.SL.Sem
open Cert.Kernel5Ideal Cert.Kernel5Ideal.Gen Cert.Rows

section
variable {F : FTy → Type} [FloatOps F] (m : (ℓ : Loc nD τ sig) → Buf (Elt F) ℓ)

/-- What the first point of a block of columns leaves in the accumulator. -/
theorem acc_A (c : Dev nD) (t : Fin cfg0.N) (h0 : t.val % 8 = 0) :
    (outsAt0 m c t.val t.isLt).2 = k0_pay2 k0_pay1 (iblk m c 0 t) (iblk m c 1 t) := by
  rw [outsAt0_A m c t h0 (by omega)]
  frame_open
  frame_out

/-- What a later point leaves there. -/
theorem acc_BC (c : Dev nD) (t : Fin cfg0.N) (h0 : ¬ t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_open
    frame_out
    simp only [read_unread_whole]
  · rw [outsAt0_B m c t h0 h1]
    frame_open
    frame_out
    simp only [read_unread_whole]

/-- What the last point writes. -/
theorem out_C (c : Dev nD) (t : Fin cfg0.N) (h1 : t.val % 8 = 7) :
    (outsAt0 m c t.val t.isLt).1 = k0_pay3 (outsAt0 m c t.val t.isLt).2 := by
  rw [acc_BC m c t (by omega), outsAt0_C m c t (by omega) h1]
  frame_open
  frame_out
  simp only [read_unread_whole]

end

variable {m : (ℓ : Loc nD τ sig) → Buf (Elt Ideal) ℓ} {c : Dev nD} {X : Fin 8192 → Fin 3840 → EReal} {Y : Fin 8192 → Fin 1024 → EReal}

/-- Where the blocks of a point lie. -/
theorem idx (t : Fin cfg0.N) : win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0]) t

/-- The launch holds these two arrays. -/
structure Starts (m : (ℓ : Loc nD τ sig) → Buf (Elt Ideal) ℓ) (c : Dev nD) (X : Fin 8192 → Fin 3840 → EReal) (Y : Fin 8192 → Fin 1024 → EReal) : Prop where
  left : ∀ i j, m ((c : Thread nD τ).loc main_arg0) (ix2 i j) = X i j
  right : ∀ i j, m ((c : Thread nD τ).loc main_arg1) (ix2 i j) = Y i j

/-- The column of the left operand that row `r` of a point's accumulator stands for. -/
def colOf (n : ℕ) (h : n < 16) (r : Fin 1920) : Fin 3840 := ⟨1920 * (n / 8) + r.val, by omega⟩

/-- A point's blocks, with the product added to an accumulator. -/
theorem block_at (S : Starts m c X Y) (t : Fin cfg0.N) (acc : Vec Ideal S1920x1024 .f32) (r : Fin 1920) (l : Fin 1024) :
    k0_pay2 acc (iblk m c 0 t) (iblk m c 1 t) (ix2 r l)
      = acc (ix2 r l) + ∑ k : Fin 1024, rowTerm X Y (colOf t.val t.isLt r) l ⟨1024 * (t.val % 8) + k.val, by omega⟩ := by
  pointwise [k0_pay2]
  refine congrArg (_ + ·) (Finset.sum_congr rfl fun k _ => congrArg₂ (· * ·) (Eq.trans ?_ (S.left _ _)) (Eq.trans ?_ (S.right _ _)))
  · blk_ext! [iblk, V, idx t, colOf]
  · blk_ext! [iblk, V, idx t]

/-- What the accumulator holds after a point: the sum over the rows seen so far. -/
theorem acc_at (S : Starts m c X Y) (r : Fin 1920) (l : Fin 1024) (n : ℕ) (hn : n < cfg0.N) :
    (outsAt0 m c n hn).2 (ix2 r l) = firstRows (rowTerm X Y (colOf n hn r) l) (1024 * (n % 8) + 1024) := by
  refine firstRows_of_steps (fun n hn => (outsAt0 m c n hn).2 (ix2 r l)) (fun n hn => rowTerm X Y (colOf n hn r) l) ?_ ?_ ?_ n hn
  · intro n h h0
    have e : n / 8 = (n - 1) / 8 := by omega
    simp only [colOf, e]
  · intro n h h0
    refine ((congrFun (acc_A m c ⟨n, h⟩ h0) _).trans (block_at S ⟨n, h⟩ _ r l)).trans ?_
    refine Eq.trans (congrArg (· + _) ?_) (zero_add _)
    pointwise [k0_pay1]
  · intro n h h0
    exact (congrFun (acc_BC m c ⟨n, h⟩ h0) _).trans (block_at S ⟨n, h⟩ _ r l)

/-- What the last point of a block writes. -/
theorem out_at (S : Starts m c X Y) (t : Fin cfg0.N) (h7 : t.val % 8 = 7) (r : Fin 1920) (l : Fin 1024) :
    (outsAt0 m c t.val t.isLt).1 (ix2 r l) = ∑ i, X i (colOf t.val t.isLt r) * Y i l := by
  have e := acc_at S r l t.val t.isLt
  rw [h7, firstRows_all] at e
  rw [out_C m c t h7]
  pointwise [k0_pay3]
  exact e

/-- The array the idealized kernel ends with. -/
theorem final (S : Starts m c X Y) : (dats m 0 c).arrAt 2 cfg0.N = fun y => ∑ i, X i (y 0) * Y i (y 1) := by
  refine (dats m 0 c).arrAt_eq_of_covers 2 _ (by decide +kernel) fun t hf y => ?_
  have h7 : t.val % 8 = 7 := (flush0_2 t).mp hf
  obtain ⟨a, b, rfl⟩ : ∃ (a : Fin 1920) (b : Fin 1024), y = ix2 a b := ⟨y 0, y 1, by funext d; fin_cases d <;> rfl⟩
  rw [after0_2]
  refine Eq.trans ?_ ((out_at S t h7 a b).trans ?_)
  · blk_simp
  · have e : (win0_2.blk t).view.emb (ix2 a b) = ix2 (colOf t.val t.isLt a) b := by
      blk_ext [idx t, colOf]
    show _ = ∑ i, X i ((win0_2.blk t).view.emb (ix2 a b) 0) * Y i ((win0_2.blk t).view.emb (ix2 a b) 1)
    rw [e]
    rfl

/-- What the run ends with. -/
theorem run_at (X : Dev nD → Fin 8192 → Fin 3840 → EReal) (Y : Dev nD → Fin 8192 → Fin 1024 → EReal) (m : (ℓ : Loc nD τ sig) → Buf (Elt Ideal) ℓ)
    (ρ : Dev nD → PrngReg) (S : ∀ c, Starts m c (X c) (Y c)) :
    θ_run defs (onTc (τ := τ) (main (F := Ideal))) ⟨m, fun _ => 0, ρ⟩ fun r => ∀ c : Dev nD,
      r.2.mem ((c : Thread nD τ).loc main_v0) = (fun y => ∑ i, X c i (y 0) * Y c i (y 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final (S c)), (h c).2⟩) (Cert.Kernel5Ideal.Value.run_blocks m ρ)

end Cert.Kernel5Ideal.Grad

namespace Cert.Proof

open Idealize.ShloMosaic Idealize.ShloMosaic.TcCoe Idealize.SL.Sem

instance kernel5Facts : Cert.Kernel5Ideal.Facts := Cert.Kernel5Ideal.Gen.facts
instance reference5Facts : Cert.Reference5Ideal.Facts := Cert.Reference5Ideal.Gen.facts

/-- The reference's term, at an index. -/
theorem grad_in_reference (x : FVec Ideal Cert.Reference5Ideal.S8192x3840 .bf16) (y : FVec Ideal Cert.Reference5Ideal.S8192x1024 .bf16)
    (r : Fin 3840) (l : Fin 1024) :
    truncf .bf16 (transpose Cert.Reference5Ideal.S3840x1024 [1, 0] (transpose Cert.Reference5Ideal.S1024x3840 [1, 0]
      (Host.dotGeneral Cert.Reference5Ideal.dot_S8192x3840_S8192x1024_S3840x1024_0_0_1_1_n_n none (extf .f32 x Cert.Reference5Ideal.Facts₀.bitsLt_bf16_f32)
        (extf .f32 y Cert.Reference5Ideal.Facts₀.bitsLt_bf16_f32)) Cert.Reference5Ideal.Facts₀.transposes_S3840x1024_S1024x3840_1_0)
      Cert.Reference5Ideal.Facts₀.transposes_S1024x3840_S3840x1024_1_0) Cert.Reference5Ideal.Facts₀.bitsLt_bf16_f32 (ix2 r l) = ∑ i : Fin 8192, x (ix2 i r) * y (ix2 i l) := by
  pointwise []

/-- Both programs leave the same gradient of w_in. -/
theorem algebraic_in : Cert.algebraic_Kernel5Ideal_Reference5Ideal := by
  intro m ρ m' ρ' _ hargs
  let X : Dev Cert.Kernel5Ideal.nD → Fin 8192 → Fin 3840 → EReal :=
    fun c i j => m ((c.tc : Thread Cert.Kernel5Ideal.nD Cert.Kernel5Ideal.τ).loc Cert.Kernel5Ideal.main_arg0) (ix2 i j)
  let Y : Dev Cert.Kernel5Ideal.nD → Fin 8192 → Fin 1024 → EReal :=
    fun c i j => m ((c.tc : Thread Cert.Kernel5Ideal.nD Cert.Kernel5Ideal.τ).loc Cert.Kernel5Ideal.main_arg1) (ix2 i j)
  refine ⟨fun c y => (∑ i, X c i (y 0) * Y c i (y 1) : EReal),
    Cert.Kernel5Ideal.Grad.run_at X Y m ρ fun c => ⟨fun _ _ => rfl, fun _ _ => rfl⟩,
    (θ_run Cert.Reference5Ideal.defs _ _).mono (fun r h c => ⟨(h c).1.trans ?_, (h c).2⟩) (Cert.Reference5Ideal.Value.run m' ρ')⟩
  funext y
  obtain ⟨a, b, rfl⟩ : ∃ (a : Fin 3840) (b : Fin 1024), y = ix2 a b := ⟨y 0, y 1, by funext d; fin_cases d <;> rfl⟩
  rw [(hargs c).1, (hargs c).2]
  exact grad_in_reference _ _ a b

end Cert.Proof

end
-- ==== Proof.GradOut.lean ====
/-
  The gradient of w_out, and of w_attn_up (one program computes both): what the idealized kernel leaves in its array, and that the reference leaves the same.
-/
module

public import proofs.«01_k».proof.Proof.Gen.Kernel6Ideal.Value
public import proofs.«01_k».proof.Proof.Gen.Reference6Ideal.Run
public import proofs.«01_k».proof.Defs
public import proofs.«01_k».proof.Proof.RowSums

@[expose] public section

set_option maxRecDepth 16384

noncomputable section

namespace Cert.Kernel6Ideal.Grad

open Idealize.ShloMosaic Idealize.ShloMosaic.TcCoe Idealize.ShloMosaic.Tactic Idealize.SL.Sem
open Cert.Kernel6Ideal Cert.Kernel6Ideal.Gen Cert.Rows

section

variable {F : FTy → Type} [FloatOps F] (m : (ℓ : Loc nD τ sig) → Buf (Elt F) ℓ)

/-- What the first point leaves in the accumulator. -/
theorem acc_A (c : Dev nD) (t : Fin cfg0.N) (h0 : t.val % 8 = 0) :
    (outsAt0 m c t.val t.isLt).2 = k0_pay2 k0_pay1 (iblk m c 0 t) (iblk m c 1 t) := by
  rw [outsAt0_A m c t h0 (by omega)]
  frame_open
  frame_out

/-- What a later point leaves there. -/
theorem acc_BC (c : Dev nD) (t : Fin cfg0.N) (h0 : ¬ t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_open
    frame_out
    simp only [read_unread_whole]
  · rw [outsAt0_B m c t h0 h1]
    frame_open
    frame_out
    simp only [read_unread_whole]

/-- What the last point writes. -/
theorem out_C (c : Dev nD) (t : Fin cfg0.N) (h1 : t.val % 8 = 7) :
    (outsAt0 m c t.val t.isLt).1 = k0_pay3 (outsAt0 m c t.val t.isLt).2 := by
  rw [acc_BC m c t (by omega), outsAt0_C m c t (by omega) h1]
  frame_open
  frame_out
  simp only [read_unread_whole]

end

variable {m : (ℓ : Loc nD τ sig) → Buf (Elt Ideal) ℓ} {c : Dev nD}

/-- Where the blocks of a point lie. -/
theorem idx (t : Fin cfg0.N) : win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0]) t

/-- A row's share of an entry of the gradient. -/
def term (m : (ℓ : Loc nD τ sig) → Buf (Elt Ideal) ℓ) (c : Dev nD) (r : Fin 1024) (l : Fin 1024) : Fin 8192 → EReal :=
  rowTerm (fun i j => m ((c : Thread nD τ).loc main_arg0) (ix2 i j)) (fun i j => m ((c : Thread nD τ).loc main_arg1) (ix2 i j)) r l

/-- A point's blocks, with the product added to an accumulator. -/
theorem block_at (t : Fin cfg0.N) (acc : Vec Ideal S1024x1024 .f32) (r : Fin 1024) (l : Fin 1024) :
    k0_pay2 acc (iblk m c 0 t) (iblk m c 1 t) (ix2 r l)
      = acc (ix2 r l) + ∑ k : Fin 1024, term m c r l ⟨1024 * (t.val % 8) + k.val, by omega⟩ := by
  have ht : t.val % 8 = t.val := Nat.mod_eq_of_lt t.isLt
  pointwise [k0_pay2]
  refine congrArg (_ + ·) (Finset.sum_congr rfl fun k _ => congrArg₂ (· * ·) ?_ ?_)
  · blk_ext! [iblk, V, idx t, ht]
  · blk_ext! [iblk, V, idx t, ht]

/-- What the accumulator holds after a point: the sum over the rows seen so far. -/
theorem acc_at (r : Fin 1024) (l : Fin 1024) (n : ℕ) (hn : n < cfg0.N) :
    (outsAt0 m c n hn).2 (ix2 r l) = firstRows (term m c r l) (1024 * (n % 8) + 1024) := by
  refine firstRows_of_steps (fun n hn => (outsAt0 m c n hn).2 (ix2 r l)) (fun _ _ => term m c r l) (fun _ _ _ => rfl) ?_ ?_ n hn
  · intro n h h0
    refine ((congrFun (acc_A m c ⟨n, h⟩ h0) _).trans (block_at ⟨n, h⟩ _ r l)).trans ?_
    refine Eq.trans (congrArg (· + _) ?_) (zero_add _)
    pointwise [k0_pay1]
  · intro n h h0
    exact (congrFun (acc_BC m c ⟨n, h⟩ h0) _).trans (block_at ⟨n, h⟩ _ r l)

/-- What the last point writes. -/
theorem out_at (t : Fin cfg0.N) (h7 : t.val % 8 = 7) (r : Fin 1024) (l : Fin 1024) :
    (outsAt0 m c t.val t.isLt).1 (ix2 r l) = ∑ i, term m c r l i := by
  have e := acc_at (m := m) (c := c) r l t.val t.isLt
  rw [h7, firstRows_all] at e
  rw [out_C m c t h7]
  pointwise [k0_pay3]
  exact e

/-- The array the idealized kernel ends with. -/
theorem final : (dats m 0 c).arrAt 2 cfg0.N = fun y => ∑ i, term m c (y 0) (y 1) i := by
  refine (dats m 0 c).arrAt_eq_of_covers 2 _ (by decide +kernel) fun t hf y => ?_
  have h7 : t.val % 8 = 7 := (flush0_2 t).mp hf
  obtain ⟨a, b, rfl⟩ : ∃ (a : Fin 1024) (b : Fin 1024), y = ix2 a b := ⟨y 0, y 1, by funext d; fin_cases d <;> rfl⟩
  rw [after0_2]
  refine Eq.trans ?_ ((out_at (m := m) (c := c) t h7 a b).trans ?_)
  · blk_simp
  · have e : (win0_2.blk t).view.emb (ix2 a b) = ix2 a b := by
      blk_ext [idx t]
    show _ = ∑ i, term m c ((win0_2.blk t).view.emb (ix2 a b) 0) ((win0_2.blk t).view.emb (ix2 a b) 1) i
    rw [e]
    rfl

/-- What the run ends with. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (fun y => ∑ i, term m c (y 0) (y 1) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans final, (h c).2⟩) (Cert.Kernel6Ideal.Value.run_blocks m ρ)

end Cert.Kernel6Ideal.Grad

namespace Cert.Proof

open Idealize.ShloMosaic Idealize.ShloMosaic.TcCoe Idealize.SL.Sem

instance kernel6Facts : Cert.Kernel6Ideal.Facts := Cert.Kernel6Ideal.Gen.facts
instance reference6Facts : Cert.Reference6Ideal.Facts := Cert.Reference6Ideal.Gen.facts

/-- The reference's term, at an index. -/
theorem grad_out_reference (x : FVec Ideal Cert.Reference6Ideal.S8192x1024 .bf16) (y : FVec Ideal Cert.Reference6Ideal.S8192x1024 .bf16)
    (r : Fin 1024) (l : Fin 1024) :
    truncf .bf16 (transpose Cert.Reference6Ideal.S1024x1024 [1, 0]
      (Host.dotGeneral Cert.Reference6Ideal.dot_S8192x1024_S8192x1024_S1024x1024_0_0_1_1_n_n none (extf .f32 y Cert.Reference6Ideal.Facts₀.bitsLt_bf16_f32)
        (extf .f32 x Cert.Reference6Ideal.Facts₀.bitsLt_bf16_f32)) Cert.Reference6Ideal.Facts₀.transposes_S1024x1024_S1024x1024_1_0) Cert.Reference6Ideal.Facts₀.bitsLt_bf16_f32 (ix2 r l) = ∑ i : Fin 8192, x (ix2 i r) * y (ix2 i l) := by
  pointwise []
  exact Finset.sum_congr rfl fun i _ => mul_comm _ _

/-- Both programs leave the same gradient of w_out (and of w_attn_up). -/
theorem algebraic_out : Cert.algebraic_Kernel6Ideal_Reference6Ideal := by
  intro m ρ m' ρ' _ hargs
  refine ⟨fun c y => (∑ i, Cert.Kernel6Ideal.Grad.term m c (y 0) (y 1) i : EReal), Cert.Kernel6Ideal.Grad.run_at m ρ,
    (θ_run Cert.Reference6Ideal.defs _ _).mono (fun r h c => ⟨(h c).1.trans ?_, (h c).2⟩) (Cert.Reference6Ideal.Value.run m' ρ')⟩
  funext y
  obtain ⟨a, b, rfl⟩ : ∃ (a : Fin 1024) (b : Fin 1024), y = ix2 a b := ⟨y 0, y 1, by funext d; fin_cases d <;> rfl⟩
  rw [(hargs c).1, (hargs c).2]
  exact grad_out_reference _ _ a b

end Cert.Proof

end
-- ==== Proof.GradPool.lean ====
/-
  The gradient of w_pool_up: what the idealized kernel leaves in its array, and that the reference leaves the same.
-/
module

public import proofs.«01_k».proof.Proof.Gen.Kernel7Ideal.Value
public import proofs.«01_k».proof.Proof.Gen.Reference7Ideal.Run
public import proofs.«01_k».proof.Defs
public import proofs.«01_k».proof.Proof.RowSums

@[expose] public section

set_option maxRecDepth 16384

noncomputable section

namespace Cert.Kernel7Ideal.Grad

open Idealize.ShloMosaic Idealize.ShloMosaic.TcCoe Idealize.ShloMosaic.Tactic Idealize.SL.Sem
open Cert.Kernel7Ideal Cert.Kernel7Ideal.Gen Cert.Rows

section

variable {F : FTy → Type} [FloatOps F] (m : (ℓ : Loc nD τ sig) → Buf (Elt F) ℓ)

/-- What the first point leaves in the accumulator. -/
theorem acc_A (c : Dev nD) (t : Fin cfg0.N) (h0 : t.val % 8 = 0) :
    (outsAt0 m c t.val t.isLt).2 = k0_pay2 k0_pay1 (iblk m c 0 t) (iblk m c 1 t) := by
  rw [outsAt0_A m c t h0 (by omega)]
  frame_open
  frame_out

/-- What a later point leaves there. -/
theorem acc_BC (c : Dev nD) (t : Fin cfg0.N) (h0 : ¬ t.val % 8 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    frame_open
    frame_out
    simp only [read_unread_whole]
  · rw [outsAt0_B m c t h0 h1]
    frame_open
    frame_out
    simp only [read_unread_whole]

/-- What the last point writes. -/
theorem out_C (c : Dev nD) (t : Fin cfg0.N) (h1 : t.val % 8 = 7) :
    (outsAt0 m c t.val t.isLt).1 = k0_pay3 (outsAt0 m c t.val t.isLt).2 := by
  rw [acc_BC m c t (by omega), outsAt0_C m c t (by omega) h1]
  frame_open
  frame_out
  simp only [read_unread_whole]

end

variable {m : (ℓ : Loc nD τ sig) → Buf (Elt Ideal) ℓ} {c : Dev nD}

/-- Where the blocks of a point lie. -/
theorem idx (t : Fin cfg0.N) : win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0]) t

/-- A row's share of an entry of the gradient. -/
def term (m : (ℓ : Loc nD τ sig) → Buf (Elt Ideal) ℓ) (c : Dev nD) (r : Fin 1024) (l : Fin 512) : Fin 8192 → EReal :=
  rowTerm (fun i j => m ((c : Thread nD τ).loc main_arg0) (ix2 i j)) (fun i j => m ((c : Thread nD τ).loc main_arg1) (ix2 i j)) r l

/-- A point's blocks, with the product added to an accumulator. -/
theorem block_at (t : Fin cfg0.N) (acc : Vec Ideal S1024x512 .f32) (r : Fin 1024) (l : Fin 512) :
    k0_pay2 acc (iblk m c 0 t) (iblk m c 1 t) (ix2 r l)
      = acc (ix2 r l) + ∑ k : Fin 1024, term m c r l ⟨1024 * (t.val % 8) + k.val, by omega⟩ := by
  have ht : t.val % 8 = t.val := Nat.mod_eq_of_lt t.isLt
  pointwise [k0_pay2]
  refine congrArg (_ + ·) (Finset.sum_congr rfl fun k _ => congrArg₂ (· * ·) ?_ ?_)
  · blk_ext! [iblk, V, idx t, ht]
  · blk_ext! [iblk, V, idx t, ht]

/-- What the accumulator holds after a point: the sum over the rows seen so far. -/
theorem acc_at (r : Fin 1024) (l : Fin 512) (n : ℕ) (hn : n < cfg0.N) :
    (outsAt0 m c n hn).2 (ix2 r l) = firstRows (term m c r l) (1024 * (n % 8) + 1024) := by
  refine firstRows_of_steps (fun n hn => (outsAt0 m c n hn).2 (ix2 r l)) (fun _ _ => term m c r l) (fun _ _ _ => rfl) ?_ ?_ n hn
  · intro n h h0
    refine ((congrFun (acc_A m c ⟨n, h⟩ h0) _).trans (block_at ⟨n, h⟩ _ r l)).trans ?_
    refine Eq.trans (congrArg (· + _) ?_) (zero_add _)
    pointwise [k0_pay1]
  · intro n h h0
    exact (congrFun (acc_BC m c ⟨n, h⟩ h0) _).trans (block_at ⟨n, h⟩ _ r l)

/-- What the last point writes. -/
theorem out_at (t : Fin cfg0.N) (h7 : t.val % 8 = 7) (r : Fin 1024) (l : Fin 512) :
    (outsAt0 m c t.val t.isLt).1 (ix2 r l) = ∑ i, term m c r l i := by
  have e := acc_at (m := m) (c := c) r l t.val t.isLt
  rw [h7, firstRows_all] at e
  rw [out_C m c t h7]
  pointwise [k0_pay3]
  exact e

/-- The array the idealized kernel ends with. -/
theorem final : (dats m 0 c).arrAt 2 cfg0.N = fun y => ∑ i, term m c (y 0) (y 1) i := by
  refine (dats m 0 c).arrAt_eq_of_covers 2 _ (by decide +kernel) fun t hf y => ?_
  have h7 : t.val % 8 = 7 := (flush0_2 t).mp hf
  obtain ⟨a, b, rfl⟩ : ∃ (a : Fin 1024) (b : Fin 512), y = ix2 a b := ⟨y 0, y 1, by funext d; fin_cases d <;> rfl⟩
  rw [after0_2]
  refine Eq.trans ?_ ((out_at (m := m) (c := c) t h7 a b).trans ?_)
  · blk_simp
  · have e : (win0_2.blk t).view.emb (ix2 a b) = ix2 a b := by
      blk_ext [idx t]
    show _ = ∑ i, term m c ((win0_2.blk t).view.emb (ix2 a b) 0) ((win0_2.blk t).view.emb (ix2 a b) 1) i
    rw [e]
    rfl

/-- What the run ends with. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (fun y => ∑ i, term m c (y 0) (y 1) i)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans final, (h c).2⟩) (Cert.Kernel7Ideal.Value.run_blocks m ρ)

end Cert.Kernel7Ideal.Grad

namespace Cert.Proof

open Idealize.ShloMosaic Idealize.ShloMosaic.TcCoe Idealize.SL.Sem

instance kernel7Facts : Cert.Kernel7Ideal.Facts := Cert.Kernel7Ideal.Gen.facts
instance reference7Facts : Cert.Reference7Ideal.Facts := Cert.Reference7Ideal.Gen.facts

/-- The reference's term, at an index. -/
theorem grad_pool_reference (x : FVec Ideal Cert.Reference7Ideal.S8192x1024 .bf16) (y : FVec Ideal Cert.Reference7Ideal.S8192x512 .bf16)
    (r : Fin 1024) (l : Fin 512) :
    truncf .bf16 (transpose Cert.Reference7Ideal.S1024x512 [1, 0] (transpose Cert.Reference7Ideal.S512x1024 [1, 0]
      (Host.dotGeneral Cert.Reference7Ideal.dot_S8192x1024_S8192x512_S1024x512_0_0_1_1_n_n none (extf .f32 x Cert.Reference7Ideal.Facts₀.bitsLt_bf16_f32)
        (extf .f32 y Cert.Reference7Ideal.Facts₀.bitsLt_bf16_f32)) Cert.Reference7Ideal.Facts₀.transposes_S1024x512_S512x1024_1_0)
      Cert.Reference7Ideal.Facts₀.transposes_S512x1024_S1024x512_1_0) Cert.Reference7Ideal.Facts₀.bitsLt_bf16_f32 (ix2 r l) = ∑ i : Fin 8192, x (ix2 i r) * y (ix2 i l) := by
  pointwise []

/-- Both programs leave the same gradient of w_pool_up. -/
theorem algebraic_pool : Cert.algebraic_Kernel7Ideal_Reference7Ideal := by
  intro m ρ m' ρ' _ hargs
  refine ⟨fun c y => (∑ i, Cert.Kernel7Ideal.Grad.term m c (y 0) (y 1) i : EReal), Cert.Kernel7Ideal.Grad.run_at m ρ,
    (θ_run Cert.Reference7Ideal.defs _ _).mono (fun r h c => ⟨(h c).1.trans ?_, (h c).2⟩) (Cert.Reference7Ideal.Value.run m' ρ')⟩
  funext y
  obtain ⟨a, b, rfl⟩ : ∃ (a : Fin 1024) (b : Fin 512), y = ix2 a b := ⟨y 0, y 1, by funext d; fin_cases d <;> rfl⟩
  rw [(hargs c).1, (hargs c).2]
  exact grad_pool_reference _ _ a b

end Cert.Proof

end
-- ==== Proof.FfnDown.lean ====
/-
  The end of a feed-forward half step: what the idealized kernel leaves in its array, and that the reference leaves the same.
-/
module

public import proofs.«01_k».proof.Proof.Gen.Kernel8Ideal.Value
public import proofs.«01_k».proof.Proof.Gen.Reference8Ideal.Run
public import proofs.«01_k».proof.Defs
public import proofs.«01_k».proof.Proof.RowSums

@[expose] public section

set_option maxRecDepth 16384

noncomputable section

namespace Cert.Rows

open Idealize.ShloMosaic

/-- A half step's entry: the residual, and half the product with w_down. -/
def halfStep (x : Fin 1024 → EReal) (act : Fin 2816 → EReal) (w : Fin 2816 → Fin 1024 → EReal) (l : Fin 1024) : EReal :=
  x l + Ideal.ofBits .f32 0x3F000000#32 * ∑ k, act k * w k l

end Cert.Rows

namespace Cert.Kernel8Ideal.Down

open Idealize.ShloMosaic Idealize.ShloMosaic.TcCoe Idealize.ShloMosaic.Tactic Idealize.SL.Sem
open Cert.Kernel8Ideal Cert.Kernel8Ideal.Gen Cert.Rows

/-- What a point writes, at an index. -/
theorem out_at (x : Vec Ideal S1024x1024 .f32) (act : Vec Ideal S1024x2816 .bf16) (w : Vec Ideal S2816x1024 .bf16) (r l : Fin 1024) :
    out0_3 x act w (ix2 r l) = halfStep (fun k => x (ix2 r k)) (fun k => act (ix2 r k)) (fun k l => w (ix2 k l)) l := by
  unfold out0_3
  rw [View.canon_unit_zero (by decide), View.ld_unit_zero (by decide), View.ld_unit_zero (by decide), View.ld_unit_zero (by decide)]
  pointwise [k0_pay1]
  rfl

variable {m : (ℓ : Loc nD τ sig) → Buf (Elt Ideal) ℓ} {c : Dev nD}

/-- Where the blocks of a point lie. -/
theorem idx (t : Fin cfg0.N) : win0_0.index t = ![t.val, 0] ∧ win0_1.index t = ![t.val, 0] ∧ win0_2.index t = ![0, 0] ∧ win0_3.index t = ![t.val, 0] :=
  (by decide +kernel : ∀ t : Fin grid0.N, win0_0.index t = ![t.val, 0] ∧ win0_1.index t = ![t.val, 0] ∧ win0_2.index t = ![0, 0] ∧ win0_3.index t = ![t.val, 0]) t

/-- The row of the arrays that a block's row is. -/
def rowOf (n : ℕ) (h : n < 8) (r : Fin 1024) : Fin 8192 := ⟨1024 * n + r.val, by omega⟩

/-- An entry of the result, from the launch's arrays. -/
def result (m : (ℓ : Loc nD τ sig) → Buf (Elt Ideal) ℓ) (c : Dev nD) (r : Fin 8192) (l : Fin 1024) : EReal :=
  halfStep (fun k => m ((c : Thread nD τ).loc main_arg0) (ix2 r k)) (fun k => m ((c : Thread nD τ).loc main_arg1) (ix2 r k))
    (fun k l => m ((c : Thread nD τ).loc main_arg2) (ix2 k l)) l

/-- A point's rows of the result. -/
theorem block_at (t : Fin cfg0.N) (r l : Fin 1024) :
    out0_3 (iblk m c 0 t) (iblk m c 1 t) (iblk m c 2 t) (ix2 r l) = result m c (rowOf t.val t.isLt r) l := by
  rw [out_at]
  have e0 : ∀ k : Fin 1024, iblk m c 0 t (ix2 r k) = m ((c : Thread nD τ).loc main_arg0) (ix2 (rowOf t.val t.isLt r) k) := fun k => by
    blk_ext! [iblk, V, idx t, rowOf]
  have e1 : ∀ k : Fin 2816, iblk m c 1 t (ix2 r k) = m ((c : Thread nD τ).loc main_arg1) (ix2 (rowOf t.val t.isLt r) k) := fun k => by
    blk_ext! [iblk, V, idx t, rowOf]
  have e2 : ∀ (k : Fin 2816) (l : Fin 1024), iblk m c 2 t (ix2 k l) = m ((c : Thread nD τ).loc main_arg2) (ix2 k l) := fun k l => by
    blk_ext! [iblk, V, idx t]
  simp only [result, e0, e1, e2]

/-- The array the idealized kernel ends with. -/
theorem final : (dats m 0 c).arrAt 3 cfg0.N = fun y => result m c (y 0) (y 1) := by
  refine (dats m 0 c).arrAt_eq_of_covers 3 _ (by decide +kernel) fun t hf y => ?_
  obtain ⟨a, b, rfl⟩ : ∃ (a : Fin 1024) (b : Fin 1024), y = ix2 a b := ⟨y 0, y 1, by funext d; fin_cases d <;> rfl⟩
  rw [after0_3]
  refine Eq.trans ?_ ((block_at (m := m) (c := c) t a b).trans ?_)
  · blk_simp
  · have e : (win0_3.blk t).view.emb (ix2 a b) = ix2 (rowOf t.val t.isLt a) b := by
      blk_ext [idx t, rowOf]
    show _ = result m c ((win0_3.blk t).view.emb (ix2 a b) 0) ((win0_3.blk t).view.emb (ix2 a b) 1)
    rw [e]
    rfl

/-- What the run ends with. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = (fun y => result m c (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans final, (h c).2⟩) (Cert.Kernel8Ideal.Value.run_blocks m ρ)

end Cert.Kernel8Ideal.Down

namespace Cert.Proof

open Idealize.ShloMosaic Idealize.ShloMosaic.TcCoe Idealize.SL.Sem Cert.Rows

instance kernel8Facts : Cert.Kernel8Ideal.Facts := Cert.Kernel8Ideal.Gen.facts
instance reference8Facts : Cert.Reference8Ideal.Facts := Cert.Reference8Ideal.Gen.facts

/-- The reference's term, at an index. -/
theorem down_reference (x : FVec Ideal Cert.Reference8Ideal.S8192x1024 .f32) (act : FVec Ideal Cert.Reference8Ideal.S8192x2816 .bf16)
    (w : FVec Ideal Cert.Reference8Ideal.S2816x1024 .bf16) (r : Fin 8192) (l : Fin 1024) :
    addf x (mulf (broadcastInDim Cert.Reference8Ideal.S8192x1024 ![] Cert.Reference8Ideal.Facts₀.bcast_S_S8192x1024 (constant Cert.Reference8Ideal.S_ .f32 0x3F000000#32))
      (Host.dotGeneral Cert.Reference8Ideal.dot_S8192x2816_S2816x1024_S8192x1024_1_0_0_1_n_n none (extf .f32 act Cert.Reference8Ideal.Facts₀.bitsLt_bf16_f32)
        (extf .f32 w Cert.Reference8Ideal.Facts₀.bitsLt_bf16_f32))) (ix2 r l)
      = halfStep (fun k => x (ix2 r k)) (fun k => act (ix2 r k)) (fun k l => w (ix2 k l)) l := by
  pointwise []
  rfl

/-- Both programs leave the same rows. -/
theorem algebraic_ffn_down : Cert.algebraic_Kernel8Ideal_Reference8Ideal := by
  intro m ρ m' ρ' _ hargs
  refine ⟨fun c y => Cert.Kernel8Ideal.Down.result m c (y 0) (y 1), Cert.Kernel8Ideal.Down.run_at m ρ,
    (θ_run Cert.Reference8Ideal.defs _ _).mono (fun r h c => ⟨(h c).1.trans ?_, (h c).2⟩) (Cert.Reference8Ideal.Value.run m' ρ')⟩
  funext y
  obtain ⟨a, b, rfl⟩ : ∃ (a : Fin 8192) (b : Fin 1024), y = ix2 a b := ⟨y 0, y 1, by funext d; fin_cases d <;> rfl⟩
  obtain ⟨e0, e1, e2⟩ := hargs c
  rw [e0, e1, e2]
  exact down_reference _ _ _ a b

end Cert.Proof

end
-- ==== Proof.Norm.lean ====
/-
  A normed row and its products with the rows of a matrix, in the kernel's terms and in the reference's.
-/
module

public import proofs.«01_k».proof.Proof.Gen.Kernel9Ideal
public import proofs.«01_k».proof.Proof.Gen.Kernel9Ideal.Skeleton
public import proofs.«01_k».proof.Proof.Gen.Reference9Ideal
public import proofs.«01_k».proof.Proof.RmsRow

@[expose] public section

set_option maxRecDepth 16384

noncomputable section

namespace Cert.Rows

open Idealize.ShloMosaic

/-- An entry of a normed row. -/
def normed (x g : Fin 1024 → EReal) (l : Fin 1024) : EReal := x l * Ideal.rsqrt (meanSq x) * g l

/-- A normed row's product with row `j` of a matrix. -/
def proj {N : ℕ} (x g : Fin 1024 → EReal) (w : Fin N → Fin 1024 → EReal) (j : Fin N) : EReal := ∑ k, normed x g k * w j k

/-- An entry of the gated activation: the first half of the products through the swish, times the second. -/
def gated (p : Fin 5632 → EReal) (j : Fin 2816) : EReal :=
  p (⟨j.val, by omega⟩ : Fin 5632) * Ideal.logistic (p (⟨j.val, by omega⟩ : Fin 5632)) * p (⟨2816 + j.val, by omega⟩ : Fin 5632)

/-- Rows read out of a matrix from row `lo` on, at an index. -/
theorem ld_rows {N n : ℕ} {e : EltTy} (w : (⟨2, ![N, 1024]⟩ : Shape).Idx → Elt Ideal e) (lo : ℕ)
    (inb : ∀ d, (![lo, 0] : Fin 2 → ℕ) d + (![n, 1024] : Fin 2 → ℕ) d ≤ (⟨2, ![N, 1024]⟩ : Shape).size d) (j : Fin n) (h : lo + j.val < N) (k : Fin 1024) :
    View.ld w (Rect.unit (s := ⟨2, ![N, 1024]⟩) ![lo, 0] ![n, 1024] inb) (ix2 j k) = w (ix2 ⟨lo + j.val, h⟩ k) := by
  refine congrArg w ?_
  funext d
  apply Fin.ext
  match d with
  | ⟨0, _⟩ => exact ValueKit.rect_emb_unit_val _ _ _ _ _
  | ⟨1, _⟩ => exact (ValueKit.rect_emb_unit_val _ _ _ _ _).trans (Nat.zero_add _)

/-- Where an index of a block of columns from column `lo` on lies. -/
theorem emb_columns {M N n : ℕ} (lo : ℕ) (inb : ∀ d, (![0, lo] : Fin 2 → ℕ) d + (![M, n] : Fin 2 → ℕ) d ≤ (⟨2, ![M, N]⟩ : Shape).size d)
    (r : Fin M) (j : Fin n) (h : lo + j.val < N) :
    (Rect.unit (s := ⟨2, ![M, N]⟩) ![0, lo] ![M, n] inb).emb (ix2 r j) = ix2 r ⟨lo + j.val, h⟩ := by
  funext d
  apply Fin.ext
  match d with
  | ⟨0, _⟩ => exact (ValueKit.rect_emb_unit_val _ _ _ _ _).trans (Nat.zero_add _)
  | ⟨1, _⟩ => exact ValueKit.rect_emb_unit_val _ _ _ _ _

end Cert.Rows

namespace Cert.Kernel9Ideal.Up

open Idealize.ShloMosaic Cert.Kernel9Ideal Cert.Kernel9Ideal.Gen Cert.Rows

/-- The kernel's normed rows, at an index. -/
theorem normed_at (x : Vec Ideal S512x1024 .f32) (g : Vec Ideal S1x1024 .f32) (r : Fin 512) (l : Fin 1024) :
    k0_pay7 x g (ix2 r l) = normed (fun k => x (ix2 r k)) (fun k => g (ix2 0 k)) l := by
  pointwise [k0_pay7]
  rfl

end Cert.Kernel9Ideal.Up

namespace Cert.Reference9Ideal.Up

open Idealize.ShloMosaic Cert.Reference9Ideal Cert.Reference9Ideal.Gen Cert.Rows

/-- The reference's normed rows. -/
def norms (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))))))
    (broadcastInDim S8192x1024 ![0, 1] bcast_S1x1024_S8192x1024_0_1 (broadcastInDim S1x1024 ![1] bcast_S1024_S1x1024_1 (shapeCast _ g shapeCasts_S1x1024_S1024)))

/-- The reference's normed rows, at an index. -/
theorem norms_at (x : FVec Ideal S8192x1024 .f32) (g : FVec Ideal S1x1024 .f32) (r : Fin 8192) (l : Fin 1024) :
    norms x g (ix2 r l) = normed (fun k => x (ix2 r k)) (fun k => g (ix2 0 k)) l := by
  unfold norms
  pointwise []
  rfl

end Cert.Reference9Ideal.Up

end
-- ==== Proof.FfnUp.lean ====
/-
  The start of a feed-forward half step: what the idealized kernel leaves in its three arrays, and that the reference leaves the same.
-/
module

public import proofs.«01_k».proof.Proof.Gen.Kernel9Ideal.Value
public import proofs.«01_k».proof.Proof.Gen.Reference9Ideal.Run
public import proofs.«01_k».proof.Defs
public import proofs.«01_k».proof.Proof.Norm

@[expose] public section

set_option maxRecDepth 16384

noncomputable section

namespace Cert.Kernel9Ideal.Up

open Idealize.ShloMosaic Idealize.ShloMosaic.TcCoe Idealize.ShloMosaic.Tactic Idealize.SL.Sem
open Cert.Kernel9Ideal Cert.Kernel9Ideal.Gen Cert.Rows

/-- The products of a block of rows with the rows of a matrix. -/
def products (n : Vec Ideal S512x1024 .bf16) (w : Vec Ideal S5632x1024 .bf16) (r : Fin 512) (j : Fin 5632) : EReal :=
  ∑ k : Fin 1024, n (ix2 r k) * w (ix2 j k)

/-- A block of products, at an index. -/
theorem dot_at (n : Vec Ideal S512x1024 .bf16) (w : Vec Ideal S256x1024 .bf16) (r : Fin 512) (j : Fin 256) :
    k0_pay2 n w (ix2 r j) = ∑ k : Fin 1024, n (ix2 r k) * w (ix2 j k) := by
  pointwise [k0_pay2]

/-- A block of products from row `lo` of the matrix on, at an index. -/
theorem slab_at (n : Vec Ideal S512x1024 .bf16) (w : Vec Ideal S5632x1024 .bf16) (lo : ℕ)
    (inb : ∀ d, (![lo, 0] : Fin 2 → ℕ) d + S256x1024.size d ≤ S5632x1024.size d) (r : Fin 512) (j : Fin 256) (h : lo + j.val < 5632) :
    k0_pay2 n (View.ld w (Rect.unit (s := S5632x1024) ![lo, 0] S256x1024.size inb)) (ix2 r j) = products n w r ⟨lo + j.val, h⟩ :=
  (dot_at n _ r j).trans (Finset.sum_congr rfl fun k _ => congrArg (_ * ·) (ld_rows w lo inb j h k))

/-- What a store of products holds agrees with the products at the store's place. -/
theorem tile_at (n : Vec Ideal S512x1024 .bf16) (w : Vec Ideal S5632x1024 .bf16) (lo : ℕ)
    (inb : ∀ d, (![lo, 0] : Fin 2 → ℕ) d + S256x1024.size d ≤ S5632x1024.size d)
    (inb' : ∀ d, (![0, lo] : Fin 2 → ℕ) d + S512x256.size d ≤ S512x5632.size d) (x : S512x256.Idx) :
    k0_pay4 n (View.ld w (Rect.unit (s := S5632x1024) ![lo, 0] S256x1024.size inb)) x
      = (fun y : S512x5632.Idx => products n w (y 0) (y 1)) ((Rect.unit (s := S512x5632) ![0, lo] S512x256.size inb').emb x) := by
  obtain ⟨a, b, rfl⟩ : ∃ (a : Fin 512) (b : Fin 256), x = ix2 a b := ⟨x 0, x 1, by funext d; fin_cases d <;> rfl⟩
  have h : lo + b.val < 5632 := by have := inb' 1; change lo + 256 ≤ 5632 at this; omega
  rw [emb_columns (M := 512) (N := 5632) (n := 256) lo inb' a b h]
  exact slab_at n w lo inb a b h

/-- What a store of the activation holds agrees with the gated products at the store's place. -/
theorem gate_at (n : Vec Ideal S512x1024 .bf16) (w : Vec Ideal S5632x1024 .bf16) (lo : ℕ)
    (inb : ∀ d, (![lo, 0] : Fin 2 → ℕ) d + S256x1024.size d ≤ S5632x1024.size d)
    (inb2 : ∀ d, (![2816 + lo, 0] : Fin 2 → ℕ) d + S256x1024.size d ≤ S5632x1024.size d)
    (inb' : ∀ d, (![0, lo] : Fin 2 → ℕ) d + S512x256.size d ≤ S512x2816.size d) (x : S512x256.Idx) :
    k0_pay6 n (View.ld w (Rect.unit (s := S5632x1024) ![lo, 0] S256x1024.size inb)) (View.ld w (Rect.unit (s := S5632x1024) ![2816 + lo, 0] S256x1024.size inb2)) x
      = (fun y : S512x2816.Idx => gated (products n w (y 0)) (y 1)) ((Rect.unit (s := S512x2816) ![0, lo] S512x256.size inb').emb x) := by
  obtain ⟨a, b, rfl⟩ : ∃ (a : Fin 512) (b : Fin 256), x = ix2 a b := ⟨x 0, x 1, by funext d; fin_cases d <;> rfl⟩
  have h : lo + b.val < 2816 := by have := inb' 1; change lo + 256 ≤ 2816 at this; omega
  rw [emb_columns (M := 512) (N := 2816) (n := 256) lo inb' a b h]
  have e1 := slab_at n w lo inb a b (by omega)
  have e2 := slab_at n w (2816 + lo) inb2 a b (by omega)
  have e3 : (⟨2816 + lo + b.val, by omega⟩ : Fin 5632) = ⟨2816 + (lo + b.val), by omega⟩ := Fin.ext (Nat.add_assoc _ _ _)
  rw [e3] at e2
  exact congrArg₂ (· * ·) (congrArg (fun z : EReal => z * Ideal.logistic z) e1) e2

variable (x : Vec Ideal S512x1024 .f32) (g : Vec Ideal S1x1024 .f32) (w : Vec Ideal S5632x1024 .bf16)

/-- The normed rows a point stores. -/
theorem norm_out (r : Fin 512) (l : Fin 1024) :
    out0_3 x g w (ix2 r l) = normed (fun k => x (ix2 r k)) (fun k => g (ix2 0 k)) l := by
  unfold out0_3
  rw [View.canon_unit_zero (by decide), View.ld_unit_zero (by decide), View.ld_unit_zero (by decide)]
  exact normed_at x g r l

/-- The normed rows as the stores below them read them. -/
theorem norm_read (w : Vec Ideal S5632x1024 .bf16) : k0_pay58 x g w = k0_pay7 x g := by
  unfold k0_pay58
  rw [View.ld_unit_zero (by decide), View.ld_unit_zero (by decide)]

/-- The products a point stores. -/
theorem products_out (y : S512x5632.Idx) : out0_4 x g w y = products (k0_pay7 x g) w (y 0) (y 1) := by
  rw [← norm_read x g w]
  refine View.canon_apply_of_pieces (Val := Elt Ideal) (e := .bf16) (fun y : S512x5632.Idx => products (k0_pay58 x g w) w (y 0) (y 1)) _ ?_ y (cover0_4 _ _ _ _ _ _ _ _ _ _ _ _ _ _ _ _ _ _ _ _ _ _ y)
  intro q hq
  simp only [List.mem_cons, List.not_mem_nil, or_false] at hq
  rcases hq with rfl | rfl | rfl | rfl | rfl | rfl | rfl | rfl | rfl | rfl | rfl | rfl | rfl | rfl | rfl | rfl | rfl | rfl | rfl | rfl | rfl | rfl
  all_goals exact tile_at (k0_pay58 x g w) w _ _ (by decide)

/-- The activation a point stores. -/
theorem gated_out (y : S512x2816.Idx) : out0_5 x g w y = gated (products (k0_pay7 x g) w (y 0)) (y 1) := by
  rw [← norm_read x g w]
  refine View.canon_apply_of_pieces (Val := Elt Ideal) (e := .bf16) (fun y : S512x2816.Idx => gated (products (k0_pay58 x g w) w (y 0)) (y 1)) _ ?_ y (cover0_5 _ _ _ _ _ _ _ _ _ _ _ y)
  intro q hq
  simp only [List.mem_cons, List.not_mem_nil, or_false] at hq
  rcases hq with rfl | rfl | rfl | rfl | rfl | rfl | rfl | rfl | rfl | rfl | rfl
  all_goals exact gate_at (k0_pay58 x g w) w _ _ _ (by decide)

/-- The products, from the block of x. -/
theorem products_eq (r : Fin 512) : products (k0_pay7 x g) w r = proj (fun k => x (ix2 r k)) (fun k => g (ix2 0 k)) (fun j k => w (ix2 j k)) := by
  funext j
  exact Finset.sum_congr rfl fun k _ => congrArg (· * _) (normed_at x g r k)

variable {m : (ℓ : Loc nD τ sig) → Buf (Elt Ideal) ℓ} {c : Dev nD}

/-- Where the blocks of a point lie. -/
theorem idx (t : Fin cfg0.N) : win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![t.val, 0] ∧ win0_4.index t = ![t.val, 0] ∧ win0_5.index t = ![t.val, 0]) t

/-- The row of the arrays that a block's row is. -/
def rowOf (n : ℕ) (h : n < 16) (r : Fin 512) : Fin 8192 := ⟨512 * n + r.val, by omega⟩

/-- A row of x. -/
def xRow (m : (ℓ : Loc nD τ sig) → Buf (Elt Ideal) ℓ) (c : Dev nD) (r : Fin 8192) (k : Fin 1024) : EReal := m ((c : Thread nD τ).loc main_arg0) (ix2 r k)
/-- The norm's gain. -/
def gRow (m : (ℓ : Loc nD τ sig) → Buf (Elt Ideal) ℓ) (c : Dev nD) (k : Fin 1024) : EReal := m ((c : Thread nD τ).loc main_arg1) (ix2 0 k)
/-- The matrix. -/
def wRows (m : (ℓ : Loc nD τ sig) → Buf (Elt Ideal) ℓ) (c : Dev nD) (j : Fin 5632) (k : Fin 1024) : EReal := m ((c : Thread nD τ).loc main_arg2) (ix2 j k)

/-- A point's rows of x. -/
theorem x_block (t : Fin cfg0.N) (r : Fin 512) : (fun k : Fin 1024 => iblk m c 0 t (ix2 r k)) = xRow m c (rowOf t.val t.isLt r) := by
  funext k
  show iblk m c 0 t (ix2 r k) = m ((c : Thread nD τ).loc main_arg0) (ix2 (rowOf t.val t.isLt r) k)
  blk_ext! [iblk, V, idx t, rowOf]

/-- A point's gain. -/
theorem g_block (t : Fin cfg0.N) : (fun k : Fin 1024 => iblk m c 1 t (ix2 (0 : Fin 1) k)) = gRow m c := by
  funext k
  show iblk m c 1 t (ix2 (0 : Fin 1) k) = m ((c : Thread nD τ).loc main_arg1) (ix2 0 k)
  blk_ext! [iblk, V, idx t]

/-- A point's matrix. -/
theorem w_block (t : Fin cfg0.N) : (fun (j : Fin 5632) (k : Fin 1024) => iblk m c 2 t (ix2 j k)) = wRows m c := by
  funext j k
  show iblk m c 2 t (ix2 j k) = m ((c : Thread nD τ).loc main_arg2) (ix2 j k)
  blk_ext! [iblk, V, idx t]

/-- The products of a point, from the launch's arrays. -/
theorem products_block (t : Fin cfg0.N) (r : Fin 512) :
    products (k0_pay7 (iblk m c 0 t) (iblk m c 1 t)) (iblk m c 2 t) r = proj (xRow m c (rowOf t.val t.isLt r)) (gRow m c) (wRows m c) :=
  (products_eq (iblk m c 0 t) (iblk m c 1 t) (iblk m c 2 t) r).trans (by rw [x_block, g_block, w_block])

/-- The normed rows the idealized kernel ends with. -/
theorem final_n : (dats m 0 c).arrAt 3 cfg0.N = fun y => normed (xRow m c (y 0)) (gRow m c) (y 1) := by
  refine (dats m 0 c).arrAt_eq_of_covers 3 _ (by decide +kernel) fun t hf y => ?_
  obtain ⟨a, b, rfl⟩ : ∃ (a : Fin 512) (b : Fin 1024), y = ix2 a b := ⟨y 0, y 1, by funext d; fin_cases d <;> rfl⟩
  rw [after0_3]
  refine Eq.trans ?_ ((norm_out (iblk m c 0 t) (iblk m c 1 t) (iblk m c 2 t) a b).trans ?_)
  · blk_simp
  · have e : (win0_3.blk t).view.emb (ix2 a b) = ix2 (rowOf t.val t.isLt a) b := by
      blk_ext [idx t, rowOf]
    show _ = normed (xRow m c ((win0_3.blk t).view.emb (ix2 a b) 0)) (gRow m c) ((win0_3.blk t).view.emb (ix2 a b) 1)
    rw [e, x_block, g_block]
    rfl

/-- The products the idealized kernel ends with. -/
theorem final_ab : (dats m 0 c).arrAt 4 cfg0.N = fun y => proj (xRow m c (y 0)) (gRow m c) (wRows m c) (y 1) := by
  refine (dats m 0 c).arrAt_eq_of_covers 4 _ (by decide +kernel) fun t hf y => ?_
  obtain ⟨a, b, rfl⟩ : ∃ (a : Fin 512) (b : Fin 5632), y = ix2 a b := ⟨y 0, y 1, by funext d; fin_cases d <;> rfl⟩
  rw [after0_4]
  refine Eq.trans ?_ ((products_out (iblk m c 0 t) (iblk m c 1 t) (iblk m c 2 t) (ix2 a b)).trans ?_)
  · blk_simp
  · have e : (win0_4.blk t).view.emb (ix2 a b) = ix2 (rowOf t.val t.isLt a) b := by
      blk_ext [idx t, rowOf]
    show products (k0_pay7 (iblk m c 0 t) (iblk m c 1 t)) (iblk m c 2 t) a b
      = proj (xRow m c ((win0_4.blk t).view.emb (ix2 a b) 0)) (gRow m c) (wRows m c) ((win0_4.blk t).view.emb (ix2 a b) 1)
    rw [e, products_block]
    rfl

/-- The activation the idealized kernel ends with. -/
theorem final_act : (dats m 0 c).arrAt 5 cfg0.N = fun y => gated (proj (xRow m c (y 0)) (gRow m c) (wRows m c)) (y 1) := by
  refine (dats m 0 c).arrAt_eq_of_covers 5 _ (by decide +kernel) fun t hf y => ?_
  obtain ⟨a, b, rfl⟩ : ∃ (a : Fin 512) (b : Fin 2816), y = ix2 a b := ⟨y 0, y 1, by funext d; fin_cases d <;> rfl⟩
  rw [after0_5]
  refine Eq.trans ?_ ((gated_out (iblk m c 0 t) (iblk m c 1 t) (iblk m c 2 t) (ix2 a b)).trans ?_)
  · blk_simp
  · have e : (win0_5.blk t).view.emb (ix2 a b) = ix2 (rowOf t.val t.isLt a) b := by
      blk_ext [idx t, rowOf]
    show gated (products (k0_pay7 (iblk m c 0 t) (iblk m c 1 t)) (iblk m c 2 t) a) b
      = gated (proj (xRow m c ((win0_5.blk t).view.emb (ix2 a b) 0)) (gRow m c) (wRows m c)) ((win0_5.blk t).view.emb (ix2 a b) 1)
    rw [e, products_block]
    rfl

/-- What the run ends with. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (fun y => normed (xRow m c (y 0)) (gRow m c) (y 1))
      ∧ r.2.mem ((c : Thread nD τ).loc main_v0_1) = (fun y => proj (xRow m c (y 0)) (gRow m c) (wRows m c) (y 1))
      ∧ r.2.mem ((c : Thread nD τ).loc main_v0_2) = (fun y => gated (proj (xRow m c (y 0)) (gRow m c) (wRows m c)) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans final_n, (h c).2.1.trans final_ab, (h c).2.2.1.trans final_act, (h c).2.2.2⟩)
    (Cert.Kernel9Ideal.Value.run_blocks m ρ)

end Cert.Kernel9Ideal.Up

namespace Cert.Reference9Ideal.Up

open Idealize.ShloMosaic Cert.Reference9Ideal Cert.Reference9Ideal.Gen Cert.Rows

variable (x : FVec Ideal S8192x1024 .f32) (g : FVec Ideal S1x1024 .f32) (w : FVec Ideal S5632x1024 .bf16)

/-- The reference's products. -/
def prods : FVec Ideal S8192x5632 .f32 :=
  Host.dotGeneral dot_S8192x1024_S1024x5632_S8192x5632_1_0_0_1_n_n none (norms x g)
    (transpose S1024x5632 [1, 0] (extf .f32 w bitsLt_bf16_f32) transposes_S5632x1024_S1024x5632_1_0)

/-- The reference's products, at an index. -/
theorem prods_at (r : Fin 8192) (j : Fin 5632) :
    prods x g w (ix2 r j) = proj (fun k => x (ix2 r k)) (fun k => g (ix2 0 k)) (fun j k => w (ix2 j k)) j := by
  unfold prods
  pointwise []
  exact Finset.sum_congr rfl fun k _ => congrArg (· * _) (norms_at x g r k)

/-- The gated activation of any products, in the reference's terms. -/
theorem gate_reference (p : FVec Ideal S8192x5632 .f32) (r : Fin 8192) (j : Fin 2816) :
    truncf .bf16 (mulf (mulf (extractStridedSlice S8192x2816 ![0, 0] p slices_S8192x5632_S8192x2816_0_0)
      (Host.divf (broadcastInDim S8192x2816 ![] bcast_S_S8192x2816 (constant S_ .f32 0x3F800000#32))
        (addf (broadcastInDim S8192x2816 ![] bcast_S_S8192x2816 (constant S_ .f32 0x3F800000#32))
          (Host.exp (Host.negf (extractStridedSlice S8192x2816 ![0, 0] p slices_S8192x5632_S8192x2816_0_0))))))
      (extractStridedSlice S8192x2816 ![0, 2816] p slices_S8192x5632_S8192x2816_0_2816)) bitsLt_bf16_f32 (ix2 r j)
      = gated (fun j => p (ix2 r j)) j := by
  pointwise []
  rfl

end Cert.Reference9Ideal.Up

namespace Cert.Proof

open Idealize.ShloMosaic Idealize.ShloMosaic.TcCoe Idealize.SL.Sem Cert.Rows

instance kernel9Facts : Cert.Kernel9Ideal.Facts := Cert.Kernel9Ideal.Gen.facts
instance reference9Facts : Cert.Reference9Ideal.Facts := Cert.Reference9Ideal.Gen.facts

/-- Both programs leave the same normed rows, products and activation. -/
theorem algebraic_ffn_up : Cert.algebraic_Kernel9Ideal_Reference9Ideal := by
  intro m ρ m' ρ' _ hargs
  refine ⟨fun c y => (normed (Cert.Kernel9Ideal.Up.xRow m c (y 0)) (Cert.Kernel9Ideal.Up.gRow m c) (y 1) : EReal),
    fun c y => (proj (Cert.Kernel9Ideal.Up.xRow m c (y 0)) (Cert.Kernel9Ideal.Up.gRow m c) (Cert.Kernel9Ideal.Up.wRows m c) (y 1) : EReal),
    fun c y => (gated (proj (Cert.Kernel9Ideal.Up.xRow m c (y 0)) (Cert.Kernel9Ideal.Up.gRow m c) (Cert.Kernel9Ideal.Up.wRows m c)) (y 1) : EReal),
    Cert.Kernel9Ideal.Up.run_at m ρ,
    (θ_run Cert.Reference9Ideal.defs _ _).mono (fun r h c => ⟨(h c).1.trans ?_, (h c).2.1.trans ?_, (h c).2.2.1.trans ?_, (h c).2.2.2⟩)
      (Cert.Reference9Ideal.Value.run m' ρ')⟩
  · funext y
    obtain ⟨a, b, rfl⟩ : ∃ (a : Fin 8192) (b : Fin 1024), y = ix2 a b := ⟨y 0, y 1, by funext d; fin_cases d <;> rfl⟩
    rw [(hargs c).1, (hargs c).2.1]
    exact Cert.Reference9Ideal.Up.norms_at _ _ a b
  · funext y
    obtain ⟨a, b, rfl⟩ : ∃ (a : Fin 8192) (b : Fin 5632), y = ix2 a b := ⟨y 0, y 1, by funext d; fin_cases d <;> rfl⟩
    rw [(hargs c).1, (hargs c).2.1, (hargs c).2.2]
    exact Cert.Reference9Ideal.Up.prods_at _ _ _ a b
  · funext y
    obtain ⟨a, b, rfl⟩ : ∃ (a : Fin 8192) (b : Fin 2816), y = ix2 a b := ⟨y 0, y 1, by funext d; fin_cases d <;> rfl⟩
    rw [(hargs c).1, (hargs c).2.1, (hargs c).2.2]
    exact (Cert.Reference9Ideal.Up.gate_reference (Cert.Reference9Ideal.Up.prods _ _ _) a b).trans
      (congrArg (fun p => gated p b) (funext fun j => Cert.Reference9Ideal.Up.prods_at _ _ _ a j))

end Cert.Proof

end
-- ==== Proof.MixIn.lean ====
/-
  The projections at the start of the mixing block: what the idealized kernel leaves in its five arrays, and that the reference leaves the same.
-/
module

public import proofs.«01_k».proof.Proof.Gen.Kernel10Ideal.Value
public import proofs.«01_k».proof.Proof.Gen.Reference10Ideal.Run
public import proofs.«01_k».proof.Defs
public import proofs.«01_k».proof.Proof.Norm

@[expose] public section

set_option maxRecDepth 16384

noncomputable section

namespace Cert.Kernel10Ideal.Mix

open Idealize.ShloMosaic Idealize.ShloMosaic.TcCoe Idealize.ShloMosaic.Tactic Idealize.SL.Sem
open Cert.Kernel10Ideal Cert.Kernel10Ideal.Gen Cert.Rows

/-- The product with the matrix's row `lo + j`, from a row of x. -/
def part (lo : ℕ) {n : ℕ} (h : lo + n ≤ 3840) (x g : Fin 1024 → EReal) (w : Fin 3840 → Fin 1024 → EReal) (j : Fin n) : EReal :=
  proj x g w ⟨lo + j.val, by omega⟩

/-- A sum of products with rows read from row `lo` of the matrix on is such a part. -/
theorem part_of_sum (lo : ℕ) {n : ℕ} (h : lo + n ≤ 3840) (x : Vec Ideal S512x1024 .f32) (g : Vec Ideal S1x1024 .f32) (w : Vec Ideal S3840x1024 .bf16)
    (inb : ∀ d, (![lo, 0] : Fin 2 → ℕ) d + (![n, 1024] : Fin 2 → ℕ) d ≤ S3840x1024.size d) (r : Fin 512) (j : Fin n) :
    (∑ k : Fin 1024, k0_pay2 x g (ix2 r k) * View.ld w (Rect.unit (s := S3840x1024) ![lo, 0] ![n, 1024] inb) (ix2 j k) : EReal)
      = part lo h (fun k => x (ix2 r k)) (fun k => g (ix2 0 k)) (fun j k => w (ix2 j k)) j :=
  Finset.sum_congr rfl fun k _ => congrArg₂ (· * ·) (Cert.Kernel9Ideal.Up.normed_at x g r k) (ld_rows (N := 3840) (n := n) w lo inb j (by omega) k)

variable (x : Vec Ideal S512x1024 .f32) (g : Vec Ideal S1x1024 .f32) (w : Vec Ideal S3840x1024 .bf16) (r : Fin 512)

/-- The normed rows a point stores. -/
theorem u_out (l : Fin 1024) : out0_3 x g w (ix2 r l) = normed (fun k => x (ix2 r k)) (fun k => g (ix2 0 k)) l := by
  unfold out0_3
  rw [View.canon_unit_zero (by decide), View.ld_unit_zero (by decide), View.ld_unit_zero (by decide)]
  exact Cert.Kernel9Ideal.Up.normed_at x g r l

/-- The queries' products, at an index. -/
theorem q_dot (v : Vec Ideal S1024x1024 .bf16) (j : Fin 1024) : k0_pay3 x g v (ix2 r j) = (∑ k : Fin 1024, k0_pay2 x g (ix2 r k) * v (ix2 j k) : EReal) := by
  pointwise [k0_pay3]
/-- The keys' and values' products, at an index. -/
theorem kv_dot (v : Vec Ideal S256x1024 .bf16) (j : Fin 256) : k0_pay4 x g v (ix2 r j) = (∑ k : Fin 1024, k0_pay2 x g (ix2 r k) * v (ix2 j k) : EReal) := by
  pointwise [k0_pay4]
/-- The pooled inputs' products, at an index. -/
theorem z_dot (v : Vec Ideal S512x1024 .bf16) (j : Fin 512) : k0_pay5 x g v (ix2 r j) = (∑ k : Fin 1024, k0_pay2 x g (ix2 r k) * v (ix2 j k) : EReal) := by
  pointwise [k0_pay5]
/-- The gate inputs' products, at an index. -/
theorem gate_dot (n : Vec Ideal S512x1024 .bf16) (v : Vec Ideal S2048x1024 .bf16) (j : Fin 2048) :
    k0_pay1 n v (constant S512x2048 .f32 0x00000000#32) (ix2 r j) = (∑ k : Fin 1024, n (ix2 r k) * v (ix2 j k) : EReal) := by
  pointwise [k0_pay1]

/-- The queries a point stores. -/
theorem q_out (j : Fin 1024) : out0_4 x g w (ix2 r j) = part 0 (by decide) (fun k => x (ix2 r k)) (fun k => g (ix2 0 k)) (fun j k => w (ix2 j k)) j := by
  unfold out0_4
  rw [View.canon_unit_zero (by decide), View.ld_unit_zero (X := x) (by decide), View.ld_unit_zero (X := g) (by decide)]
  exact (q_dot x g r _ j).trans (part_of_sum 0 (by decide) x g w _ r j)

/-- The keys and values a point stores. -/
theorem kv_out (j : Fin 256) : out0_5 x g w (ix2 r j) = part 1024 (by decide) (fun k => x (ix2 r k)) (fun k => g (ix2 0 k)) (fun j k => w (ix2 j k)) j := by
  unfold out0_5
  rw [View.canon_unit_zero (by decide), View.ld_unit_zero (X := x) (by decide), View.ld_unit_zero (X := g) (by decide)]
  exact (kv_dot x g r _ j).trans (part_of_sum 1024 (by decide) x g w _ r j)

/-- The pooled inputs a point stores. -/
theorem z_out (j : Fin 512) : out0_6 x g w (ix2 r j) = part 1280 (by decide) (fun k => x (ix2 r k)) (fun k => g (ix2 0 k)) (fun j k => w (ix2 j k)) j := by
  unfold out0_6
  rw [View.canon_unit_zero (by decide), View.ld_unit_zero (X := x) (by decide), View.ld_unit_zero (X := g) (by decide)]
  exact (z_dot x g r _ j).trans (part_of_sum 1280 (by decide) x g w _ r j)

/-- The gate inputs a point stores. -/
theorem gate_out (j : Fin 2048) : out0_7 x g w (ix2 r j) = part 1792 (by decide) (fun k => x (ix2 r k)) (fun k => g (ix2 0 k)) (fun j k => w (ix2 j k)) j := by
  unfold out0_7
  rw [View.canon_unit_zero (by decide), View.ld_unit_zero (X := x) (by decide), View.ld_unit_zero (X := g) (by decide)]
  exact (gate_dot r _ _ j).trans (part_of_sum 1792 (by decide) x g w _ r j)

variable {m : (ℓ : Loc nD τ sig) → Buf (Elt Ideal) ℓ} {c : Dev nD}

/-- Where the blocks of a point lie. -/
theorem idx (t : Fin cfg0.N) : win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0]) t

/-- The row of the arrays that a block's row is. -/
def rowOf (n : ℕ) (h : n < 16) (r : Fin 512) : Fin 8192 := ⟨512 * n + r.val, by omega⟩

/-- A row of x. -/
def xRow (m : (ℓ : Loc nD τ sig) → Buf (Elt Ideal) ℓ) (c : Dev nD) (r : Fin 8192) (k : Fin 1024) : EReal := m ((c : Thread nD τ).loc main_arg0) (ix2 r k)
/-- The norm's gain. -/
def gRow (m : (ℓ : Loc nD τ sig) → Buf (Elt Ideal) ℓ) (c : Dev nD) (k : Fin 1024) : EReal := m ((c : Thread nD τ).loc main_arg1) (ix2 0 k)
/-- The matrix. -/
def wRows (m : (ℓ : Loc nD τ sig) → Buf (Elt Ideal) ℓ) (c : Dev nD) (j : Fin 3840) (k : Fin 1024) : EReal := m ((c : Thread nD τ).loc main_arg2) (ix2 j k)

/-- A point's rows of x. -/
theorem x_block (t : Fin cfg0.N) (r : Fin 512) : (fun k : Fin 1024 => iblk m c 0 t (ix2 r k)) = xRow m c (rowOf t.val t.isLt r) := by
  funext k
  show iblk m c 0 t (ix2 r k) = m ((c : Thread nD τ).loc main_arg0) (ix2 (rowOf t.val t.isLt r) k)
  blk_ext! [iblk, V, idx t, rowOf]

/-- A point's gain. -/
theorem g_block (t : Fin cfg0.N) : (fun k : Fin 1024 => iblk m c 1 t (ix2 (0 : Fin 1) k)) = gRow m c := by
  funext k
  show iblk m c 1 t (ix2 (0 : Fin 1) k) = m ((c : Thread nD τ).loc main_arg1) (ix2 0 k)
  blk_ext! [iblk, V, idx t]

/-- A point's matrix. -/
theorem w_block (t : Fin cfg0.N) : (fun (j : Fin 3840) (k : Fin 1024) => iblk m c 2 t (ix2 j k)) = wRows m c := by
  funext j k
  show iblk m c 2 t (ix2 j k) = m ((c : Thread nD τ).loc main_arg2) (ix2 j k)
  blk_ext! [iblk, V, idx t]

/-- The normed rows the idealized kernel ends with. -/
theorem final_u : (dats m 0 c).arrAt 3 cfg0.N = fun y => normed (xRow m c (y 0)) (gRow m c) (y 1) := by
  refine (dats m 0 c).arrAt_eq_of_covers 3 _ (by decide +kernel) fun t hf y => ?_
  obtain ⟨a, b, rfl⟩ : ∃ (a : Fin 512) (b : Fin 1024), y = ix2 a b := ⟨y 0, y 1, by funext d; fin_cases d <;> rfl⟩
  rw [after0_3]
  refine Eq.trans ?_ ((u_out (iblk m c 0 t) (iblk m c 1 t) (iblk m c 2 t) a b).trans ?_)
  · blk_simp
  · have e : (win0_3.blk t).view.emb (ix2 a b) = ix2 (rowOf t.val t.isLt a) b := by
      blk_ext [idx t, rowOf]
    show _ = normed (xRow m c ((win0_3.blk t).view.emb (ix2 a b) 0)) (gRow m c) ((win0_3.blk t).view.emb (ix2 a b) 1)
    rw [e, x_block, g_block]
    rfl

/-- The part of the products from column `lo` on, of a row of the launch's arrays. -/
def cols (m : (ℓ : Loc nD τ sig) → Buf (Elt Ideal) ℓ) (c : Dev nD) (lo : ℕ) {n : ℕ} (h : lo + n ≤ 3840) (r : Fin 8192) (j : Fin n) : EReal :=
  part lo h (xRow m c r) (gRow m c) (wRows m c) j

/-- A point's part of the products, from the launch's arrays. -/
theorem cols_block (t : Fin cfg0.N) (lo : ℕ) {n : ℕ} (h : lo + n ≤ 3840) (r : Fin 512) (j : Fin n) :
    part lo h (fun k => iblk m c 0 t (ix2 r k)) (fun k => iblk m c 1 t (ix2 0 k)) (fun j k => iblk m c 2 t (ix2 j k)) j = cols m c lo h (rowOf t.val t.isLt r) j := by
  rw [x_block, g_block, w_block]
  rfl

/-- The queries the idealized kernel ends with. -/
theorem final_q : (dats m 0 c).arrAt 4 cfg0.N = fun y => cols m c 0 (n := 1024) (by decide) (y 0) (y 1) := by
  refine (dats m 0 c).arrAt_eq_of_covers 4 _ (by decide +kernel) fun t hf y => ?_
  obtain ⟨a, b, rfl⟩ : ∃ (a : Fin 512) (b : Fin 1024), y = ix2 a b := ⟨y 0, y 1, by funext d; fin_cases d <;> rfl⟩
  rw [after0_4]
  refine Eq.trans ?_ ((q_out (iblk m c 0 t) (iblk m c 1 t) (iblk m c 2 t) a b).trans ((cols_block t 0 (by decide) a b).trans ?_))
  · blk_simp
  · have e : (win0_4.blk t).view.emb (ix2 a b) = ix2 (rowOf t.val t.isLt a) b := by
      blk_ext [idx t, rowOf]
    show _ = cols m c 0 (n := 1024) (by decide) ((win0_4.blk t).view.emb (ix2 a b) 0) ((win0_4.blk t).view.emb (ix2 a b) 1)
    rw [e]
    rfl

/-- The keys and values the idealized kernel ends with. -/
theorem final_kv : (dats m 0 c).arrAt 5 cfg0.N = fun y => cols m c 1024 (n := 256) (by decide) (y 0) (y 1) := by
  refine (dats m 0 c).arrAt_eq_of_covers 5 _ (by decide +kernel) fun t hf y => ?_
  obtain ⟨a, b, rfl⟩ : ∃ (a : Fin 512) (b : Fin 256), y = ix2 a b := ⟨y 0, y 1, by funext d; fin_cases d <;> rfl⟩
  rw [after0_5]
  refine Eq.trans ?_ ((kv_out (iblk m c 0 t) (iblk m c 1 t) (iblk m c 2 t) a b).trans ((cols_block t 1024 (by decide) a b).trans ?_))
  · blk_simp
  · have e : (win0_5.blk t).view.emb (ix2 a b) = ix2 (rowOf t.val t.isLt a) b := by
      blk_ext [idx t, rowOf]
    show _ = cols m c 1024 (n := 256) (by decide) ((win0_5.blk t).view.emb (ix2 a b) 0) ((win0_5.blk t).view.emb (ix2 a b) 1)
    rw [e]
    rfl

/-- The pooled inputs the idealized kernel ends with. -/
theorem final_z : (dats m 0 c).arrAt 6 cfg0.N = fun y => cols m c 1280 (n := 512) (by decide) (y 0) (y 1) := by
  refine (dats m 0 c).arrAt_eq_of_covers 6 _ (by decide +kernel) fun t hf y => ?_
  obtain ⟨a, b, rfl⟩ : ∃ (a : Fin 512) (b : Fin 512), y = ix2 a b := ⟨y 0, y 1, by funext d; fin_cases d <;> rfl⟩
  rw [after0_6]
  refine Eq.trans ?_ ((z_out (iblk m c 0 t) (iblk m c 1 t) (iblk m c 2 t) a b).trans ((cols_block t 1280 (by decide) a b).trans ?_))
  · blk_simp
  · have e : (win0_6.blk t).view.emb (ix2 a b) = ix2 (rowOf t.val t.isLt a) b := by
      blk_ext [idx t, rowOf]
    show _ = cols m c 1280 (n := 512) (by decide) ((win0_6.blk t).view.emb (ix2 a b) 0) ((win0_6.blk t).view.emb (ix2 a b) 1)
    rw [e]
    rfl

/-- The gate inputs the idealized kernel ends with. -/
theorem final_gate : (dats m 0 c).arrAt 7 cfg0.N = fun y => cols m c 1792 (n := 2048) (by decide) (y 0) (y 1) := by
  refine (dats m 0 c).arrAt_eq_of_covers 7 _ (by decide +kernel) fun t hf y => ?_
  obtain ⟨a, b, rfl⟩ : ∃ (a : Fin 512) (b : Fin 2048), y = ix2 a b := ⟨y 0, y 1, by funext d; fin_cases d <;> rfl⟩
  rw [after0_7]
  refine Eq.trans ?_ ((gate_out (iblk m c 0 t) (iblk m c 1 t) (iblk m c 2 t) a b).trans ((cols_block t 1792 (by decide) a b).trans ?_))
  · blk_simp
  · have e : (win0_7.blk t).view.emb (ix2 a b) = ix2 (rowOf t.val t.isLt a) b := by
      blk_ext [idx t, rowOf]
    show _ = cols m c 1792 (n := 2048) (by decide) ((win0_7.blk t).view.emb (ix2 a b) 0) ((win0_7.blk t).view.emb (ix2 a b) 1)
    rw [e]
    rfl

/-- What the run ends with. -/
theorem run_at (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = (fun y => normed (xRow m c (y 0)) (gRow m c) (y 1))
      ∧ r.2.mem ((c : Thread nD τ).loc main_v0_1) = (fun y => cols m c 0 (n := 1024) (by decide) (y 0) (y 1))
      ∧ r.2.mem ((c : Thread nD τ).loc main_v0_2) = (fun y => cols m c 1024 (n := 256) (by decide) (y 0) (y 1))
      ∧ r.2.mem ((c : Thread nD τ).loc main_v0_3) = (fun y => cols m c 1280 (n := 512) (by decide) (y 0) (y 1))
      ∧ r.2.mem ((c : Thread nD τ).loc main_v0_4) = (fun y => cols m c 1792 (n := 2048) (by decide) (y 0) (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans final_u, (h c).2.1.trans final_q, (h c).2.2.1.trans final_kv, (h c).2.2.2.1.trans final_z,
    (h c).2.2.2.2.1.trans final_gate, (h c).2.2.2.2.2⟩) (Cert.Kernel10Ideal.Value.run_blocks m ρ)

end Cert.Kernel10Ideal.Mix

namespace Cert.Reference10Ideal.Mix

open Idealize.ShloMosaic Cert.Reference10Ideal Cert.Reference10Ideal.Gen Cert.Rows Cert.Kernel10Ideal.Mix

variable (x : FVec Ideal S8192x1024 .f32) (g : FVec Ideal S1x1024 .f32) (w : FVec Ideal S3840x1024 .bf16) (r : Fin 8192)

/-- The reference's products. -/
def prods : FVec Ideal S8192x3840 .f32 :=
  Host.dotGeneral dot_S8192x1024_S1024x3840_S8192x3840_1_0_0_1_n_n none (Cert.Reference9Ideal.Up.norms x g)
    (transpose S1024x3840 [1, 0] (extf .f32 w bitsLt_bf16_f32) transposes_S3840x1024_S1024x3840_1_0)

/-- The reference's products, at an index. -/
theorem prods_at (j : Fin 3840) : prods x g w (ix2 r j) = proj (fun k => x (ix2 r k)) (fun k => g (ix2 0 k)) (fun j k => w (ix2 j k)) j := by
  unfold prods
  pointwise []
  exact Finset.sum_congr rfl fun k _ => congrArg (· * _) (Cert.Reference9Ideal.Up.norms_at x g r k)

/-- A slice of columns, at an index. -/
theorem slice_at (p : FVec Ideal S8192x3840 .f32) (lo n : ℕ) (s : Shape.Slices S8192x3840 ![0, lo] ⟨2, ![8192, n]⟩) (j : Fin n) (h : lo + j.val < 3840) :
    extractStridedSlice ⟨2, ![8192, n]⟩ ![0, lo] p s (ix2 r j) = p (ix2 r ⟨lo + j.val, h⟩) := by
  refine congrArg p ?_
  funext d
  apply Fin.ext
  match d with
  | ⟨0, _⟩ => exact Nat.zero_add _
  | ⟨1, _⟩ => rfl

/-- A slice of the reference's products, at an index. -/
theorem part_at (lo n : ℕ) (h : lo + n ≤ 3840) (s : Shape.Slices S8192x3840 ![0, lo] ⟨2, ![8192, n]⟩) (j : Fin n) :
    extractStridedSlice ⟨2, ![8192, n]⟩ ![0, lo] (prods x g w) s (ix2 r j) = part lo h (fun k => x (ix2 r k)) (fun k => g (ix2 0 k)) (fun j k => w (ix2 j k)) j :=
  (slice_at r _ lo n s j (by omega)).trans (prods_at x g w r _)

end Cert.Reference10Ideal.Mix

namespace Cert.Proof

open Idealize.ShloMosaic Idealize.ShloMosaic.TcCoe Idealize.SL.Sem Cert.Rows Cert.Kernel10Ideal.Mix

instance kernel10Facts : Cert.Kernel10Ideal.Facts := Cert.Kernel10Ideal.Gen.facts
instance reference10Facts : Cert.Reference10Ideal.Facts := Cert.Reference10Ideal.Gen.facts

/-- Both programs leave the same normed rows, queries, keys and values, pooled inputs and gate inputs. -/
theorem algebraic_mix_in : Cert.algebraic_Kernel10Ideal_Reference10Ideal := by
  intro m ρ m' ρ' _ hargs
  refine ⟨fun c y => (normed (xRow m c (y 0)) (gRow m c) (y 1) : EReal),
    fun c y => (cols m c 0 (n := 1024) (by decide) (y 0) (y 1) : EReal), fun c y => (cols m c 1024 (n := 256) (by decide) (y 0) (y 1) : EReal),
    fun c y => (cols m c 1280 (n := 512) (by decide) (y 0) (y 1) : EReal), fun c y => (cols m c 1792 (n := 2048) (by decide) (y 0) (y 1) : EReal),
    run_at m ρ,
    (θ_run Cert.Reference10Ideal.defs _ _).mono (fun r h c => ⟨(h c).1.trans ?_, (h c).2.1.trans ?_, (h c).2.2.1.trans ?_, (h c).2.2.2.1.trans ?_,
      (h c).2.2.2.2.1.trans ?_, (h c).2.2.2.2.2⟩) (Cert.Reference10Ideal.Value.run m' ρ')⟩
  · funext y
    obtain ⟨a, b, rfl⟩ : ∃ (a : Fin 8192) (b : Fin 1024), y = ix2 a b := ⟨y 0, y 1, by funext d; fin_cases d <;> rfl⟩
    rw [(hargs c).1, (hargs c).2.1]
    exact Cert.Reference9Ideal.Up.norms_at _ _ a b
  · funext y
    obtain ⟨a, b, rfl⟩ : ∃ (a : Fin 8192) (b : Fin 1024), y = ix2 a b := ⟨y 0, y 1, by funext d; fin_cases d <;> rfl⟩
    rw [(hargs c).1, (hargs c).2.1, (hargs c).2.2]
    exact Cert.Reference10Ideal.Mix.part_at _ _ _ a 0 1024 (by decide) (by decide) b
  · funext y
    obtain ⟨a, b, rfl⟩ : ∃ (a : Fin 8192) (b : Fin 256), y = ix2 a b := ⟨y 0, y 1, by funext d; fin_cases d <;> rfl⟩
    rw [(hargs c).1, (hargs c).2.1, (hargs c).2.2]
    exact Cert.Reference10Ideal.Mix.part_at _ _ _ a 1024 256 (by decide) (by decide) b
  · funext y
    obtain ⟨a, b, rfl⟩ : ∃ (a : Fin 8192) (b : Fin 512), y = ix2 a b := ⟨y 0, y 1, by funext d; fin_cases d <;> rfl⟩
    rw [(hargs c).1, (hargs c).2.1, (hargs c).2.2]
    exact Cert.Reference10Ideal.Mix.part_at _ _ _ a 1280 512 (by decide) (by decide) b
  · funext y
    obtain ⟨a, b, rfl⟩ : ∃ (a : Fin 8192) (b : Fin 2048), y = ix2 a b := ⟨y 0, y 1, by funext d; fin_cases d <;> rfl⟩
    rw [(hargs c).1, (hargs c).2.1, (hargs c).2.2]
    exact Cert.Reference10Ideal.Mix.part_at _ _ _ a 1792 2048 (by decide) (by decide) b

end Cert.Proof

end
-- ==== Proof.LossRow.lean ====
/-
  One row of the loss head: the error of a normed row, its part of the loss, and the gradients it gives.
-/
module

public import proofs.«01_k».proof.Proof.Norm
public import proofs.«01_k».proof.Proof.FfnDown

@[expose] public section

noncomputable section

namespace Cert.Rows

open Idealize.ShloMosaic

/-- One over 1024 as a word. -/
theorem over_n_f32 : Ideal.ofBits .f32 0x3A800000#32 = ((1 / 1024 : ℝ) : EReal) := by
  simp [Ideal.ofBits, Ideal.ieee]; rw [← EReal.coe_mul]; congr 1; norm_num

/-- Two as a word. -/
theorem two_f32 : Ideal.ofBits .f32 0x40000000#32 = ((2 : ℝ) : EReal) := by
  simp [Ideal.ofBits, Ideal.ieee]; rw [← EReal.coe_mul]; congr 1; norm_num

/-- The error of an entry of a row. -/
def err (h g t : Fin 1024 → EReal) (l : Fin 1024) : EReal := normed h g l - t l

/-- The gradient of the loss by a normed entry. -/
def derr (h g t : Fin 1024 → EReal) (l : Fin 1024) : EReal := err h g t l * Ideal.ofBits .f32 0x3A800000#32

/-- A row's mean squared error. -/
def rowLoss (h g t : Fin 1024 → EReal) : EReal := Ideal.div (∑ l, err h g t l * err h g t l) (Ideal.ofBits .f32 0x44800000#32)

/-- The gradient of the loss by an entry of the row. -/
def rowGrad (h g t : Fin 1024 → EReal) (l : Fin 1024) : EReal := dxKernel h (fun k => derr h g t k * g k) 0 l

/-- A row's part of the gradient of the scale. -/
def scaleTerm (h g t : Fin 1024 → EReal) (l : Fin 1024) : EReal := derr h g t l * (h l * Ideal.rsqrt (meanSq h))

/-- Half the mean of twice the error, against the error times one over 1024. -/
theorem derr_eq (e : EReal) : Ideal.div (Ideal.ofBits .f32 0x3F000000#32) (Ideal.ofBits .f32 0x44800000#32)
    * (Ideal.ofBits .f32 0x40000000#32 * e) = e * Ideal.ofBits .f32 0x3A800000#32 := by
  rw [half_f32, n_f32, two_f32, over_n_f32, Ideal.div_coe (by norm_num), ← mul_assoc, ← EReal.coe_mul, ← EReal.coe_mul, mul_comm]
  congr 2; norm_num

/-- The arrays of the last half step and the loss head. -/
structure Head where
  x : Fin 8192 → Fin 1024 → EReal
  g : Fin 1024 → EReal
  w : Fin 5632 → Fin 1024 → EReal
  wd : Fin 2816 → Fin 1024 → EReal
  gf : Fin 1024 → EReal
  t : Fin 8192 → Fin 1024 → EReal

/-- The products with w_up. -/
def Head.ab (V : Head) (r : Fin 8192) : Fin 5632 → EReal := proj (V.x r) V.g V.w

/-- The half step's rows. -/
def Head.h (V : Head) (r : Fin 8192) : Fin 1024 → EReal := halfStep (V.x r) (gated (V.ab r)) V.wd

/-- A row's part of the loss. -/
def Head.lossTerm (V : Head) (r : Fin 8192) : EReal := Ideal.ofBits .f32 0x3F000000#32 * rowLoss (V.h r) V.gf (V.t r)

/-- The loss. -/
def Head.loss (V : Head) : EReal := ∑ r, V.lossTerm r

/-- The loss's gradient by the rows. -/
def Head.dh (V : Head) (r : Fin 8192) (l : Fin 1024) : EReal := rowGrad (V.h r) V.gf (V.t r) l

/-- The loss's gradient by the scale. -/
def Head.dgf (V : Head) (l : Fin 1024) : EReal := ∑ r, scaleTerm (V.h r) V.gf (V.t r) l

/-- Half the sum of the rows' losses is the loss. -/
theorem Head.half_sum (V : Head) : Ideal.ofBits .f32 0x3F000000#32 * ∑ r, rowLoss (V.h r) V.gf (V.t r) = V.loss := by
  rw [half_f32, mul_sum _ (EReal.coe_nonneg.mpr (by norm_num)) (EReal.coe_ne_top _)]
  simp only [Head.loss, Head.lossTerm, half_f32]

end Cert.Rows

end
-- ==== Proof.LossReference.lean ====
/-
  The last half step and the loss head: the reference's terms, entry by entry.
-/
module

public import proofs.«01_k».proof.Proof.Gen.Reference11Ideal
public import proofs.«01_k».proof.Proof.LossRow
public import proofs.«01_k».proof.Proof.FfnUp
public import proofs.«01_k».proof.Proof.GradInput

@[expose] public section

set_option maxRecDepth 16384

noncomputable section

namespace Cert.Reference11Ideal.Loss

open Idealize.ShloMosaic Cert.Reference11Ideal Cert.Reference11Ideal.Gen Cert.Rows
open Cert.Reference9Ideal.Up (norms norms_at prods prods_at gate_reference)
open Cert.Reference2Ideal.Grad (meanSqs meanSqs_at)

variable (x : FVec Ideal S8192x1024 .f32) (g : FVec Ideal S1x1024 .f32) (w : FVec Ideal S5632x1024 .bf16) (wd : FVec Ideal S2816x1024 .bf16)
  (gf : FVec Ideal S1x1024 .f32) (t : FVec Ideal S8192x1024 .f32)

/-- The arrays, entry by entry. -/
def inputs : Head := ⟨fun r l => x (ix2 r l), fun l => g (ix2 0 l), fun k l => w (ix2 k l), fun k l => wd (ix2 k l), fun l => gf (ix2 0 l), fun r l => t (ix2 r l)⟩

/-- The gated activation of any products. -/
def acts (p : FVec Ideal S8192x5632 .f32) : FVec Ideal S8192x2816 .bf16 :=
  truncf .bf16 (mulf (mulf (extractStridedSlice S8192x2816 ![0, 0] p slices_S8192x5632_S8192x2816_0_0)
    (Host.divf (broadcastInDim S8192x2816 ![] bcast_S_S8192x2816 (constant S_ .f32 0x3F800000#32))
      (addf (broadcastInDim S8192x2816 ![] bcast_S_S8192x2816 (constant S_ .f32 0x3F800000#32))
        (Host.exp (Host.negf (extractStridedSlice S8192x2816 ![0, 0] p slices_S8192x5632_S8192x2816_0_0))))))
    (extractStridedSlice S8192x2816 ![0, 2816] p slices_S8192x5632_S8192x2816_0_2816)) bitsLt_bf16_f32

/-- A row of the activation. -/
theorem acts_at (r : Fin 8192) (j : Fin 2816) : acts (prods x g w) (ix2 r j) = gated ((inputs x g w wd gf t).ab r) j :=
  (gate_reference (prods x g w) r j).trans (congrArg (fun p => gated p j) (funext fun j => prods_at x g w r j))

/-- The half step's rows. -/
def hs : FVec Ideal S8192x1024 .f32 :=
  addf x (mulf (broadcastInDim S8192x1024 ![] bcast_S_S8192x1024 (constant S_ .f32 0x3F000000#32))
    (Host.dotGeneral dot_S8192x2816_S2816x1024_S8192x1024_1_0_0_1_n_n none (extf .f32 (acts (prods x g w)) bitsLt_bf16_f32) (extf .f32 wd bitsLt_bf16_f32)))

/-- An entry of the half step. -/
theorem hs_at (r : Fin 8192) (l : Fin 1024) : hs x g w wd (ix2 r l) = (inputs x g w wd gf t).h r l :=
  (Cert.Proof.down_reference x (acts (prods x g w)) wd r l).trans
    (congrArg (fun a => halfStep (fun k => x (ix2 r k)) a (fun k l => wd (ix2 k l)) l) (funext fun j => acts_at x g w wd gf t r j))

variable (h : FVec Ideal S8192x1024 .f32)

/-- The rows of the errors. -/
def errs : FVec Ideal S8192x1024 .f32 := subf (norms h gf) t

/-- The loss's gradients by the normed rows. -/
def derrs : FVec Ideal S8192x1024 .f32 :=
  mulf (broadcastInDim S8192x1024 ![0] bcast_S8192_S8192x1024_0 (Host.divf
    (broadcastInDim S8192 ![] bcast_S_S8192 (mulf (constant S_ .f32 0x3F000000#32) (constant S_ .f32 0x3F800000#32)))
    (broadcastInDim S8192 ![] bcast_S_S8192 (constant S_ .f32 0x44800000#32))))
    (mulf (broadcastInDim S8192x1024 ![] bcast_S_S8192x1024 (constant S_ .f32 0x40000000#32)) (errs gf t h))

/-- Those times the scale. -/
def scaled : FVec Ideal S8192x1024 .f32 :=
  mulf (derrs gf t h) (broadcastInDim S8192x1024 ![0, 1] bcast_S1x1024_S8192x1024_0_1 (broadcastInDim S1x1024 ![1] bcast_S1024_S1x1024_1 (shapeCast _ gf shapeCasts_S1x1024_S1024)))

/-- The factors of the rows in their gradient. -/
def factors : FVec Ideal S8192x1024 .f32 :=
  broadcastInDim S8192x1024 ![0] bcast_S8192_S8192x1024_0 (Host.reduceAdd (Host.divf (mulf
    (shapeCast _ (Host.reduceAdd (mulf h (scaled gf t h)) (constant S_ .f32 0x00000000#32) reducesTo_S8192x1024_S8192_d1 h_S_) shapeCasts_S8192_S8192x1)
    (mulf (broadcastInDim S8192x1 ![] bcast_S_S8192x1 (constant S_ .f32 0xBF000000#32)) (Host.divf (Host.rsqrt (meanSqs h)) (meanSqs h))))
    (broadcastInDim S8192x1 ![] bcast_S_S8192x1 (constant S_ .f32 0x44800000#32))) (constant S_ .f32 0x00000000#32) reducesTo_S8192x1_S8192_d1 h_S_)

/-- The gradient by the rows. -/
def dhs : FVec Ideal S8192x1024 .f32 :=
  addf (addf (mulf (scaled gf t h) (broadcastInDim S8192x1024 ![0, 1] bcast_S8192x1_S8192x1024_0_1 (Host.rsqrt (meanSqs h))))
    (mulf h (factors gf t h))) (mulf (factors gf t h) h)

/-- The gradient by the scale. -/
def dgfs : FVec Ideal S1x1024 .f32 :=
  shapeCast _ (Host.reduceAdd (shapeCast _ (Host.reduceAdd (mulf
    (mulf h (broadcastInDim S8192x1024 ![0, 1] bcast_S8192x1_S8192x1024_0_1 (Host.rsqrt (meanSqs h)))) (derrs gf t h))
    (constant S_ .f32 0x00000000#32) reducesTo_S8192x1024_S1024_d0 h_S_) shapeCasts_S1024_S1x1024) (constant S_ .f32 0x00000000#32) reducesTo_S1x1024_S1024_d0 h_S_)
    shapeCasts_S1024_S1x1024

/-- The loss, on all lanes. -/
def losses : FVec Ideal S1x128 .f32 :=
  broadcastInDim S1x128 ![] bcast_S_S1x128 (mulf (constant S_ .f32 0x3F000000#32) (Host.reduceAdd (Host.divf
    (Host.reduceAdd (mulf (errs gf t h) (errs gf t h)) (constant S_ .f32 0x00000000#32) reducesTo_S8192x1024_S8192_d1 h_S_)
    (broadcastInDim S8192 ![] bcast_S_S8192 (constant S_ .f32 0x44800000#32))) (constant S_ .f32 0x00000000#32) reducesTo_S8192_S_d0 h_S_))

variable {h} {gf} {t} {H T : Fin 8192 → Fin 1024 → EReal} {G : Fin 1024 → EReal}

/-- The arrays of the head hold these entries. -/
structure Entries (h : FVec Ideal S8192x1024 .f32) (gf : FVec Ideal S1x1024 .f32) (t : FVec Ideal S8192x1024 .f32)
    (H : Fin 8192 → Fin 1024 → EReal) (G : Fin 1024 → EReal) (T : Fin 8192 → Fin 1024 → EReal) : Prop where
  h : ∀ r l, h (ix2 r l) = H r l
  g : ∀ l, gf (ix2 0 l) = G l
  t : ∀ r l, t (ix2 r l) = T r l

/-- The half step's rows with the scale and the target. -/
theorem Entries.of (x : FVec Ideal S8192x1024 .f32) (g : FVec Ideal S1x1024 .f32) (w : FVec Ideal S5632x1024 .bf16) (wd : FVec Ideal S2816x1024 .bf16)
    (gf : FVec Ideal S1x1024 .f32) (t : FVec Ideal S8192x1024 .f32) :
    Entries (hs x g w wd) gf t (inputs x g w wd gf t).h (inputs x g w wd gf t).gf (inputs x g w wd gf t).t :=
  ⟨hs_at x g w wd gf t, fun _ => rfl, fun _ _ => rfl⟩

/-- A row's mean square. -/
theorem Entries.meanSqs_at (E : Entries h gf t H G T) (r : Fin 8192) : meanSqs h (ix2 r 0) = meanSq (H r) :=
  (Cert.Reference2Ideal.Grad.meanSqs_at h r).trans (congrArg meanSq (funext fun l => E.h r l))

/-- A row's errors. -/
theorem Entries.errs_at (E : Entries h gf t H G T) (r : Fin 8192) (l : Fin 1024) : errs gf t h (ix2 r l) = err (H r) G (T r) l := by
  have e := norms_at h gf r l
  simp only [E.h, E.g] at e
  exact congrArg₂ (· - ·) e (E.t r l)

/-- A row's gradients by the normed entries. -/
theorem Entries.derrs_at (E : Entries h gf t H G T) (r : Fin 8192) (l : Fin 1024) : derrs gf t h (ix2 r l) = derr (H r) G (T r) l := by
  unfold derrs
  pointwise []
  rw [E.errs_at]
  exact derr_eq _

/-- Those times the scale. -/
theorem Entries.scaled_at (E : Entries h gf t H G T) (r : Fin 8192) (l : Fin 1024) : scaled gf t h (ix2 r l) = derr (H r) G (T r) l * G l := by
  unfold scaled
  pointwise []
  rw [E.derrs_at, E.g]

/-- A row's factor. -/
theorem Entries.factors_at (E : Entries h gf t H G T) (r : Fin 8192) (l : Fin 1024) :
    factors gf t h (ix2 r l) = dxFactor (H r) (fun k => derr (H r) G (T r) k * G k) := by
  unfold factors
  pointwise []
  rw [dxFactor, ← E.meanSqs_at]
  simp [E.scaled_at, E.h]

/-- The gradient by a row's entry. -/
theorem Entries.dhs_at (E : Entries h gf t H G T) (r : Fin 8192) (l : Fin 1024) : dhs gf t h (ix2 r l) = rowGrad (H r) G (T r) l := by
  unfold dhs
  pointwise []
  rw [E.scaled_at, E.factors_at, E.meanSqs_at, E.h]
  exact (congrArg (fun z => z + _ + _) (zero_add _).symm).trans (dx_eq (H r) (fun k => derr (H r) G (T r) k * G k) 0 l)

/-- The gradient by an entry of the scale. -/
theorem Entries.dgfs_at (E : Entries h gf t H G T) (l : Fin 1024) : dgfs gf t h (ix2 0 l) = ∑ r, scaleTerm (H r) G (T r) l := by
  unfold dgfs
  pointwise []
  simp only [E.meanSqs_at, E.derrs_at, E.h]
  simp only [Finset.univ_unique, Finset.sum_singleton]
  exact Finset.sum_congr rfl fun r _ => mul_comm _ _

/-- The loss on a lane. -/
theorem Entries.losses_at (E : Entries h gf t H G T) (l : Fin 128) :
    losses gf t h (ix2 0 l) = Ideal.ofBits .f32 0x3F000000#32 * ∑ r, rowLoss (H r) G (T r) := by
  unfold losses
  pointwise []
  simp only [E.errs_at]
  rfl

end Cert.Reference11Ideal.Loss

end
-- ==== Proof.FfnLoss.lean ====
/-
  The last half step and the loss head: what the idealized kernel leaves in its seven arrays, and that the reference leaves the same.
-/
module

public import proofs.«01_k».proof.Proof.Gen.Kernel11Ideal.Value
public import proofs.«01_k».proof.Proof.Gen.Reference11Ideal.Run
public import proofs.«01_k».proof.Proof.LossReference

@[expose] public section

set_option maxRecDepth 16384

noncomputable section

namespace Cert.Kernel11Ideal.Loss

open Idealize.ShloMosaic Idealize.ShloMosaic.TcCoe Idealize.ShloMosaic.Tactic Idealize.SL.Sem
open Cert.Kernel11Ideal Cert.Kernel11Ideal.Gen Cert.Rows
open Cert.Kernel9Ideal.Up (products products_eq tile_at gate_at rowOf)

/-- The store of the activation's columns from column `lo` on. -/
def gateTile (n : Vec Ideal S512x1024 .bf16) (w : Vec Ideal S5632x1024 .bf16) (lo : ℕ)
    (i1 : ∀ d, (![lo, 0] : Fin 2 → ℕ) d + S256x1024.size d ≤ S5632x1024.size d)
    (i2 : ∀ d, (![2816 + lo, 0] : Fin 2 → ℕ) d + S256x1024.size d ≤ S5632x1024.size d)
    (i3 : ∀ d, (![0, lo] : Fin 2 → ℕ) d + S512x256.size d ≤ S512x2816.size d) : View.Piece (Elt Ideal) S512x2816 .bf16 :=
  ⟨Rect.unit ![0, lo] S512x256.size i3, Cert.Kernel9Ideal.Gen.k0_pay6 n (View.ld w (Rect.unit (s := S5632x1024) ![lo, 0] S256x1024.size i1))
    (View.ld w (Rect.unit (s := S5632x1024) ![2816 + lo, 0] S256x1024.size i2))⟩

/-- The stores of the activation, the last first. -/
def gates (n : Vec Ideal S512x1024 .bf16) (w : Vec Ideal S5632x1024 .bf16) : List (View.Piece (Elt Ideal) S512x2816 .bf16) :=
  [gateTile n w 2560 (by decide) (by decide) (by decide), gateTile n w 2304 (by decide) (by decide) (by decide),
    gateTile n w 2048 (by decide) (by decide) (by decide), gateTile n w 1792 (by decide) (by decide) (by decide),
    gateTile n w 1536 (by decide) (by decide) (by decide), gateTile n w 1280 (by decide) (by decide) (by decide),
    gateTile n w 1024 (by decide) (by decide) (by decide), gateTile n w 768 (by decide) (by decide) (by decide),
    gateTile n w 512 (by decide) (by decide) (by decide), gateTile n w 256 (by decide) (by decide) (by decide),
    gateTile n w 0 (by decide) (by decide) (by decide)]

/-- The activation stored. -/
def act (n : Vec Ideal S512x1024 .bf16) (w : Vec Ideal S5632x1024 .bf16) : Vec Ideal S512x2816 .bf16 := View.canon (gates n w)

/-- An entry of it. -/
theorem act_at (n : Vec Ideal S512x1024 .bf16) (w : Vec Ideal S5632x1024 .bf16) (y : S512x2816.Idx) : act n w y = gated (products n w (y 0)) (y 1) := by
  refine View.canon_apply_of_pieces (Val := Elt Ideal) (e := .bf16) (fun y : S512x2816.Idx => gated (products n w (y 0)) (y 1)) _ ?_ y
    (Cert.Kernel9Ideal.Gen.cover0_5 _ _ _ _ _ _ _ _ _ _ _ y)
  intro q hq
  simp only [gates, List.mem_cons, List.not_mem_nil, or_false] at hq
  rcases hq with rfl | rfl | rfl | rfl | rfl | rfl | rfl | rfl | rfl | rfl | rfl
  all_goals exact gate_at n w _ _ _ (by decide)

variable (m : (ℓ : Loc nD τ sig) → Buf (Elt Ideal) ℓ) (c : Dev nD)

/-- The normed rows of a point. -/
abbrev nBlock (t : Fin cfg0.N) : Vec Ideal S512x1024 .bf16 := k0_pay5 (iblk m c 0 t) (iblk m c 1 t)
/-- The activation of a point. -/
abbrev aBlock (t : Fin cfg0.N) : Vec Ideal S512x2816 .bf16 := act (nBlock m c t) (iblk m c 2 t)
/-- The half step of a point. -/
abbrev hBlock (t : Fin cfg0.N) : Vec Ideal S512x1024 .f32 := k0_pay62 (iblk m c 0 t) (aBlock m c t) (iblk m c 3 t)
/-- Its factors. -/
abbrev rBlock (t : Fin cfg0.N) : Vec Ideal S512x1 .f32 := k0_pay63 (iblk m c 0 t) (aBlock m c t) (iblk m c 3 t)
/-- The factors over the columns. -/
abbrev bBlock (t : Fin cfg0.N) : Vec Ideal S512x1024 .f32 := k0_pay64 (iblk m c 0 t) (aBlock m c t) (iblk m c 3 t)

/-- The products a point stores. -/
theorem ab_out (t : Fin cfg0.N) (y : S512x5632.Idx) : (outsAt0 m c t.val t.isLt).1 y = products (nBlock m c t) (iblk m c 2 t) (y 0) (y 1) := by
  by_cases h0 : t.val % 16 = 0
  on_goal 1 => rw [outsAt0_A m c t h0]
  on_goal 2 => rw [outsAt0_B m c t h0]
  all_goals
    frame_open
    frame_out
    refine View.canon_apply_of_pieces (Val := Elt Ideal) (e := .bf16) (fun y : S512x5632.Idx => products (nBlock m c t) (iblk m c 2 t) (y 0) (y 1)) _ ?_ y
      (Cert.Kernel9Ideal.Gen.cover0_4 _ _ _ _ _ _ _ _ _ _ _ _ _ _ _ _ _ _ _ _ _ _ y)
    intro q hq
    simp only [List.mem_cons, List.not_mem_nil, or_false] at hq
    rcases hq with rfl | rfl | rfl | rfl | rfl | rfl | rfl | rfl | rfl | rfl | rfl | rfl | rfl | rfl | rfl | rfl | rfl | rfl | rfl | rfl | rfl | rfl
    all_goals exact tile_at (nBlock m c t) (iblk m c 2 t) _ _ (by decide)

/-- The normed rows a point stores. -/
theorem n_out (t : Fin cfg0.N) : (outsAt0 m c t.val t.isLt).2.1 = nBlock m c t := by
  by_cases h0 : t.val % 16 = 0
  on_goal 1 => rw [outsAt0_A m c t h0]
  on_goal 2 => rw [outsAt0_B m c t h0]
  all_goals
    frame_open
    frame_out

/-- The activation a point stores. -/
theorem act_out (t : Fin cfg0.N) : (outsAt0 m c t.val t.isLt).2.2.1 = aBlock m c t := by
  by_cases h0 : t.val % 16 = 0
  on_goal 1 => rw [outsAt0_A m c t h0]
  on_goal 2 => rw [outsAt0_B m c t h0]
  all_goals
    frame_open
    frame_out
    rfl

/-- The gradients by the rows a point stores. -/
theorem dh_out (t : Fin cfg0.N) : (outsAt0 m c t.val t.isLt).2.2.2.2.1
    = k0_pay69 (hBlock m c t) (rBlock m c t) (bBlock m c t) (iblk m c 4 t) (iblk m c 5 t) (iblk m c 4 t) := by
  by_cases h0 : t.val % 16 = 0
  on_goal 1 => rw [outsAt0_A m c t h0]
  on_goal 2 => rw [outsAt0_B m c t h0]
  all_goals
    frame_open
    frame_out
    rw [read_all]
    rfl

/-- The same in the narrow format. -/
theorem dhb_out (t : Fin cfg0.N) : (outsAt0 m c t.val t.isLt).2.2.2.2.2.1
    = k0_pay69 (hBlock m c t) (rBlock m c t) (bBlock m c t) (iblk m c 4 t) (iblk m c 5 t) (iblk m c 4 t) := by
  by_cases h0 : t.val % 16 = 0
  on_goal 1 => rw [outsAt0_A m c t h0]
  on_goal 2 => rw [outsAt0_B m c t h0]
  all_goals
    frame_open
    frame_out
    rw [read_all]
    rfl

/-- The loss after the first point. -/
theorem loss_A (t : Fin cfg0.N) (h0 : t.val % 16 = 0) : (outsAt0 m c t.val t.isLt).2.2.2.1
    = k0_pay4 (k0_pay67 (hBlock m c t) (bBlock m c t) (iblk m c 4 t) (iblk m c 5 t)) (k0_pay2 (F := Ideal)) := by
  rw [outsAt0_A m c t h0]
  frame_open
  frame_out
  rw [read_all]
  rfl

/-- The loss after a later point. -/
theorem loss_B (t : Fin cfg0.N) (h0 : ¬ t.val % 16 = 0) : (outsAt0 m c t.val t.isLt).2.2.2.1
    = k0_pay4 (k0_pay67 (hBlock m c t) (bBlock m c t) (iblk m c 4 t) (iblk m c 5 t))
      (outsAt0 m c (t.val - 1) (Nat.lt_of_le_of_lt (Nat.sub_le _ _) t.isLt)).2.2.2.1 := by
  rw [outsAt0_B m c t h0]
  frame_open
  frame_out
  rw [read_all]
  rfl

/-- The scale's gradient after the first point. -/
theorem dg_A (t : Fin cfg0.N) (h0 : t.val % 16 = 0) : (outsAt0 m c t.val t.isLt).2.2.2.2.2.2
    = k0_pay3 (k0_pay70 (hBlock m c t) (bBlock m c t) (iblk m c 4 t) (iblk m c 5 t)) (k0_pay1 (F := Ideal)) := by
  rw [outsAt0_A m c t h0]
  frame_open
  frame_out
  rw [read_all]
  rfl

/-- The scale's gradient after a later point. -/
theorem dg_B (t : Fin cfg0.N) (h0 : ¬ t.val % 16 = 0) : (outsAt0 m c t.val t.isLt).2.2.2.2.2.2
    = k0_pay3 (k0_pay70 (hBlock m c t) (bBlock m c t) (iblk m c 4 t) (iblk m c 5 t))
      (outsAt0 m c (t.val - 1) (Nat.lt_of_le_of_lt (Nat.sub_le _ _) t.isLt)).2.2.2.2.2.2 := by
  rw [outsAt0_B m c t h0]
  frame_open
  frame_out
  rw [read_all]
  rfl

/-- The half step at an entry, from the block of x and the activation. -/
theorem half_at (x : Vec Ideal S512x1024 .f32) (a : Vec Ideal S512x2816 .bf16) (wd : Vec Ideal S2816x1024 .bf16) (r : Fin 512) (l : Fin 1024) :
    k0_pay62 x a wd (ix2 r l) = halfStep (fun k => x (ix2 r k)) (fun k => a (ix2 r k)) (fun k l => wd (ix2 k l)) l := by
  pointwise [k0_pay62]
  rfl

/-- The blocks of the head hold these entries. -/
structure Entries (h : Vec Ideal S512x1024 .f32) (g : Vec Ideal S1x1024 .f32) (t : Vec Ideal S512x1024 .f32)
    (H : Fin 512 → Fin 1024 → EReal) (G : Fin 1024 → EReal) (T : Fin 512 → Fin 1024 → EReal) : Prop where
  h : ∀ r l, h (ix2 r l) = H r l
  g : ∀ l, g (ix2 0 l) = G l
  t : ∀ r l, t (ix2 r l) = T r l

section
variable {x : Vec Ideal S512x1024 .f32} {a : Vec Ideal S512x2816 .bf16} {wd : Vec Ideal S2816x1024 .bf16} {g : Vec Ideal S1x1024 .f32}
  {t : Vec Ideal S512x1024 .f32} {H T : Fin 512 → Fin 1024 → EReal} {G : Fin 1024 → EReal}

/-- The gradient by a row's entry. -/
theorem Entries.grad_at (E : Entries (k0_pay62 x a wd) g t H G T) (r : Fin 512) (l : Fin 1024) :
    k0_pay69 (k0_pay62 x a wd) (k0_pay63 x a wd) (k0_pay64 x a wd) g t g (ix2 r l) = rowGrad (H r) G (T r) l := by
  pointwise [k0_pay69, k0_pay68, k0_pay66, k0_pay65, k0_pay64, k0_pay63]
  simp only [E.h, E.g, E.t]
  exact (zero_add _).symm

/-- A block's part of the loss. -/
theorem Entries.loss_at (E : Entries (k0_pay62 x a wd) g t H G T) (before : Vec Ideal S1x128 .f32) (l : Fin 128) :
    k0_pay4 (k0_pay67 (k0_pay62 x a wd) (k0_pay64 x a wd) g t) before (ix2 0 l)
      = before (ix2 0 l) + ∑ r, Ideal.ofBits .f32 0x3F000000#32 * rowLoss (H r) G (T r) := by
  pointwise [k0_pay4, k0_pay67, k0_pay66, k0_pay65, k0_pay64, k0_pay63]
  simp only [E.h, E.g, E.t]
  rw [← mul_sum _ (half_f32 ▸ EReal.coe_nonneg.mpr (by norm_num)) (half_f32 ▸ EReal.coe_ne_top _)]
  rfl

/-- A block's part of the scale's gradient. -/
theorem Entries.scale_at (E : Entries (k0_pay62 x a wd) g t H G T) (before : Vec Ideal S1x1024 .f32) (l : Fin 1024) :
    k0_pay3 (k0_pay70 (k0_pay62 x a wd) (k0_pay64 x a wd) g t) before (ix2 0 l) = before (ix2 0 l) + ∑ r, scaleTerm (H r) G (T r) l := by
  pointwise [k0_pay3, k0_pay70, k0_pay68, k0_pay66, k0_pay65, k0_pay64, k0_pay63]
  simp only [E.h, E.g, E.t]
  rfl

end

/-- Where the blocks of a point lie. -/
theorem idx (t : Fin cfg0.N) : win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![0, 0] ∧ win0_10.index t = ![t.val, 0] ∧ win0_11.index t = ![t.val, 0] ∧ win0_12.index t = ![0, 0] :=
  (by decide +kernel : ∀ t : Fin grid0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0]
    ∧ win0_9.index t = ![0, 0] ∧ win0_10.index t = ![t.val, 0] ∧ win0_11.index t = ![t.val, 0] ∧ win0_12.index t = ![0, 0]) t

/-- The launch holds these arrays. -/
structure Starts (m : (ℓ : Loc nD τ sig) → Buf (Elt Ideal) ℓ) (c : Dev nD) (A : Head) : Prop where
  x : ∀ r l, m ((c : Thread nD τ).loc main_arg0) (ix2 r l) = A.x r l
  g : ∀ l, m ((c : Thread nD τ).loc main_arg1) (ix2 0 l) = A.g l
  w : ∀ k l, m ((c : Thread nD τ).loc main_arg2) (ix2 k l) = A.w k l
  wd : ∀ k l, m ((c : Thread nD τ).loc main_arg3) (ix2 k l) = A.wd k l
  gf : ∀ l, m ((c : Thread nD τ).loc main_arg4) (ix2 0 l) = A.gf l
  t : ∀ r l, m ((c : Thread nD τ).loc main_arg5) (ix2 r l) = A.t r l

variable {m} {c} {A : Head}

/-- A point's rows of x. -/
theorem x_block (S : Starts m c A) (t : Fin cfg0.N) (r : Fin 512) : (fun k : Fin 1024 => iblk m c 0 t (ix2 r k)) = A.x (rowOf t.val t.isLt r) := by
  funext k
  refine Eq.trans ?_ (S.x _ _)
  blk_ext! [iblk, V, idx t, rowOf]

/-- A point's gain. -/
theorem g_block (S : Starts m c A) (t : Fin cfg0.N) : (fun k : Fin 1024 => iblk m c 1 t (ix2 (0 : Fin 1) k)) = A.g := by
  funext k
  refine Eq.trans ?_ (S.g _)
  blk_ext! [iblk, V, idx t]

/-- A point's matrix w_up. -/
theorem w_block (S : Starts m c A) (t : Fin cfg0.N) : (fun (j : Fin 5632) (k : Fin 1024) => iblk m c 2 t (ix2 j k)) = A.w := by
  funext j k
  refine Eq.trans ?_ (S.w _ _)
  blk_ext! [iblk, V, idx t]

/-- A point's matrix w_down. -/
theorem wd_block (S : Starts m c A) (t : Fin cfg0.N) : (fun (j : Fin 2816) (k : Fin 1024) => iblk m c 3 t (ix2 j k)) = A.wd := by
  funext j k
  refine Eq.trans ?_ (S.wd _ _)
  blk_ext! [iblk, V, idx t]

/-- A point's normed rows. -/
theorem n_block (S : Starts m c A) (t : Fin cfg0.N) (r : Fin 512) (l : Fin 1024) :
    nBlock m c t (ix2 r l) = normed (A.x (rowOf t.val t.isLt r)) A.g l := by
  rw [← x_block S, ← g_block S t]
  exact Cert.Kernel9Ideal.Up.normed_at (iblk m c 0 t) (iblk m c 1 t) r l

/-- A point's products. -/
theorem ab_block (S : Starts m c A) (t : Fin cfg0.N) (r : Fin 512) : products (nBlock m c t) (iblk m c 2 t) r = A.ab (rowOf t.val t.isLt r) := by
  rw [Head.ab, ← x_block S, ← g_block S t, ← w_block S t]
  exact products_eq (iblk m c 0 t) (iblk m c 1 t) (iblk m c 2 t) r

/-- A point's activation. -/
theorem act_block (S : Starts m c A) (t : Fin cfg0.N) (r : Fin 512) (j : Fin 2816) : aBlock m c t (ix2 r j) = gated (A.ab (rowOf t.val t.isLt r)) j :=
  (act_at _ _ _).trans (congrArg (fun p => gated p j) (ab_block S t r))

/-- What the blocks of the head hold at a point. -/
theorem entries (S : Starts m c A) (t : Fin cfg0.N) : Entries (hBlock m c t) (iblk m c 4 t) (iblk m c 5 t)
    (fun r => A.h (rowOf t.val t.isLt r)) A.gf (fun r => A.t (rowOf t.val t.isLt r)) where
  h r l := by
    rw [Head.h, ← x_block S, ← wd_block S t]
    exact (half_at _ _ _ r l).trans (congrArg (fun a => halfStep (fun k => iblk m c 0 t (ix2 r k)) a (fun k l => iblk m c 3 t (ix2 k l)) l) (funext fun j => act_block S t r j))
  g l := by
    refine Eq.trans ?_ (S.gf _)
    blk_ext! [iblk, V, idx t]
  t r l := by
    refine Eq.trans ?_ (S.t _ _)
    blk_ext! [iblk, V, idx t, rowOf]

/-- The loss after a point: the sum over the rows seen so far. -/
theorem loss_out (S : Starts m c A) (l : Fin 128) (n : ℕ) : ∀ hn : n < cfg0.N,
    (outsAt0 m c n hn).2.2.2.1 (ix2 0 l) = firstRows A.lossTerm (512 * n + 512) := by
  induction n with
  | zero =>
    intro hn
    rw [firstRows_step _ _ _ (by omega)]
    refine ((congrFun (loss_A m c ⟨0, hn⟩ rfl) _).trans ((entries S ⟨0, hn⟩).loss_at _ l)).trans (congrArg₂ (· + ·) ?_ rfl)
    pointwise [k0_pay2]
    rfl
  | succ n ih =>
    intro hn
    have hn' : n + 1 < 16 := hn
    rw [firstRows_step _ _ _ (by omega)]
    refine ((congrFun (loss_B m c ⟨n + 1, hn⟩ (by simp only []; omega)) _).trans ((entries S ⟨n + 1, hn⟩).loss_at _ l)).trans
      (congrArg₂ (· + ·) ((ih (by omega)).trans ?_) rfl)
    rw [Nat.mul_add, Nat.mul_one]

/-- The scale's gradient after a point. -/
theorem dg_out (S : Starts m c A) (l : Fin 1024) (n : ℕ) : ∀ hn : n < cfg0.N,
    (outsAt0 m c n hn).2.2.2.2.2.2 (ix2 0 l) = firstRows (fun r => scaleTerm (A.h r) A.gf (A.t r) l) (512 * n + 512) := by
  induction n with
  | zero =>
    intro hn
    rw [firstRows_step _ _ _ (by omega)]
    refine ((congrFun (dg_A m c ⟨0, hn⟩ rfl) _).trans ((entries S ⟨0, hn⟩).scale_at _ l)).trans (congrArg₂ (· + ·) ?_ rfl)
    pointwise [k0_pay1]
    rfl
  | succ n ih =>
    intro hn
    have hn' : n + 1 < 16 := hn
    rw [firstRows_step _ _ _ (by omega)]
    refine ((congrFun (dg_B m c ⟨n + 1, hn⟩ (by simp only []; omega)) _).trans ((entries S ⟨n + 1, hn⟩).scale_at _ l)).trans
      (congrArg₂ (· + ·) ((ih (by omega)).trans ?_) rfl)
    rw [Nat.mul_add, Nat.mul_one]

/-- The products the idealized kernel ends with. -/
theorem ab_final (S : Starts m c A) : (dats m 0 c).arrAt 6 cfg0.N = fun y => A.ab (y 0) (y 1) := by
  refine (dats m 0 c).arrAt_eq_of_covers 6 _ (by decide +kernel) fun t hf y => ?_
  obtain ⟨a, b, rfl⟩ : ∃ (a : Fin 512) (b : Fin 5632), y = ix2 a b := ⟨y 0, y 1, by funext d; fin_cases d <;> rfl⟩
  rw [after0_6]
  refine Eq.trans ?_ (((ab_out m c t (ix2 a b)).trans (congrFun (ab_block S t a) b)).trans ?_)
  · blk_simp
  · have e : (win0_6.blk t).view.emb (ix2 a b) = ix2 (rowOf t.val t.isLt a) b := by
      blk_ext [idx t, rowOf]
    show _ = A.ab ((win0_6.blk t).view.emb (ix2 a b) 0) ((win0_6.blk t).view.emb (ix2 a b) 1)
    rw [e]
    rfl

/-- The normed rows it ends with. -/
theorem n_final (S : Starts m c A) : (dats m 0 c).arrAt 7 cfg0.N = fun y => normed (A.x (y 0)) A.g (y 1) := by
  refine (dats m 0 c).arrAt_eq_of_covers 7 _ (by decide +kernel) fun t hf y => ?_
  obtain ⟨a, b, rfl⟩ : ∃ (a : Fin 512) (b : Fin 1024), y = ix2 a b := ⟨y 0, y 1, by funext d; fin_cases d <;> rfl⟩
  rw [after0_7]
  refine Eq.trans ?_ (((congrFun (n_out m c t) _).trans (n_block S t a b)).trans ?_)
  · blk_simp
  · have e : (win0_7.blk t).view.emb (ix2 a b) = ix2 (rowOf t.val t.isLt a) b := by
      blk_ext [idx t, rowOf]
    show _ = normed (A.x ((win0_7.blk t).view.emb (ix2 a b) 0)) A.g ((win0_7.blk t).view.emb (ix2 a b) 1)
    rw [e]
    rfl

/-- The activation it ends with. -/
theorem act_final (S : Starts m c A) : (dats m 0 c).arrAt 8 cfg0.N = fun y => gated (A.ab (y 0)) (y 1) := by
  refine (dats m 0 c).arrAt_eq_of_covers 8 _ (by decide +kernel) fun t hf y => ?_
  obtain ⟨a, b, rfl⟩ : ∃ (a : Fin 512) (b : Fin 2816), y = ix2 a b := ⟨y 0, y 1, by funext d; fin_cases d <;> rfl⟩
  rw [after0_8]
  refine Eq.trans ?_ (((congrFun (act_out m c t) _).trans (act_block S t a b)).trans ?_)
  · blk_simp
  · have e : (win0_8.blk t).view.emb (ix2 a b) = ix2 (rowOf t.val t.isLt a) b := by
      blk_ext [idx t, rowOf]
    show _ = gated (A.ab ((win0_8.blk t).view.emb (ix2 a b) 0)) ((win0_8.blk t).view.emb (ix2 a b) 1)
    rw [e]
    rfl

/-- The gradient by the rows it ends with. -/
theorem dh_final (S : Starts m c A) : (dats m 0 c).arrAt 10 cfg0.N = fun y => A.dh (y 0) (y 1) := by
  refine (dats m 0 c).arrAt_eq_of_covers 10 _ (by decide +kernel) fun t hf y => ?_
  obtain ⟨a, b, rfl⟩ : ∃ (a : Fin 512) (b : Fin 1024), y = ix2 a b := ⟨y 0, y 1, by funext d; fin_cases d <;> rfl⟩
  rw [after0_10]
  refine Eq.trans ?_ (((congrFun (dh_out m c t) _).trans ((entries S t).grad_at a b)).trans ?_)
  · blk_simp
  · have e : (win0_10.blk t).view.emb (ix2 a b) = ix2 (rowOf t.val t.isLt a) b := by
      blk_ext [idx t, rowOf]
    show _ = A.dh ((win0_10.blk t).view.emb (ix2 a b) 0) ((win0_10.blk t).view.emb (ix2 a b) 1)
    rw [e]
    rfl

/-- The same in the narrow format. -/
theorem dhb_final (S : Starts m c A) : (dats m 0 c).arrAt 11 cfg0.N = fun y => A.dh (y 0) (y 1) := by
  refine (dats m 0 c).arrAt_eq_of_covers 11 _ (by decide +kernel) fun t hf y => ?_
  obtain ⟨a, b, rfl⟩ : ∃ (a : Fin 512) (b : Fin 1024), y = ix2 a b := ⟨y 0, y 1, by funext d; fin_cases d <;> rfl⟩
  rw [after0_11]
  refine Eq.trans ?_ (((congrFun (dhb_out m c t) _).trans ((entries S t).grad_at a b)).trans ?_)
  · blk_simp
  · have e : (win0_11.blk t).view.emb (ix2 a b) = ix2 (rowOf t.val t.isLt a) b := by
      blk_ext [idx t, rowOf]
    show _ = A.dh ((win0_11.blk t).view.emb (ix2 a b) 0) ((win0_11.blk t).view.emb (ix2 a b) 1)
    rw [e]
    rfl

/-- The loss it ends with, on every lane. -/
theorem loss_final (S : Starts m c A) : (dats m 0 c).arrAt 9 cfg0.N = fun _ => A.loss := by
  refine (dats m 0 c).arrAt_eq_of_covers 9 _ (by decide +kernel) fun t hf y => ?_
  have h15 : t.val = 15 := by
    have h := (flush0_9 t).mp hf
    have : t.val < 16 := t.isLt
    omega
  obtain ⟨z, b, rfl⟩ : ∃ (z : Fin 1) (b : Fin 128), y = ix2 z b := ⟨y 0, y 1, by funext d; fin_cases d <;> rfl⟩
  obtain rfl : z = 0 := Subsingleton.elim _ _
  rw [after0_9]
  refine Eq.trans ?_ ((loss_out S b t.val t.isLt).trans ?_)
  · blk_simp
  · rw [h15, firstRows_all]
    rfl

/-- The gradient by the scale it ends with. -/
theorem dg_final (S : Starts m c A) : (dats m 0 c).arrAt 12 cfg0.N = fun y => A.dgf (y 1) := by
  refine (dats m 0 c).arrAt_eq_of_covers 12 _ (by decide +kernel) fun t hf y => ?_
  have h15 : t.val = 15 := by
    have h := (flush0_12 t).mp hf
    have : t.val < 16 := t.isLt
    omega
  obtain ⟨z, b, rfl⟩ : ∃ (z : Fin 1) (b : Fin 1024), y = ix2 z b := ⟨y 0, y 1, by funext d; fin_cases d <;> rfl⟩
  obtain rfl : z = 0 := Subsingleton.elim _ _
  rw [after0_12]
  refine Eq.trans ?_ ((dg_out S b t.val t.isLt).trans ?_)
  · blk_simp
  · rw [h15, firstRows_all]
    have e : (win0_12.blk t).view.emb (ix2 0 b) = ix2 0 b := by
      blk_ext [idx t]
    show _ = A.dgf ((win0_12.blk t).view.emb (ix2 0 b) 1)
    rw [e]
    rfl

/-- What the run ends with. -/
theorem run_at (A : Dev nD → Head) (m : (ℓ : Loc nD τ sig) → Buf (Elt Ideal) ℓ) (ρ : Dev nD → PrngReg) (S : ∀ c, Starts m c (A c)) :
    θ_run defs (onTc (τ := τ) (main (F := Ideal))) ⟨m, fun _ => 0, ρ⟩ fun r => ∀ c : Dev nD,
      r.2.mem ((c : Thread nD τ).loc main_v0_0) = (fun y => (A c).ab (y 0) (y 1))
      ∧ r.2.mem ((c : Thread nD τ).loc main_v0_1) = (fun y => normed ((A c).x (y 0)) (A c).g (y 1))
      ∧ r.2.mem ((c : Thread nD τ).loc main_v0_2) = (fun y => gated ((A c).ab (y 0)) (y 1))
      ∧ r.2.mem ((c : Thread nD τ).loc main_v0_3) = (fun _ => (A c).loss)
      ∧ r.2.mem ((c : Thread nD τ).loc main_v0_4) = (fun y => (A c).dh (y 0) (y 1))
      ∧ r.2.mem ((c : Thread nD τ).loc main_v0_5) = (fun y => (A c).dh (y 0) (y 1))
      ∧ r.2.mem ((c : Thread nD τ).loc main_v0_6) = (fun y => (A c).dgf (y 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h0, h1, h2, h3, h4, h5, h6, h7⟩ := h c
    exact ⟨h0.trans (ab_final (S c)), h1.trans (n_final (S c)), h2.trans (act_final (S c)), h3.trans (loss_final (S c)), h4.trans (dh_final (S c)),
      h5.trans (dhb_final (S c)), h6.trans (dg_final (S c)), h7⟩) (Cert.Kernel11Ideal.Value.run_blocks m ρ)

end Cert.Kernel11Ideal.Loss

namespace Cert.Proof

open Idealize.ShloMosaic Idealize.ShloMosaic.TcCoe Idealize.SL.Sem
open Cert.Reference11Ideal.Loss Cert.Rows

instance kernel11Facts : Cert.Kernel11Ideal.Facts := Cert.Kernel11Ideal.Gen.facts
instance reference11Facts : Cert.Reference11Ideal.Facts := Cert.Reference11Ideal.Gen.facts

set_option maxHeartbeats 4000000 in
/-- Both programs leave the same rows of the half step's first part, the same loss and the same gradients of it. -/
theorem algebraic_ffn_loss : Cert.algebraic_Kernel11Ideal_Reference11Ideal := by
  intro m ρ m' ρ' _ hargs
  let V : Dev Cert.Kernel11Ideal.nD → Head := fun c =>
    inputs (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2))
      (m ((c.tc : Thread Cert.Kernel11Ideal.nD Cert.Kernel11Ideal.τ).loc Cert.Kernel11Ideal.main_arg3))
      (m ((c.tc : Thread Cert.Kernel11Ideal.nD Cert.Kernel11Ideal.τ).loc Cert.Kernel11Ideal.main_arg4))
      (m ((c.tc : Thread Cert.Kernel11Ideal.nD Cert.Kernel11Ideal.τ).loc Cert.Kernel11Ideal.main_arg5))
  have E := fun c : Dev Cert.Kernel11Ideal.nD => Entries.of
    (m ((c.tc : Thread Cert.Kernel11Ideal.nD Cert.Kernel11Ideal.τ).loc Cert.Kernel11Ideal.main_arg0))
    (m ((c.tc : Thread Cert.Kernel11Ideal.nD Cert.Kernel11Ideal.τ).loc Cert.Kernel11Ideal.main_arg1))
    (m ((c.tc : Thread Cert.Kernel11Ideal.nD Cert.Kernel11Ideal.τ).loc Cert.Kernel11Ideal.main_arg2))
    (m ((c.tc : Thread Cert.Kernel11Ideal.nD Cert.Kernel11Ideal.τ).loc Cert.Kernel11Ideal.main_arg3))
    (m ((c.tc : Thread Cert.Kernel11Ideal.nD Cert.Kernel11Ideal.τ).loc Cert.Kernel11Ideal.main_arg4))
    (m ((c.tc : Thread Cert.Kernel11Ideal.nD Cert.Kernel11Ideal.τ).loc Cert.Kernel11Ideal.main_arg5))
  refine ⟨fun c y => (V c).ab (y 0) (y 1), fun c y => (normed ((V c).x (y 0)) (V c).g (y 1) : EReal), fun c y => (gated ((V c).ab (y 0)) (y 1) : EReal),
    fun c _ => (V c).loss, fun c y => (V c).dh (y 0) (y 1), fun c y => (V c).dh (y 0) (y 1), fun c y => (V c).dgf (y 1),
    Cert.Kernel11Ideal.Loss.run_at V m ρ fun c => ⟨fun _ _ => rfl, fun _ => rfl, fun _ _ => rfl, fun _ _ => rfl, fun _ => rfl, fun _ _ => rfl⟩,
    (θ_run Cert.Reference11Ideal.defs _ _).mono (fun r h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2.1.trans ?_, (h c).2.2.2.2.2.2.2⟩) (Cert.Reference11Ideal.Value.run m' ρ')⟩
  all_goals
    funext y
    obtain ⟨e0, e1, e2, e3, e4, e5⟩ := hargs c
  · obtain ⟨a, b, rfl⟩ : ∃ (a : Fin 8192) (b : Fin 5632), y = ix2 a b := ⟨y 0, y 1, by funext d; fin_cases d <;> rfl⟩
    rw [e0, e1, e2]
    exact Cert.Reference9Ideal.Up.prods_at _ _ _ a b
  · obtain ⟨a, b, rfl⟩ : ∃ (a : Fin 8192) (b : Fin 1024), y = ix2 a b := ⟨y 0, y 1, by funext d; fin_cases d <;> rfl⟩
    rw [e0, e1]
    exact Cert.Reference9Ideal.Up.norms_at _ _ a b
  · obtain ⟨a, b, rfl⟩ : ∃ (a : Fin 8192) (b : Fin 2816), y = ix2 a b := ⟨y 0, y 1, by funext d; fin_cases d <;> rfl⟩
    rw [e0, e1, e2]
    exact acts_at _ _ _ _ _ _ a b
  · obtain ⟨z, b, rfl⟩ : ∃ (z : Fin 1) (b : Fin 128), y = ix2 z b := ⟨y 0, y 1, by funext d; fin_cases d <;> rfl⟩
    obtain rfl : z = 0 := Subsingleton.elim _ _
    unfold Cert.Reference11Ideal.Value.res_main_v82
    rw [e0, e1, e2, e3, e4, e5]
    exact ((E c).losses_at b).trans (V c).half_sum
  · obtain ⟨a, b, rfl⟩ : ∃ (a : Fin 8192) (b : Fin 1024), y = ix2 a b := ⟨y 0, y 1, by funext d; fin_cases d <;> rfl⟩
    unfold Cert.Reference11Ideal.Value.res_main_v81
    rw [e0, e1, e2, e3, e4, e5]
    exact (E c).dhs_at a b
  · obtain ⟨a, b, rfl⟩ : ∃ (a : Fin 8192) (b : Fin 1024), y = ix2 a b := ⟨y 0, y 1, by funext d; fin_cases d <;> rfl⟩
    unfold Cert.Reference11Ideal.Value.res_main_v83
    rw [e0, e1, e2, e3, e4, e5]
    exact (E c).dhs_at a b
  · obtain ⟨z, b, rfl⟩ : ∃ (z : Fin 1) (b : Fin 1024), y = ix2 z b := ⟨y 0, y 1, by funext d; fin_cases d <;> rfl⟩
    obtain rfl : z = 0 := Subsingleton.elim _ _
    unfold Cert.Reference11Ideal.Value.res_main_v84
    rw [e0, e1, e2, e3, e4, e5]
    exact (E c).dgfs_at b

end Cert.Proof

end
-- ==== Proof.MixOutReference.lean ====
/-
  The backward pass of the mixers' gated sum, row by row, and the reference's arrays in these terms.
-/
module

public import proofs.«01_k».proof.Proof.Gen.Reference12Ideal.Run
public import proofs.«01_k».proof.Proof.RowSums

@[expose] public section

set_option maxRecDepth 16384

noncomputable section

namespace Cert.Rows

open Idealize.ShloMosaic

/-- What the backward pass of the gated sum takes: its cotangent, the gates, the two mixers' outputs, the pooled rows and the weights. -/
structure Mix where
  dh : Fin 8192 → Fin 1024 → EReal
  gate : Fin 8192 → Fin 2048 → EReal
  a : Fin 8192 → Fin 1024 → EReal
  p : Fin 8192 → Fin 1024 → EReal
  pooled : Fin 8192 → Fin 512 → EReal
  wattn : Fin 1024 → Fin 1024 → EReal
  wmix : Fin 4 → Fin 128 → Fin 128 → EReal
  scale : Fin 512 → EReal
  wpool : Fin 1024 → Fin 512 → EReal
  wout : Fin 1024 → Fin 1024 → EReal

/-- The gradient by a row of the gated sum. -/
def mergeGrad (d : Fin 1024 → EReal) (wout : Fin 1024 → Fin 1024 → EReal) (k : Fin 1024) : EReal := ∑ l, d l * wout k l
/-- The half of a row of gates from column `o` on. -/
def half (o : ℕ) (ho : o + 1024 ≤ 2048) (gate : Fin 2048 → EReal) (k : Fin 1024) : EReal := gate ⟨o + k.val, by omega⟩
/-- The gradient by a mixer's output: through its gate. -/
def gateGrad (dm gate : Fin 1024 → EReal) (k : Fin 1024) : EReal := dm k * Ideal.logistic (gate k)
/-- The gradient by a gate. -/
def sigmoidGrad (dm gate a : Fin 1024 → EReal) (k : Fin 1024) : EReal := dm k * a k * (Ideal.logistic (gate k) * (1 - Ideal.logistic (gate k)))
/-- The gradient by a row of the pooling's output before its last product. -/
def poolGrad (dp : Fin 1024 → EReal) (wpool : Fin 1024 → Fin 512 → EReal) (j : Fin 512) : EReal := ∑ l, dp l * wpool l j
/-- A column of the group of column `j`. -/
def inGroup (j : Fin 512) (c : Fin 128) : Fin 512 := ⟨j.val / 128 * 128 + c.val, by omega⟩
/-- The group of a column. -/
def group (j : Fin 512) : Fin 4 := ⟨j.val / 128, by omega⟩
/-- A column's place in its group. -/
def place (j : Fin 512) : Fin 128 := ⟨j.val % 128, by omega⟩
/-- A row's pooled columns mixed within their groups. -/
def mixed (pooled : Fin 512 → EReal) (wmix : Fin 4 → Fin 128 → Fin 128 → EReal) (j : Fin 512) : EReal := ∑ c, pooled (inGroup j c) * wmix (group j) c (place j)
/-- The gradient by a pooled column. -/
def pooledGrad (dmixed : Fin 512 → EReal) (wmix : Fin 4 → Fin 128 → Fin 128 → EReal) (j : Fin 512) : EReal :=
  ∑ d, dmixed (inGroup j d) * wmix (group j) (place j) d

variable (V : Mix)

/-- The gradient by the gated sum. -/
def Mix.dm (r : Fin 8192) : Fin 1024 → EReal := mergeGrad (V.dh r) V.wout
/-- The gates of the attention. -/
def Mix.gA (r : Fin 8192) : Fin 1024 → EReal := half 0 (by omega) (V.gate r)
/-- The gates of the pooling. -/
def Mix.gP (r : Fin 8192) : Fin 1024 → EReal := half 1024 (by omega) (V.gate r)
/-- The gradient by the attention's output. -/
def Mix.da (r : Fin 8192) : Fin 1024 → EReal := gateGrad (V.dm r) (V.gA r)
/-- The gradient by the pooling's output. -/
def Mix.dp (r : Fin 8192) : Fin 1024 → EReal := gateGrad (V.dm r) (V.gP r)
/-- The gradient by the attention's heads. -/
def Mix.dattn (r : Fin 8192) : Fin 1024 → EReal := mergeGrad (V.da r) V.wattn
/-- The gradient by the gates. -/
def Mix.dgate (r : Fin 8192) (j : Fin 2048) : EReal :=
  if h : j.val < 1024 then sigmoidGrad (V.dm r) (V.gA r) (V.a r) ⟨j.val, h⟩ else sigmoidGrad (V.dm r) (V.gP r) (V.p r) ⟨j.val - 1024, by omega⟩
/-- The gradient by the scaled mixed columns. -/
def Mix.dms (r : Fin 8192) : Fin 512 → EReal := poolGrad (V.dp r) V.wpool
/-- The gradient by the mixed columns. -/
def Mix.dmixed (r : Fin 8192) (j : Fin 512) : EReal := V.dms r j * V.scale j
/-- The gradient by the pooled columns. -/
def Mix.dpooled (r : Fin 8192) : Fin 512 → EReal := pooledGrad (V.dmixed r) V.wmix
/-- A row's part of the gradient by the scale. -/
def Mix.scaleTerm (j : Fin 512) (r : Fin 8192) : EReal := V.dms r j * mixed (V.pooled r) V.wmix j
/-- A row's part of the gradient by the mixing weights. -/
def Mix.mixTerm (g : Fin 4) (k d : Fin 128) (r : Fin 8192) : EReal :=
  V.pooled r ⟨g.val * 128 + k.val, by omega⟩ * V.dmixed r ⟨g.val * 128 + d.val, by omega⟩

end Cert.Rows

namespace Cert.Reference12Ideal.Grad

open Idealize.ShloMosaic Idealize.ShloMosaic.TcCoe
open Cert.Reference12Ideal Cert.Reference12Ideal.Gen Cert.Rows

variable (dh : FVec Ideal S8192x1024 .f32) (gate : FVec Ideal S8192x2048 .bf16) (a p : FVec Ideal S8192x1024 .bf16) (pooled : FVec Ideal S8192x512 .bf16)
  (wattn : FVec Ideal S1024x1024 .bf16) (wmix : FVec Ideal S4x128x128 .bf16) (scale : FVec Ideal S1x512 .f32) (wpool : FVec Ideal S1024x512 .bf16)
  (wout : FVec Ideal S1024x1024 .bf16)

/-- The inputs read off arrays. -/
def inputs : Mix where
  dh r l := dh (ix2 r l)
  gate r l := gate (ix2 r l)
  a r l := a (ix2 r l)
  p r l := p (ix2 r l)
  pooled r l := pooled (ix2 r l)
  wattn k l := wattn (ix2 k l)
  wmix g k l := wmix (ix3 g k l)
  scale l := scale (ix2 0 l)
  wpool k l := wpool (ix2 k l)
  wout k l := wout (ix2 k l)

/-- The gradients by the gated sum. -/
def dms : FVec Ideal S8192x1024 .f32 := Host.dotGeneral dot_S8192x1024_S1024x1024_S8192x1024_1_1_0_0_n_n none dh (extf .f32 wout bitsLt_bf16_f32)

/-- Their entries. -/
theorem dms_at (r : Fin 8192) (k : Fin 1024) : dms dh wout (ix2 r k) = mergeGrad (fun l => dh (ix2 r l)) (fun k l => wout (ix2 k l)) k := by
  unfold dms
  pointwise []
  rfl

/-- The gates' values. -/
def sigmoids (x : FVec Ideal S8192x1024 .f32) : FVec Ideal S8192x1024 .f32 :=
  Host.divf (broadcastInDim S8192x1024 ![] bcast_S_S8192x1024 (constant S_ .f32 0x3F800000#32))
    (addf (broadcastInDim S8192x1024 ![] bcast_S_S8192x1024 (constant S_ .f32 0x3F800000#32)) (Host.exp (Host.negf x)))

/-- An entry of them. -/
theorem sigmoids_at (x : FVec Ideal S8192x1024 .f32) (r : Fin 8192) (k : Fin 1024) : sigmoids x (ix2 r k) = Ideal.logistic (x (ix2 r k)) := by
  unfold sigmoids
  pointwise []
  rfl

/-- The attention's gates. -/
def gatesA : FVec Ideal S8192x1024 .f32 := extractStridedSlice S8192x1024 ![0, 0] (extf .f32 gate bitsLt_bf16_f32) slices_S8192x2048_S8192x1024_0_0
/-- The pooling's gates. -/
def gatesP : FVec Ideal S8192x1024 .f32 := extractStridedSlice S8192x1024 ![0, 1024] (extf .f32 gate bitsLt_bf16_f32) slices_S8192x2048_S8192x1024_0_1024

/-- An attention's gate. -/
theorem gatesA_at (r : Fin 8192) (k : Fin 1024) : gatesA gate (ix2 r k) = half 0 (by omega) (fun l => gate (ix2 r l)) k := by
  unfold gatesA
  pointwise []
  simp [half]

/-- A pooling's gate. -/
theorem gatesP_at (r : Fin 8192) (k : Fin 1024) : gatesP gate (ix2 r k) = half 1024 (by omega) (fun l => gate (ix2 r l)) k := by
  unfold gatesP
  pointwise []
  rfl

/-- The gradients through a gate. -/
def through (x d : FVec Ideal S8192x1024 .f32) : FVec Ideal S8192x1024 .f32 := mulf (sigmoids x) d

/-- An entry of them. -/
theorem through_at (x d : FVec Ideal S8192x1024 .f32) (r : Fin 8192) (k : Fin 1024) :
    through x d (ix2 r k) = gateGrad (fun l => d (ix2 r l)) (fun l => x (ix2 r l)) k := by
  have e := sigmoids_at x r k
  exact (congrArg (· * d (ix2 r k)) e).trans (mul_comm _ _)

/-- The gradients by a gate. -/
def byGate (x d a : FVec Ideal S8192x1024 .f32) : FVec Ideal S8192x1024 .f32 :=
  mulf (mulf d a) (mulf (sigmoids x) (subf (broadcastInDim S8192x1024 ![] bcast_S_S8192x1024 (constant S_ .f32 0x3F800000#32)) (sigmoids x)))

/-- An entry of them. -/
theorem byGate_at (x d a : FVec Ideal S8192x1024 .f32) (r : Fin 8192) (k : Fin 1024) :
    byGate x d a (ix2 r k) = sigmoidGrad (fun l => d (ix2 r l)) (fun l => x (ix2 r l)) (fun l => a (ix2 r l)) k := by
  unfold byGate
  pointwise []
  rw [sigmoids_at]
  rfl

/-- The gradients by the scaled mixed columns. -/
def scaledGrads (dp : FVec Ideal S8192x1024 .f32) : FVec Ideal S8192x512 .f32 :=
  Host.dotGeneral dot_S8192x1024_S512x1024_S8192x512_1_1_0_0_n_n none dp (transpose S512x1024 [1, 0] (extf .f32 wpool bitsLt_bf16_f32) transposes_S1024x512_S512x1024_1_0)

/-- An entry of them. -/
theorem scaledGrads_at (dp : FVec Ideal S8192x1024 .f32) (r : Fin 8192) (j : Fin 512) :
    scaledGrads wpool dp (ix2 r j) = poolGrad (fun l => dp (ix2 r l)) (fun k l => wpool (ix2 k l)) j := by
  unfold scaledGrads
  pointwise []
  rfl

/-- The gradients by the mixed columns, by group. -/
def mixedGrads (d : FVec Ideal S8192x512 .f32) : FVec Ideal S4x128x8192 .f32 :=
  transpose S4x128x8192 [1, 2, 0] (shapeCast _ (mulf d (broadcastInDim S8192x512 ![0, 1] bcast_S1x512_S8192x512_0_1
    (broadcastInDim S1x512 ![1] bcast_S512_S1x512_1 (shapeCast _ scale shapeCasts_S1x512_S512)))) shapeCasts_S8192x512_S8192x4x128) transposes_S8192x4x128_S4x128x8192_1_2_0

/-- An entry of them. -/
theorem mixedGrads_at (d : FVec Ideal S8192x512 .f32) (g : Fin 4) (k : Fin 128) (r : Fin 8192) :
    mixedGrads scale d (ix3 g k r) = d (ix2 r ⟨g.val * 128 + k.val, by omega⟩) * scale (ix2 0 ⟨g.val * 128 + k.val, by omega⟩) := by
  unfold mixedGrads
  pointwise []

/-- The gradients by the pooled columns. -/
def pooledGrads (d : FVec Ideal S4x128x8192 .f32) : FVec Ideal S8192x512 .f32 :=
  shapeCast _ (transpose S8192x4x128 [1, 0, 2] (Host.dotGeneral dot_S4x128x8192_S4x128x128_S4x8192x128_1_2_2_1_0_0 none d (extf .f32 wmix bitsLt_bf16_f32))
    transposes_S4x8192x128_S8192x4x128_1_0_2) shapeCasts_S8192x4x128_S8192x512

/-- An entry of them. -/
theorem pooledGrads_at (d : FVec Ideal S4x128x8192 .f32) (r : Fin 8192) (j : Fin 512) :
    pooledGrads wmix d (ix2 r j) = ∑ k, d (ix3 (group j) k r) * wmix (ix3 (group j) (place j) k) := by
  unfold pooledGrads
  pointwise []
  rfl

/-- The gradients by the mixing weights. -/
def mixGrads (d : FVec Ideal S4x128x8192 .f32) : FVec Ideal S4x128x128 .f32 :=
  transpose S4x128x128 [0, 2, 1] (Host.dotGeneral dot_S4x128x8192_S8192x4x128_S4x128x128_2_0_1_2_0_1 none d
    (shapeCast _ (extf .f32 pooled bitsLt_bf16_f32) shapeCasts_S8192x512_S8192x4x128)) transposes_S4x128x128_S4x128x128_0_2_1

/-- An entry of them. -/
theorem mixGrads_at (d : FVec Ideal S4x128x8192 .f32) (g : Fin 4) (k l : Fin 128) :
    mixGrads pooled d (ix3 g k l) = ∑ r : Fin 8192, d (ix3 g l r) * pooled (ix2 r ⟨g.val * 128 + k.val, by omega⟩) := by
  unfold mixGrads
  pointwise []

/-- The mixed columns. -/
def mixes : FVec Ideal S8192x512 .f32 :=
  shapeCast _ (transpose S8192x4x128 [2, 0, 1] (Host.dotGeneral dot_S4x128x128_S8192x4x128_S4x128x8192_1_2_2_0_0_1 none (extf .f32 wmix bitsLt_bf16_f32)
    (shapeCast _ (extf .f32 pooled bitsLt_bf16_f32) shapeCasts_S8192x512_S8192x4x128)) transposes_S4x128x8192_S8192x4x128_2_0_1) shapeCasts_S8192x4x128_S8192x512

/-- An entry of them. -/
theorem mixes_at (r : Fin 8192) (j : Fin 512) : mixes pooled wmix (ix2 r j) = mixed (fun l => pooled (ix2 r l)) (fun g k l => wmix (ix3 g k l)) j := by
  unfold mixes
  pointwise []
  exact Finset.sum_congr rfl fun c _ => mul_comm _ _

/-- The gradient by the scale. -/
def scaleGrads (d m : FVec Ideal S8192x512 .f32) : FVec Ideal S1x512 .f32 :=
  shapeCast _ (Host.reduceAdd (shapeCast _ (Host.reduceAdd (mulf m d) (constant S_ .f32 0x00000000#32) reducesTo_S8192x512_S512_d0 h_S_) shapeCasts_S512_S1x512)
    (constant S_ .f32 0x00000000#32) reducesTo_S1x512_S512_d0 h_S_) shapeCasts_S512_S1x512

/-- An entry of it. -/
theorem scaleGrads_at (d m : FVec Ideal S8192x512 .f32) (j : Fin 512) : scaleGrads d m (ix2 0 j) = ∑ r : Fin 8192, d (ix2 r j) * m (ix2 r j) := by
  unfold scaleGrads
  pointwise []
  simp only [Finset.univ_unique, Finset.sum_singleton]
  exact Finset.sum_congr rfl fun r _ => mul_comm _ _

end Cert.Reference12Ideal.Grad

end
-- ==== Proof.MixOutTiles.lean ====
/-
  The backward pass of the mixers' gated sum: the values that one grid point of the idealized kernel computes from its blocks.
-/
module

public import proofs.«01_k».proof.Proof.Gen.Kernel12Ideal.Value
public import proofs.«01_k».proof.Proof.MixOutReference
public import proofs.«01_k».proof.Proof.Norm

@[expose] public section

set_option maxRecDepth 16384

noncomputable section

namespace Cert.Kernel12Ideal.Mix

open Idealize.ShloMosaic Idealize.ShloMosaic.TcCoe
open Cert.Kernel12Ideal Cert.Kernel12Ideal.Gen Cert.Rows

/-- Columns read out of an array from column `lo` on, at an index. -/
theorem ld_columns {M N n : ℕ} {e : EltTy} (w : (⟨2, ![M, N]⟩ : Shape).Idx → Elt Ideal e) (lo : ℕ)
    (inb : ∀ d, (![0, lo] : Fin 2 → ℕ) d + (![M, n] : Fin 2 → ℕ) d ≤ (⟨2, ![M, N]⟩ : Shape).size d) (r : Fin M) (j : Fin n) (h : lo + j.val < N) :
    View.ld w (Rect.unit (s := ⟨2, ![M, N]⟩) ![0, lo] ![M, n] inb) (ix2 r j) = w (ix2 r ⟨lo + j.val, h⟩) :=
  congrArg w (emb_columns lo inb r j h)

/-- Where an index of the slab of group `g` lies. -/
theorem emb_slab (g : Fin 4) (inb : ∀ d, (![g.val, 0, 0] : Fin 3 → ℕ) d + (![1, 128, 128] : Fin 3 → ℕ) d ≤ S4x128x128.size d) (k l : Fin 128) :
    (Rect.unit (s := S4x128x128) ![g.val, 0, 0] ![1, 128, 128] inb).emb (ix3 0 k l) = ix3 g k l := by
  funext d
  apply Fin.ext
  match d with
  | ⟨0, _⟩ => exact ValueKit.rect_emb_unit_val _ _ _ _ _
  | ⟨1, _⟩ => exact (ValueKit.rect_emb_unit_val _ _ _ _ _).trans (Nat.zero_add _)
  | ⟨2, _⟩ => exact (ValueKit.rect_emb_unit_val _ _ _ _ _).trans (Nat.zero_add _)

/-- The column of a group's place. -/
def at_ (g : Fin 4) (l : Fin 128) : Fin 512 := ⟨g.val * 128 + l.val, by omega⟩

/-- Its group. -/
theorem group_at (g : Fin 4) (l : Fin 128) : group (at_ g l) = g := Fin.ext (by simp only [group, at_]; omega)
/-- Its place. -/
theorem place_at (g : Fin 4) (l : Fin 128) : place (at_ g l) = l := Fin.ext (by simp only [place, at_]; omega)
/-- The columns of its group. -/
theorem inGroup_at (g : Fin 4) (l c : Fin 128) : inGroup (at_ g l) c = at_ g c := Fin.ext (by simp only [inGroup, at_]; omega)

/-- The gradients by the mixed columns of a group, from those by the scaled ones and the scale. -/
def mixedTile (lo : ℕ) (h : S512x512.Slices ![0, lo] S512x128) (dms : FVec Ideal S512x512 .f32) (s : Vec Ideal S1x128 .f32) : FVec Ideal S512x128 .bf16 :=
  truncf .bf16 (mulf (extractStridedSlice S512x128 ![0, lo] dms h) (broadcastTo S512x128 s broadcasts_S1x128_S512x128)) bitsLt_bf16_f32

/-- An entry of them. -/
theorem mixedTile_at (g : Fin 4) (h : S512x512.Slices ![0, g.val * 128] S512x128) (dms : FVec Ideal S512x512 .f32) (s : Vec Ideal S1x128 .f32) (r : Fin 512)
    (l : Fin 128) : mixedTile (g.val * 128) h dms s (ix2 r l) = dms (ix2 r (at_ g l)) * s (ix2 0 l) := by
  unfold mixedTile
  pointwise []
  rfl

/-- A group's part of the scale's gradient, added to what was there. -/
def scaleTile (lo : ℕ) (h : S512x512.Slices ![0, lo] S512x128) (dms : FVec Ideal S512x512 .f32) (x : Vec Ideal S512x128 .bf16) (w : Vec Ideal S1x128x128 .bf16)
    (before : Vec Ideal S1x128 .f32) : FVec Ideal S1x128 .f32 :=
  addf (shapeCast S1x128 before shapeCasts_S1x128_S1x128) (shapeCast S1x128 (multiReduction .add [0] S128
    (mulf (extractStridedSlice S512x128 ![0, lo] dms h) (matmul (φ₁ := .bf16) (φ₂ := .bf16) dot_S512x128_S128x128_S512x128_1_0_0_1_n_n none x (shapeCast S128x128 w shapeCasts_S1x128x128_S128x128)
      (constant S512x128 .f32 0x00000000#32))) 0x00000000#32 reduces_S512x128_S128 (.inl rfl) rfl) shapeCasts_S128_S1x128)

/-- An entry of it. -/
theorem scaleTile_at (g : Fin 4) (h : S512x512.Slices ![0, g.val * 128] S512x128) (dms : FVec Ideal S512x512 .f32) (x : Vec Ideal S512x128 .bf16)
    (w : Vec Ideal S1x128x128 .bf16) (before : Vec Ideal S1x128 .f32) (l : Fin 128) :
    scaleTile (g.val * 128) h dms x w before (ix2 0 l) = before (ix2 0 l) + ∑ r, dms (ix2 r (at_ g l)) * ∑ c, x (ix2 r c) * w (ix3 0 c l) := by
  unfold scaleTile
  pointwise []
  rfl

/-- An entry of a group's part of the gradient by its mixing weights. -/
theorem weightTile_at (x d : Vec Ideal S512x128 .bf16) (before : Vec Ideal S1x128x128 .f32) (k l : Fin 128) :
    k0_pay17 x d before (ix3 0 k l) = before (ix3 0 k l) + ∑ r, x (ix2 r k) * d (ix2 r l) := by
  pointwise [k0_pay17]

/-- An entry of the gradient by a group's pooled columns. -/
theorem pooledTile_at (d : Vec Ideal S512x128 .bf16) (w : Vec Ideal S1x128x128 .bf16) (r : Fin 512) (l : Fin 128) :
    k0_pay18 d w (ix2 r l) = ∑ k, d (ix2 r k) * w (ix3 0 l k) := by
  pointwise [k0_pay18]

/-- The blocks of a point hold these rows. -/
structure Blocks (V : Mix) (ρ : Fin 512 → Fin 8192) (dh : Vec Ideal S512x1024 .f32) (gate : Vec Ideal S512x2048 .bf16) (a p : Vec Ideal S512x1024 .bf16)
    (pooled : Vec Ideal S512x512 .bf16) (wattn : Vec Ideal S1024x1024 .bf16) (wmix : Vec Ideal S4x128x128 .bf16) (scale : Vec Ideal S1x512 .f32)
    (wpool : Vec Ideal S1024x512 .bf16) (wout : Vec Ideal S1024x1024 .bf16) : Prop where
  dh : ∀ r l, dh (ix2 r l) = V.dh (ρ r) l
  gate : ∀ r l, gate (ix2 r l) = V.gate (ρ r) l
  a : ∀ r l, a (ix2 r l) = V.a (ρ r) l
  p : ∀ r l, p (ix2 r l) = V.p (ρ r) l
  pooled : ∀ r l, pooled (ix2 r l) = V.pooled (ρ r) l
  wattn : ∀ k l, wattn (ix2 k l) = V.wattn k l
  wmix : ∀ g k l, wmix (ix3 g k l) = V.wmix g k l
  scale : ∀ l, scale (ix2 0 l) = V.scale l
  wpool : ∀ k l, wpool (ix2 k l) = V.wpool k l
  wout : ∀ k l, wout (ix2 k l) = V.wout k l

/-- The attention's gates of a block. -/
abbrev gatesA (gate : Vec Ideal S512x2048 .bf16) : Vec Ideal S512x1024 .bf16 :=
  View.ld gate (Rect.unit (s := S512x2048) ![0, 0] S512x1024.size inb_S512x2048_S512x1024_0_0)
/-- The pooling's gates of a block. -/
abbrev gatesP (gate : Vec Ideal S512x2048 .bf16) : Vec Ideal S512x1024 .bf16 :=
  View.ld gate (Rect.unit (s := S512x2048) ![0, 1024] S512x1024.size inb_S512x2048_S512x1024_0_1024)
/-- The gradients by the scaled mixed columns. -/
abbrev scaled (dh : Vec Ideal S512x1024 .f32) (gate : Vec Ideal S512x2048 .bf16) (wpool : Vec Ideal S1024x512 .bf16) (wout : Vec Ideal S1024x1024 .bf16) :
    FVec Ideal S512x512 .f32 := k0_pay14 (k0_pay10 dh wout (gatesP gate)) wpool
/-- A group's pooled columns. -/
abbrev pooledCols (pooled : Vec Ideal S512x512 .bf16) (lo : ℕ) (i : ∀ d, (![0, lo] : Fin 2 → ℕ) d + S512x128.size d ≤ S512x512.size d) : Vec Ideal S512x128 .bf16 :=
  View.ld pooled (Rect.unit (s := S512x512) ![0, lo] S512x128.size i)
/-- A group's columns of a row. -/
abbrev rowCols (x : Vec Ideal S1x512 .f32) (lo : ℕ) (i : ∀ d, (![0, lo] : Fin 2 → ℕ) d + S1x128.size d ≤ S1x512.size d) : Vec Ideal S1x128 .f32 :=
  View.ld x (Rect.unit (s := S1x512) ![0, lo] S1x128.size i)
/-- A group's slab. -/
abbrev slab {e : EltTy} (w : Vec Ideal S4x128x128 e) (g : ℕ) (i : ∀ d, (![g, 0, 0] : Fin 3 → ℕ) d + S1x128x128.size d ≤ S4x128x128.size d) : Vec Ideal S1x128x128 e :=
  View.ld w (Rect.unit (s := S4x128x128) ![g, 0, 0] S1x128x128.size i)

section
variable {V : Mix} {ρ : Fin 512 → Fin 8192} {dh : Vec Ideal S512x1024 .f32} {gate : Vec Ideal S512x2048 .bf16} {a p : Vec Ideal S512x1024 .bf16}
  {pooled : Vec Ideal S512x512 .bf16} {wattn : Vec Ideal S1024x1024 .bf16} {wmix : Vec Ideal S4x128x128 .bf16} {scale : Vec Ideal S1x512 .f32}
  {wpool : Vec Ideal S1024x512 .bf16} {wout : Vec Ideal S1024x1024 .bf16} (B : Blocks V ρ dh gate a p pooled wattn wmix scale wpool wout)
include B

/-- An attention's gate. -/
theorem Blocks.gA_at (r : Fin 512) (k : Fin 1024) : gatesA gate (ix2 r k) = V.gA (ρ r) k :=
  (ld_columns gate 0 _ r k (by omega)).trans (B.gate r _)

/-- A pooling's gate. -/
theorem Blocks.gP_at (r : Fin 512) (k : Fin 1024) : gatesP gate (ix2 r k) = V.gP (ρ r) k :=
  (ld_columns gate 1024 _ r k (by omega)).trans (B.gate r _)

/-- An entry of the gradient by the gated sum. -/
theorem Blocks.dm_at (r : Fin 512) (k : Fin 1024) : k0_pay6 dh wout (ix2 r k) = V.dm (ρ r) k := by
  pointwise [k0_pay6, k0_pay5]
  simp only [B.dh, B.wout]
  rfl

/-- An entry of the gradient by the attention's output. -/
theorem Blocks.da_at (r : Fin 512) (k : Fin 1024) : k0_pay9 dh wout (gatesA gate) (ix2 r k) = V.da (ρ r) k := by
  have e := B.gA_at r k
  exact congrArg₂ (· * ·) (B.dm_at r k) (congrArg Ideal.logistic e)

/-- An entry of the gradient by the pooling's output. -/
theorem Blocks.dp_at (r : Fin 512) (k : Fin 1024) : k0_pay10 dh wout (gatesP gate) (ix2 r k) = V.dp (ρ r) k := by
  have e := B.gP_at r k
  exact congrArg₂ (· * ·) (B.dm_at r k) (congrArg Ideal.logistic e)

/-- An entry of the gradient by the attention's heads. -/
theorem Blocks.dattn_at (r : Fin 512) (k : Fin 1024) : k0_pay13 (k0_pay9 dh wout (gatesA gate)) wattn (ix2 r k) = V.dattn (ρ r) k := by
  pointwise [k0_pay13]
  simp only [B.da_at, B.wattn]
  rfl

/-- An entry of the gradient by the scaled mixed columns. -/
theorem Blocks.dms_at (r : Fin 512) (j : Fin 512) : scaled dh gate wpool wout (ix2 r j) = V.dms (ρ r) j := by
  pointwise [k0_pay14]
  simp only [B.dp_at, B.wpool]
  rfl

/-- An entry of the gradient by an attention's gate. -/
theorem Blocks.dgA_at (r : Fin 512) (k : Fin 1024) : k0_pay11 dh wout (gatesA gate) a (ix2 r k) = sigmoidGrad (V.dm (ρ r)) (V.gA (ρ r)) (V.a (ρ r)) k := by
  pointwise [k0_pay11, k0_pay7]
  rw [B.gA_at, B.dm_at, B.a]
  rfl

/-- An entry of the gradient by a pooling's gate. -/
theorem Blocks.dgP_at (r : Fin 512) (k : Fin 1024) :
    k0_pay12 (k0_pay6 dh wout) (k0_pay8 (gatesP gate)) p (ix2 r k) = sigmoidGrad (V.dm (ρ r)) (V.gP (ρ r)) (V.p (ρ r)) k := by
  pointwise [k0_pay12, k0_pay8]
  rw [B.gP_at, B.dm_at, B.p]
  rfl

/-- An entry of a group's pooled columns. -/
theorem Blocks.pooled_at (g : Fin 4) (i) (r : Fin 512) (l : Fin 128) : pooledCols pooled (g.val * 128) i (ix2 r l) = V.pooled (ρ r) (at_ g l) :=
  (ld_columns pooled _ i r l (at_ g l).isLt).trans (B.pooled r _)

/-- An entry of a group's mixing weights. -/
theorem Blocks.slab_at (g : Fin 4) (i) (k l : Fin 128) : slab wmix g.val i (ix3 0 k l) = V.wmix g k l :=
  (congrArg wmix (emb_slab g i k l)).trans (B.wmix g k l)

/-- An entry of a group's gradients by the mixed columns. -/
theorem Blocks.dmixed_at (g : Fin 4) (h) (i) (r : Fin 512) (l : Fin 128) :
    mixedTile (g.val * 128) h (scaled dh gate wpool wout) (rowCols scale (g.val * 128) i) (ix2 r l) = V.dmixed (ρ r) (at_ g l) := by
  have e : rowCols scale (g.val * 128) i (ix2 0 l) = V.scale (at_ g l) := (ld_columns scale _ i 0 l (at_ g l).isLt).trans (B.scale _)
  rw [mixedTile_at, B.dms_at, e]
  rfl

/-- An entry of the gradient by a group's pooled columns. -/
theorem Blocks.dpooled_at (g : Fin 4) (h) (i) (i') (r : Fin 512) (l : Fin 128) :
    k0_pay18 (mixedTile (g.val * 128) h (scaled dh gate wpool wout) (rowCols scale (g.val * 128) i)) (slab wmix g.val i') (ix2 r l) = V.dpooled (ρ r) (at_ g l) := by
  rw [pooledTile_at]
  simp only [B.dmixed_at, B.slab_at]
  unfold Mix.dpooled pooledGrad
  simp only [group_at, place_at, inGroup_at]

/-- An entry of a group's part of the scale's gradient. -/
theorem Blocks.dscale_at (g : Fin 4) (h) (i) (i') (before : Vec Ideal S1x128 .f32) (l : Fin 128) :
    scaleTile (g.val * 128) h (scaled dh gate wpool wout) (pooledCols pooled (g.val * 128) i) (slab wmix g.val i') before (ix2 0 l)
      = before (ix2 0 l) + ∑ r, V.scaleTerm (at_ g l) (ρ r) := by
  rw [scaleTile_at]
  simp only [B.dms_at, B.pooled_at, B.slab_at]
  unfold Mix.scaleTerm mixed
  simp only [group_at, place_at, inGroup_at]

/-- An entry of a group's part of the gradient by its mixing weights. -/
theorem Blocks.dwmix_at (g : Fin 4) (h) (i) (i') (before : Vec Ideal S1x128x128 .f32) (k l : Fin 128) :
    k0_pay17 (pooledCols pooled (g.val * 128) i') (mixedTile (g.val * 128) h (scaled dh gate wpool wout) (rowCols scale (g.val * 128) i)) before (ix3 0 k l)
      = before (ix3 0 k l) + ∑ r, V.mixTerm g k l (ρ r) := by
  rw [weightTile_at]
  simp only [B.dmixed_at, B.pooled_at]
  rfl

end

end Cert.Kernel12Ideal.Mix

end
-- ==== Proof.MixOut.lean ====
/-
  The backward pass of the mixers' gated sum: what the idealized kernel leaves in its eight arrays.
-/
module

public import proofs.«01_k».proof.Proof.MixOutTiles
public import proofs.«01_k».proof.Proof.FfnUp

@[expose] public section

set_option maxRecDepth 16384

noncomputable section

namespace Cert.Kernel12Ideal.Mix

open Idealize.ShloMosaic Idealize.ShloMosaic.TcCoe Idealize.ShloMosaic.Tactic Idealize.SL.Sem
open Cert.Kernel12Ideal Cert.Kernel12Ideal.Gen Cert.Rows
open Cert.Kernel9Ideal.Up (rowOf)

variable (m : (ℓ : Loc nD τ sig) → Buf (Elt Ideal) ℓ) (c : Dev nD)

/-- The rounded cotangent a point stores. -/
theorem dhb_out (t : Fin cfg0.N) : (outsAt0 m c t.val t.isLt).1 = k0_pay5 (iblk m c 0 t) := by
  by_cases h0 : t.val % 16 = 0
  on_goal 1 => rw [outsAt0_A m c t h0]
  on_goal 2 => rw [outsAt0_B m c t h0]
  all_goals
    frame_open
    frame_out

/-- The gradient by the attention's output a point stores. -/
theorem da_out (t : Fin cfg0.N) : (outsAt0 m c t.val t.isLt).2.1 = k0_pay9 (iblk m c 0 t) (iblk m c 9 t) (gatesA (iblk m c 1 t)) := by
  by_cases h0 : t.val % 16 = 0
  on_goal 1 => rw [outsAt0_A m c t h0]
  on_goal 2 => rw [outsAt0_B m c t h0]
  all_goals
    frame_open
    frame_out

/-- The gradient by the pooling's output a point stores. -/
theorem dp_out (t : Fin cfg0.N) : (outsAt0 m c t.val t.isLt).2.2.1 = k0_pay10 (iblk m c 0 t) (iblk m c 9 t) (gatesP (iblk m c 1 t)) := by
  by_cases h0 : t.val % 16 = 0
  on_goal 1 => rw [outsAt0_A m c t h0]
  on_goal 2 => rw [outsAt0_B m c t h0]
  all_goals
    frame_open
    frame_out

/-- The gradient by the heads a point stores. -/
theorem dattn_out (t : Fin cfg0.N) : (outsAt0 m c t.val t.isLt).2.2.2.1
    = k0_pay13 (k0_pay9 (iblk m c 0 t) (iblk m c 9 t) (gatesA (iblk m c 1 t))) (iblk m c 5 t) := by
  by_cases h0 : t.val % 16 = 0
  on_goal 1 => rw [outsAt0_A m c t h0]
  on_goal 2 => rw [outsAt0_B m c t h0]
  all_goals
    frame_open
    frame_out

/-- The blocks of a point. -/
abbrev Held (t : Fin cfg0.N) (V : Mix) (ρ : Fin 512 → Fin 8192) : Prop :=
  Blocks V ρ (iblk m c 0 t) (iblk m c 1 t) (iblk m c 2 t) (iblk m c 3 t) (iblk m c 4 t) (iblk m c 5 t) (iblk m c 6 t) (iblk m c 7 t) (iblk m c 8 t) (iblk m c 9 t)

variable {m} {c} {V : Mix} {ρ : Fin 512 → Fin 8192}

/-- The gradient by the gates a point stores. -/
theorem dgate_out (t : Fin cfg0.N) (B : Held m c t V ρ) (y : S512x2048.Idx) : (outsAt0 m c t.val t.isLt).2.2.2.2.1 y = V.dgate (ρ (y 0)) (y 1) := by
  by_cases h0 : t.val % 16 = 0
  on_goal 1 => rw [outsAt0_A m c t h0]
  on_goal 2 => rw [outsAt0_B m c t h0]
  all_goals
    frame_open
    frame_out
    refine View.canon_apply_of_pieces (Val := Elt Ideal) (e := .bf16) (fun y : S512x2048.Idx => V.dgate (ρ (y 0)) (y 1)) _ ?_ y
      (View.cover_of_tiledL (s := S512x2048) _ S512x1024.size (by sl_kernel_rfl) y)
    intro q hq
    simp only [List.mem_cons, List.not_mem_nil, or_false] at hq
    rcases hq with rfl | rfl
    all_goals
      intro x
      obtain ⟨a, b, rfl⟩ : ∃ (a : Fin 512) (b : Fin 1024), x = ix2 a b := ⟨x 0, x 1, by funext d; fin_cases d <;> rfl⟩
    · rw [emb_columns (M := 512) (N := 2048) (n := 1024) 1024 _ a b (by omega)]
      refine (B.dgP_at a b).trans (Eq.symm ((dif_neg (by show ¬ 1024 + b.val < 1024; omega)).trans ?_))
      exact congrArg _ (Fin.ext (Nat.add_sub_cancel_left _ _))
    · rw [emb_columns (M := 512) (N := 2048) (n := 1024) 0 _ a b (by omega)]
      refine (B.dgA_at a b).trans (Eq.symm ((dif_pos (by show 0 + b.val < 1024; omega)).trans ?_))
      exact congrArg _ (Fin.ext (Nat.zero_add _))

/-- The gradient by the pooled columns a point stores. -/
theorem dpooled_out (t : Fin cfg0.N) (B : Held m c t V ρ) (y : S512x512.Idx) : (outsAt0 m c t.val t.isLt).2.2.2.2.2.1 y = V.dpooled (ρ (y 0)) (y 1) := by
  have tile : ∀ (g : Fin 4) (h) (i) (i') (o) (x : S512x128.Idx),
      k0_pay18 (mixedTile (g.val * 128) h (scaled (iblk m c 0 t) (iblk m c 1 t) (iblk m c 8 t) (iblk m c 9 t)) (rowCols (iblk m c 7 t) (g.val * 128) i))
        (slab (iblk m c 6 t) g.val i') x
      = (fun y : S512x512.Idx => V.dpooled (ρ (y 0)) (y 1)) ((Rect.unit (s := S512x512) ![0, g.val * 128] S512x128.size o).emb x) := by
    intro g h i i' o x
    obtain ⟨a, b, rfl⟩ : ∃ (a : Fin 512) (b : Fin 128), x = ix2 a b := ⟨x 0, x 1, by funext d; fin_cases d <;> rfl⟩
    rw [emb_columns (M := 512) (N := 512) (n := 128) (g.val * 128) _ a b (at_ g b).isLt]
    exact B.dpooled_at g h i i' a b
  by_cases h0 : t.val % 16 = 0
  on_goal 1 => rw [outsAt0_A m c t h0]
  on_goal 2 => rw [outsAt0_B m c t h0]
  all_goals
    frame_open
    frame_out
    refine View.canon_apply_of_pieces (Val := Elt Ideal) (e := .f32) (fun y : S512x512.Idx => V.dpooled (ρ (y 0)) (y 1)) _ ?_ y
      (View.cover_of_tiledL (s := S512x512) _ S512x128.size (by sl_kernel_rfl) y)
    intro q hq
    simp only [List.mem_cons, List.not_mem_nil, or_false] at hq
    rcases hq with rfl | rfl | rfl | rfl <;> intro x
    · exact tile 3 _ _ _ inb_S512x512_S512x128_0_384 x
    · exact tile 2 _ _ _ inb_S512x512_S512x128_0_256 x
    · exact tile 1 _ _ _ inb_S512x512_S512x128_0_128 x
    · exact tile 0 _ _ _ inb_S512x512_S512x128_0_0 x

/-- What a point's parts of the scale's gradient leave over earlier stores: the contents `X` they read, and the point's rows. -/
theorem scale_stores (t : Fin cfg0.N) (B : Held m c t V ρ) (X : Vec Ideal S1x512 .f32) (L : List (View.Piece (Elt Ideal) S1x512 .f32)) (y : S1x512.Idx) :
    View.canon (⟨Rect.unit (s := S1x512) ![0, 384] S1x128.size inb_S1x512_S1x128_0_384,
        k0_pay29 (scaled (iblk m c 0 t) (iblk m c 1 t) (iblk m c 8 t) (iblk m c 9 t)) (pooledCols (iblk m c 4 t) 384 inb_S512x512_S512x128_0_384)
          (slab (iblk m c 6 t) 3 inb_S4x128x128_S1x128x128_3_0_0) (rowCols X 384 inb_S1x512_S1x128_0_384)⟩
      :: ⟨Rect.unit (s := S1x512) ![0, 256] S1x128.size inb_S1x512_S1x128_0_256,
        k0_pay24 (scaled (iblk m c 0 t) (iblk m c 1 t) (iblk m c 8 t) (iblk m c 9 t)) (pooledCols (iblk m c 4 t) 256 inb_S512x512_S512x128_0_256)
          (slab (iblk m c 6 t) 2 inb_S4x128x128_S1x128x128_2_0_0) (rowCols X 256 inb_S1x512_S1x128_0_256)⟩
      :: ⟨Rect.unit (s := S1x512) ![0, 128] S1x128.size inb_S1x512_S1x128_0_128,
        k0_pay19 (scaled (iblk m c 0 t) (iblk m c 1 t) (iblk m c 8 t) (iblk m c 9 t)) (pooledCols (iblk m c 4 t) 128 inb_S512x512_S512x128_0_128)
          (slab (iblk m c 6 t) 1 inb_S4x128x128_S1x128x128_1_0_0) (rowCols X 128 inb_S1x512_S1x128_0_128)⟩
      :: ⟨Rect.unit (s := S1x512) ![0, 0] S1x128.size inb_S1x512_S1x128_0_0,
        k0_pay15 (k0_pay10 (iblk m c 0 t) (iblk m c 9 t) (gatesP (iblk m c 1 t))) (iblk m c 8 t) (pooledCols (iblk m c 4 t) 0 inb_S512x512_S512x128_0_0)
          (slab (iblk m c 6 t) 0 inb_S4x128x128_S1x128x128_0_0_0) (rowCols X 0 inb_S1x512_S1x128_0_0)⟩ :: L) y
      = X y + ∑ r, V.scaleTerm (y 1) (ρ r) := by
  have tile : ∀ (g : Fin 4) (h) (i) (i') (o) (x : S1x128.Idx),
      scaleTile (g.val * 128) h (scaled (iblk m c 0 t) (iblk m c 1 t) (iblk m c 8 t) (iblk m c 9 t)) (pooledCols (iblk m c 4 t) (g.val * 128) i)
        (slab (iblk m c 6 t) g.val i') (rowCols X (g.val * 128) o) x
      = (fun y : S1x512.Idx => X y + ∑ r, V.scaleTerm (y 1) (ρ r)) ((Rect.unit (s := S1x512) ![0, g.val * 128] S1x128.size o).emb x) := by
    intro g h i i' o x
    obtain ⟨z, b, rfl⟩ : ∃ (z : Fin 1) (b : Fin 128), x = ix2 z b := ⟨x 0, x 1, by funext d; fin_cases d <;> rfl⟩
    obtain rfl : z = 0 := Subsingleton.elim _ _
    refine (B.dscale_at g h i i' _ b).trans ?_
    rw [emb_columns (M := 1) (N := 512) (n := 128) (g.val * 128) _ 0 b (at_ g b).isLt]
    exact congrArg (· + _) (ld_columns X _ o 0 b (at_ g b).isLt)
  refine View.canon_append_of_pieces (Val := Elt Ideal) (e := .f32) (fun y : S1x512.Idx => X y + ∑ r, V.scaleTerm (y 1) (ρ r)) L [_, _, _, _] ?_ y
    (View.cover_of_tiledL (s := S1x512) _ S1x128.size (by sl_kernel_rfl) y)
  intro q hq
  simp only [List.mem_cons, List.not_mem_nil, or_false] at hq
  rcases hq with rfl | rfl | rfl | rfl
  · exact tile 3 _ _ _ _
  · exact tile 2 _ _ _ _
  · exact tile 1 _ _ _ _
  · exact tile 0 _ _ _ _

/-- The scale's gradient after the first point. -/
theorem dscale_A (t : Fin cfg0.N) (h0 : t.val % 16 = 0) (B : Held m c t V ρ) (y : S1x512.Idx) :
    (outsAt0 m c t.val t.isLt).2.2.2.2.2.2.2 y = k0_pay4 (F := Ideal) y + ∑ r, V.scaleTerm (y 1) (ρ r) := by
  rw [outsAt0_A m c t h0]
  frame_open
  frame_out
  simp (disch := decide) only [↓View.readCov_skip, ↓View.readCov_fill]
  exact scale_stores t B _ _ y

/-- The scale's gradient after a later point. -/
theorem dscale_B (t : Fin cfg0.N) (h0 : ¬ t.val % 16 = 0) (B : Held m c t V ρ) (y : S1x512.Idx) :
    (outsAt0 m c t.val t.isLt).2.2.2.2.2.2.2 y
      = (outsAt0 m c (t.val - 1) (Nat.lt_of_le_of_lt (Nat.sub_le _ _) t.isLt)).2.2.2.2.2.2.2 y + ∑ r, V.scaleTerm (y 1) (ρ r) := by
  rw [outsAt0_B m c t h0]
  frame_open
  frame_out
  exact scale_stores t B _ _ y

/-- What a point's parts of the mixing weights' gradient leave over earlier stores: the contents `X` they read, and the point's rows. -/
theorem weight_stores (t : Fin cfg0.N) (B : Held m c t V ρ) (X : Vec Ideal S4x128x128 .f32) (L : List (View.Piece (Elt Ideal) S4x128x128 .f32)) (y : S4x128x128.Idx) :
    View.canon (⟨Rect.unit (s := S4x128x128) ![3, 0, 0] S1x128x128.size inb_S4x128x128_S1x128x128_3_0_0,
        k0_pay1 (k0_pay31 (scaled (iblk m c 0 t) (iblk m c 1 t) (iblk m c 8 t) (iblk m c 9 t)) (pooledCols (iblk m c 4 t) 384 inb_S512x512_S512x128_0_384)
          (rowCols (iblk m c 7 t) 384 inb_S1x512_S1x128_0_384) (slab X 3 inb_S4x128x128_S1x128x128_3_0_0))⟩
      :: ⟨Rect.unit (s := S4x128x128) ![2, 0, 0] S1x128x128.size inb_S4x128x128_S1x128x128_2_0_0,
        k0_pay27 (k0_pay26 (scaled (iblk m c 0 t) (iblk m c 1 t) (iblk m c 8 t) (iblk m c 9 t)) (pooledCols (iblk m c 4 t) 256 inb_S512x512_S512x128_0_256)
          (rowCols (iblk m c 7 t) 256 inb_S1x512_S1x128_0_256) (slab X 2 inb_S4x128x128_S1x128x128_2_0_0))⟩
      :: ⟨Rect.unit (s := S4x128x128) ![1, 0, 0] S1x128x128.size inb_S4x128x128_S1x128x128_1_0_0,
        k0_pay22 (pooledCols (iblk m c 4 t) 128 inb_S512x512_S512x128_0_128)
          (k0_pay20 (scaled (iblk m c 0 t) (iblk m c 1 t) (iblk m c 8 t) (iblk m c 9 t)) (rowCols (iblk m c 7 t) 128 inb_S1x512_S1x128_0_128))
          (k0_pay21 (slab X 1 inb_S4x128x128_S1x128x128_1_0_0))⟩
      :: ⟨Rect.unit (s := S4x128x128) ![0, 0, 0] S1x128x128.size inb_S4x128x128_S1x128x128_0_0_0,
        k0_pay17 (pooledCols (iblk m c 4 t) 0 inb_S512x512_S512x128_0_0)
          (k0_pay16 (k0_pay10 (iblk m c 0 t) (iblk m c 9 t) (gatesP (iblk m c 1 t))) (iblk m c 8 t) (rowCols (iblk m c 7 t) 0 inb_S1x512_S1x128_0_0))
          (slab X 0 inb_S4x128x128_S1x128x128_0_0_0)⟩ :: L) y
      = X y + ∑ r, V.mixTerm (y 0) (y 1) (y 2) (ρ r) := by
  have tile : ∀ (g : Fin 4) (h) (i) (i') (o) (x : S1x128x128.Idx),
      k0_pay17 (pooledCols (iblk m c 4 t) (g.val * 128) i')
        (mixedTile (g.val * 128) h (scaled (iblk m c 0 t) (iblk m c 1 t) (iblk m c 8 t) (iblk m c 9 t)) (rowCols (iblk m c 7 t) (g.val * 128) i)) (slab X g.val o) x
      = (fun y : S4x128x128.Idx => X y + ∑ r, V.mixTerm (y 0) (y 1) (y 2) (ρ r)) ((Rect.unit (s := S4x128x128) ![g.val, 0, 0] S1x128x128.size o).emb x) := by
    intro g h i i' o x
    obtain ⟨z, k, l, rfl⟩ : ∃ (z : Fin 1) (k l : Fin 128), x = ix3 z k l := ⟨x 0, x 1, x 2, by funext d; fin_cases d <;> rfl⟩
    obtain rfl : z = 0 := Subsingleton.elim _ _
    refine (B.dwmix_at g h i i' _ k l).trans ?_
    have e := emb_slab g o k l
    refine (congrArg (· + _) (congrArg X e)).trans ?_
    show _ = (fun y : S4x128x128.Idx => X y + ∑ r, V.mixTerm (y 0) (y 1) (y 2) (ρ r)) _
    rw [e]
    rfl
  refine View.canon_append_of_pieces (Val := Elt Ideal) (e := .f32) (fun y : S4x128x128.Idx => X y + ∑ r, V.mixTerm (y 0) (y 1) (y 2) (ρ r)) L [_, _, _, _] ?_ y
    (View.cover_of_tiledL (s := S4x128x128) _ S1x128x128.size (by sl_kernel_rfl) y)
  intro q hq
  simp only [List.mem_cons, List.not_mem_nil, or_false] at hq
  rcases hq with rfl | rfl | rfl | rfl
  · exact tile 3 _ _ _ _
  · exact tile 2 _ _ _ _
  · exact tile 1 _ _ _ _
  · exact tile 0 _ _ _ _

/-- The mixing weights' gradient after the first point. -/
theorem dwmix_A (t : Fin cfg0.N) (h0 : t.val % 16 = 0) (B : Held m c t V ρ) (y : S4x128x128.Idx) :
    (outsAt0 m c t.val t.isLt).2.2.2.2.2.2.1 y = k0_pay3 (F := Ideal) y + ∑ r, V.mixTerm (y 0) (y 1) (y 2) (ρ r) := by
  rw [outsAt0_A m c t h0]
  frame_open
  frame_out
  simp (disch := decide) only [↓View.readCov_skip, ↓View.readCov_fill]
  exact weight_stores t B _ _ y

/-- The mixing weights' gradient after a later point. -/
theorem dwmix_B (t : Fin cfg0.N) (h0 : ¬ t.val % 16 = 0) (B : Held m c t V ρ) (y : S4x128x128.Idx) :
    (outsAt0 m c t.val t.isLt).2.2.2.2.2.2.1 y
      = (outsAt0 m c (t.val - 1) (Nat.lt_of_le_of_lt (Nat.sub_le _ _) t.isLt)).2.2.2.2.2.2.1 y + ∑ r, V.mixTerm (y 0) (y 1) (y 2) (ρ r) := by
  rw [outsAt0_B m c t h0]
  frame_open
  frame_out
  exact weight_stores t B _ _ y

/-- Where the blocks of a point lie. -/
theorem idx (t : Fin cfg0.N) : win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![0, 0, 0] ∧ win0_17.index t = ![0, 0] :=
  (by decide +kernel : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![0, 0, 0] ∧ win0_7.index t = ![0, 0]
    ∧ win0_8.index t = ![0, 0] ∧ win0_9.index t = ![0, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![0, 0, 0] ∧ win0_17.index t = ![0, 0]) t

/-- The launch holds these arrays. -/
structure Starts (m : (ℓ : Loc nD τ sig) → Buf (Elt Ideal) ℓ) (c : Dev nD) (V : Mix) : Prop where
  dh : ∀ r l, m ((c : Thread nD τ).loc main_arg0) (ix2 r l) = V.dh r l
  gate : ∀ r l, m ((c : Thread nD τ).loc main_arg1) (ix2 r l) = V.gate r l
  a : ∀ r l, m ((c : Thread nD τ).loc main_arg2) (ix2 r l) = V.a r l
  p : ∀ r l, m ((c : Thread nD τ).loc main_arg3) (ix2 r l) = V.p r l
  pooled : ∀ r l, m ((c : Thread nD τ).loc main_arg4) (ix2 r l) = V.pooled r l
  wattn : ∀ k l, m ((c : Thread nD τ).loc main_arg5) (ix2 k l) = V.wattn k l
  wmix : ∀ g k l, m ((c : Thread nD τ).loc main_arg6) (ix3 g k l) = V.wmix g k l
  scale : ∀ l, m ((c : Thread nD τ).loc main_arg7) (ix2 0 l) = V.scale l
  wpool : ∀ k l, m ((c : Thread nD τ).loc main_arg8) (ix2 k l) = V.wpool k l
  wout : ∀ k l, m ((c : Thread nD τ).loc main_arg9) (ix2 k l) = V.wout k l

/-- What the blocks of a point hold. -/
theorem held (S : Starts m c V) (t : Fin cfg0.N) : Held m c t V (rowOf t.val t.isLt) where
  dh r l := by
    refine Eq.trans ?_ (S.dh _ _)
    blk_ext! [iblk, Gen.V, idx t, rowOf]
  gate r l := by
    refine Eq.trans ?_ (S.gate _ _)
    blk_ext! [iblk, Gen.V, idx t, rowOf]
  a r l := by
    refine Eq.trans ?_ (S.a _ _)
    blk_ext! [iblk, Gen.V, idx t, rowOf]
  p r l := by
    refine Eq.trans ?_ (S.p _ _)
    blk_ext! [iblk, Gen.V, idx t, rowOf]
  pooled r l := by
    refine Eq.trans ?_ (S.pooled _ _)
    blk_ext! [iblk, Gen.V, idx t, rowOf]
  wattn k l := by
    refine Eq.trans ?_ (S.wattn _ _)
    blk_ext! [iblk, Gen.V, idx t]
  wmix g k l := by
    refine Eq.trans ?_ (S.wmix _ _ _)
    blk_ext! [iblk, Gen.V, idx t]
  scale l := by
    refine Eq.trans ?_ (S.scale _)
    blk_ext! [iblk, Gen.V, idx t]
  wpool k l := by
    refine Eq.trans ?_ (S.wpool _ _)
    blk_ext! [iblk, Gen.V, idx t]
  wout k l := by
    refine Eq.trans ?_ (S.wout _ _)
    blk_ext! [iblk, Gen.V, idx t]

/-- The scale's gradient after a point: the sum over the rows seen so far. -/
theorem dscale_out (S : Starts m c V) (l : Fin 512) (n : ℕ) : ∀ hn : n < cfg0.N,
    (outsAt0 m c n hn).2.2.2.2.2.2.2 (ix2 0 l) = firstRows (V.scaleTerm l) (512 * n + 512) := by
  induction n with
  | zero =>
    intro hn
    rw [firstRows_step _ _ _ (by omega)]
    refine (dscale_A ⟨0, hn⟩ rfl (held S ⟨0, hn⟩) (ix2 0 l)).trans (congrArg₂ (· + ·) ?_ rfl)
    pointwise [k0_pay4]
    rfl
  | succ n ih =>
    intro hn
    have hn' : n + 1 < 16 := hn
    rw [firstRows_step _ _ _ (by omega)]
    refine (dscale_B ⟨n + 1, hn⟩ (by simp only []; omega) (held S ⟨n + 1, hn⟩) (ix2 0 l)).trans (congrArg₂ (· + ·) ((ih (by omega)).trans ?_) rfl)
    rw [Nat.mul_add, Nat.mul_one]

/-- The mixing weights' gradient after a point: the sum over the rows seen so far. -/
theorem dwmix_out (S : Starts m c V) (g : Fin 4) (k l : Fin 128) (n : ℕ) : ∀ hn : n < cfg0.N,
    (outsAt0 m c n hn).2.2.2.2.2.2.1 (ix3 g k l) = firstRows (V.mixTerm g k l) (512 * n + 512) := by
  induction n with
  | zero =>
    intro hn
    rw [firstRows_step _ _ _ (by omega)]
    refine (dwmix_A ⟨0, hn⟩ rfl (held S ⟨0, hn⟩) (ix3 g k l)).trans (congrArg₂ (· + ·) ?_ rfl)
    pointwise [k0_pay3]
    rfl
  | succ n ih =>
    intro hn
    have hn' : n + 1 < 16 := hn
    rw [firstRows_step _ _ _ (by omega)]
    refine (dwmix_B ⟨n + 1, hn⟩ (by simp only []; omega) (held S ⟨n + 1, hn⟩) (ix3 g k l)).trans (congrArg₂ (· + ·) ((ih (by omega)).trans ?_) rfl)
    rw [Nat.mul_add, Nat.mul_one]

/-- The row of an array whose block of 512 rows a point stores. -/
theorem rows_final {N : ℕ} (t : Fin cfg0.N) (G : Fin 8192 → Fin N → EReal) (z : (⟨2, ![8192, N]⟩ : Shape).Idx) (a : Fin 512) (b : Fin N)
    (e : z = ix2 (rowOf t.val t.isLt a) b) : G (rowOf t.val t.isLt a) b = (fun y : (⟨2, ![8192, N]⟩ : Shape).Idx => G (y 0) (y 1)) z := by
  rw [e]
  rfl

/-- The rounded cotangent it ends with. -/
theorem dhb_final (S : Starts m c V) : (dats m 0 c).arrAt 10 cfg0.N = fun y => V.dh (y 0) (y 1) := by
  refine (dats m 0 c).arrAt_eq_of_covers 10 _ (by decide +kernel) fun t hf y => ?_
  obtain ⟨a, b, rfl⟩ : ∃ (a : Fin 512) (b : Fin 1024), y = ix2 a b := ⟨y 0, y 1, by funext d; fin_cases d <;> rfl⟩
  rw [after0_10]
  refine Eq.trans ?_ (((congrFun (dhb_out m c t) _).trans ((held S t).dh a b)).trans (rows_final t V.dh ((win0_10.blk t).view.emb (ix2 a b)) a b ?_))
  · blk_simp
  · blk_ext [idx t, rowOf]

/-- The gradient by the attention's output it ends with. -/
theorem da_final (S : Starts m c V) : (dats m 0 c).arrAt 11 cfg0.N = fun y => V.da (y 0) (y 1) := by
  refine (dats m 0 c).arrAt_eq_of_covers 11 _ (by decide +kernel) fun t hf y => ?_
  obtain ⟨a, b, rfl⟩ : ∃ (a : Fin 512) (b : Fin 1024), y = ix2 a b := ⟨y 0, y 1, by funext d; fin_cases d <;> rfl⟩
  rw [after0_11]
  refine Eq.trans ?_ (((congrFun (da_out m c t) _).trans ((held S t).da_at a b)).trans (rows_final t V.da ((win0_11.blk t).view.emb (ix2 a b)) a b ?_))
  · blk_simp
  · blk_ext [idx t, rowOf]

/-- The gradient by the pooling's output it ends with. -/
theorem dp_final (S : Starts m c V) : (dats m 0 c).arrAt 12 cfg0.N = fun y => V.dp (y 0) (y 1) := by
  refine (dats m 0 c).arrAt_eq_of_covers 12 _ (by decide +kernel) fun t hf y => ?_
  obtain ⟨a, b, rfl⟩ : ∃ (a : Fin 512) (b : Fin 1024), y = ix2 a b := ⟨y 0, y 1, by funext d; fin_cases d <;> rfl⟩
  rw [after0_12]
  refine Eq.trans ?_ (((congrFun (dp_out m c t) _).trans ((held S t).dp_at a b)).trans (rows_final t V.dp ((win0_12.blk t).view.emb (ix2 a b)) a b ?_))
  · blk_simp
  · blk_ext [idx t, rowOf]

/-- The gradient by the heads it ends with. -/
theorem dattn_final (S : Starts m c V) : (dats m 0 c).arrAt 13 cfg0.N = fun y => V.dattn (y 0) (y 1) := by
  refine (dats m 0 c).arrAt_eq_of_covers 13 _ (by decide +kernel) fun t hf y => ?_
  obtain ⟨a, b, rfl⟩ : ∃ (a : Fin 512) (b : Fin 1024), y = ix2 a b := ⟨y 0, y 1, by funext d; fin_cases d <;> rfl⟩
  rw [after0_13]
  refine Eq.trans ?_ (((congrFun (dattn_out m c t) _).trans ((held S t).dattn_at a b)).trans (rows_final t V.dattn ((win0_13.blk t).view.emb (ix2 a b)) a b ?_))
  · blk_simp
  · blk_ext [idx t, rowOf]

/-- The gradient by the gates it ends with. -/
theorem dgate_final (S : Starts m c V) : (dats m 0 c).arrAt 14 cfg0.N = fun y => V.dgate (y 0) (y 1) := by
  refine (dats m 0 c).arrAt_eq_of_covers 14 _ (by decide +kernel) fun t hf y => ?_
  obtain ⟨a, b, rfl⟩ : ∃ (a : Fin 512) (b : Fin 2048), y = ix2 a b := ⟨y 0, y 1, by funext d; fin_cases d <;> rfl⟩
  rw [after0_14]
  refine Eq.trans ?_ ((dgate_out t (held S t) (ix2 a b)).trans (rows_final t V.dgate ((win0_14.blk t).view.emb (ix2 a b)) a b ?_))
  · blk_simp
  · blk_ext [idx t, rowOf]

/-- The gradient by the pooled columns it ends with. -/
theorem dpooled_final (S : Starts m c V) : (dats m 0 c).arrAt 15 cfg0.N = fun y => V.dpooled (y 0) (y 1) := by
  refine (dats m 0 c).arrAt_eq_of_covers 15 _ (by decide +kernel) fun t hf y => ?_
  obtain ⟨a, b, rfl⟩ : ∃ (a : Fin 512) (b : Fin 512), y = ix2 a b := ⟨y 0, y 1, by funext d; fin_cases d <;> rfl⟩
  rw [after0_15]
  refine Eq.trans ?_ ((dpooled_out t (held S t) (ix2 a b)).trans (rows_final t V.dpooled ((win0_15.blk t).view.emb (ix2 a b)) a b ?_))
  · blk_simp
  · blk_ext [idx t, rowOf]

/-- The mixing weights' gradient it ends with. -/
theorem dwmix_final (S : Starts m c V) : (dats m 0 c).arrAt 16 cfg0.N = fun y => (∑ r, V.mixTerm (y 0) (y 1) (y 2) r : EReal) := by
  refine (dats m 0 c).arrAt_eq_of_covers 16 _ (by decide +kernel) fun t hf y => ?_
  have h15 : t.val = 15 := by
    have h := (flush0_16 t).mp hf
    have : t.val < 16 := t.isLt
    omega
  obtain ⟨g, k, l, rfl⟩ : ∃ (g : Fin 4) (k l : Fin 128), y = ix3 g k l := ⟨y 0, y 1, y 2, by funext d; fin_cases d <;> rfl⟩
  rw [after0_16]
  refine Eq.trans ?_ ((dwmix_out S g k l t.val t.isLt).trans ?_)
  · blk_simp
  · rw [h15, firstRows_all]
    have e : (win0_16.blk t).view.emb (ix3 g k l) = ix3 g k l := by
      blk_ext [idx t]
    show _ = (fun y : S4x128x128.Idx => (∑ r, V.mixTerm (y 0) (y 1) (y 2) r : EReal)) ((win0_16.blk t).view.emb (ix3 g k l))
    rw [e]
    rfl

/-- The scale's gradient it ends with. -/
theorem dscale_final (S : Starts m c V) : (dats m 0 c).arrAt 17 cfg0.N = fun y => (∑ r, V.scaleTerm (y 1) r : EReal) := by
  refine (dats m 0 c).arrAt_eq_of_covers 17 _ (by decide +kernel) fun t hf y => ?_
  have h15 : t.val = 15 := by
    have h := (flush0_17 t).mp hf
    have : t.val < 16 := t.isLt
    omega
  obtain ⟨z, b, rfl⟩ : ∃ (z : Fin 1) (b : Fin 512), y = ix2 z b := ⟨y 0, y 1, by funext d; fin_cases d <;> rfl⟩
  obtain rfl : z = 0 := Subsingleton.elim _ _
  rw [after0_17]
  refine Eq.trans ?_ ((dscale_out S b t.val t.isLt).trans ?_)
  · blk_simp
  · rw [h15, firstRows_all]
    have e : (win0_17.blk t).view.emb (ix2 0 b) = ix2 0 b := by
      blk_ext [idx t]
    show _ = (fun y : S1x512.Idx => (∑ r, V.scaleTerm (y 1) r : EReal)) ((win0_17.blk t).view.emb (ix2 0 b))
    rw [e]
    rfl

end Cert.Kernel12Ideal.Mix

end
-- ==== Proof.MixOutEqual.lean ====
/-
  The backward pass of the mixers' gated sum: the idealized kernel and the reference leave the same eight arrays.
-/
module

public import proofs.«01_k».proof.Proof.MixOut

@[expose] public section

set_option maxRecDepth 16384

noncomputable section

namespace Cert.Reference12Ideal.Grad

open Idealize.ShloMosaic Idealize.ShloMosaic.TcCoe
open Cert.Reference12Ideal Cert.Reference12Ideal.Gen Cert.Rows

variable (dh : FVec Ideal S8192x1024 .f32) (gate : FVec Ideal S8192x2048 .bf16) (a p : FVec Ideal S8192x1024 .bf16) (pooled : FVec Ideal S8192x512 .bf16)
  (wattn : FVec Ideal S1024x1024 .bf16) (wmix : FVec Ideal S4x128x128 .bf16) (scale : FVec Ideal S1x512 .f32) (wpool : FVec Ideal S1024x512 .bf16)
  (wout : FVec Ideal S1024x1024 .bf16)

/-- The gradients by the attention's output. -/
def das : FVec Ideal S8192x1024 .f32 := through (gatesA gate) (dms dh wout)
/-- The gradients by the pooling's output. -/
def dps : FVec Ideal S8192x1024 .f32 := through (gatesP gate) (dms dh wout)
/-- The gradients by the gates. -/
def dgates : FVec Ideal S8192x2048 .f32 :=
  concatenate S8192x2048 1 [⟨S8192x1024, byGate (gatesA gate) (dms dh wout) (extf .f32 a bitsLt_bf16_f32)⟩,
    ⟨S8192x1024, byGate (gatesP gate) (dms dh wout) (extf .f32 p bitsLt_bf16_f32)⟩] concatenates_S8192x1024_S8192x1024_S8192x2048_d1
/-- The gradients by the mixed columns, by group. -/
def dmixeds : FVec Ideal S4x128x8192 .f32 := mixedGrads scale (scaledGrads wpool (dps dh gate wout))

/-- A row of the gradients by the gated sum. -/
theorem dms_row (r : Fin 8192) : (fun l => dms dh wout (ix2 r l)) = (inputs dh gate a p pooled wattn wmix scale wpool wout).dm r := funext fun l => dms_at dh wout r l
/-- A row of the attention's gates. -/
theorem gatesA_row (r : Fin 8192) : (fun l => gatesA gate (ix2 r l)) = (inputs dh gate a p pooled wattn wmix scale wpool wout).gA r := funext fun l => gatesA_at gate r l
/-- A row of the pooling's gates. -/
theorem gatesP_row (r : Fin 8192) : (fun l => gatesP gate (ix2 r l)) = (inputs dh gate a p pooled wattn wmix scale wpool wout).gP r := funext fun l => gatesP_at gate r l

/-- A gradient by the attention's output. -/
theorem das_at (r : Fin 8192) (k : Fin 1024) : das dh gate wout (ix2 r k) = (inputs dh gate a p pooled wattn wmix scale wpool wout).da r k := by
  unfold das
  rw [through_at, dms_row dh gate a p pooled wattn wmix scale wpool wout, gatesA_row dh gate a p pooled wattn wmix scale wpool wout]
  rfl

/-- A gradient by the pooling's output. -/
theorem dps_at (r : Fin 8192) (k : Fin 1024) : dps dh gate wout (ix2 r k) = (inputs dh gate a p pooled wattn wmix scale wpool wout).dp r k := by
  unfold dps
  rw [through_at, dms_row dh gate a p pooled wattn wmix scale wpool wout, gatesP_row dh gate a p pooled wattn wmix scale wpool wout]
  rfl

/-- A gradient by the attention's heads. -/
theorem dattns_at (r : Fin 8192) (k : Fin 1024) : dms (das dh gate wout) wattn (ix2 r k) = (inputs dh gate a p pooled wattn wmix scale wpool wout).dattn r k := by
  rw [dms_at, show (fun l => das dh gate wout (ix2 r l)) = (inputs dh gate a p pooled wattn wmix scale wpool wout).da r from funext fun l => das_at dh gate a p pooled wattn wmix scale wpool wout r l]
  rfl

/-- A gradient by the gates. -/
theorem dgates_at (r : Fin 8192) (j : Fin 2048) : dgates dh gate a p wout (ix2 r j) = (inputs dh gate a p pooled wattn wmix scale wpool wout).dgate r j := by
  unfold dgates Mix.dgate
  pointwise []
  split
  · rw [byGate_at, dms_row dh gate a p pooled wattn wmix scale wpool wout, gatesA_row dh gate a p pooled wattn wmix scale wpool wout]
    rfl
  · rw [byGate_at, dms_row dh gate a p pooled wattn wmix scale wpool wout, gatesP_row dh gate a p pooled wattn wmix scale wpool wout]
    rfl

/-- A gradient by the scaled mixed columns. -/
theorem scaled_at (r : Fin 8192) (j : Fin 512) : scaledGrads wpool (dps dh gate wout) (ix2 r j) = (inputs dh gate a p pooled wattn wmix scale wpool wout).dms r j := by
  rw [scaledGrads_at, show (fun l => dps dh gate wout (ix2 r l)) = (inputs dh gate a p pooled wattn wmix scale wpool wout).dp r from funext fun l => dps_at dh gate a p pooled wattn wmix scale wpool wout r l]
  rfl

/-- A gradient by the mixed columns. -/
theorem dmixeds_at (g : Fin 4) (k : Fin 128) (r : Fin 8192) : dmixeds dh gate scale wpool wout (ix3 g k r) = (inputs dh gate a p pooled wattn wmix scale wpool wout).dmixed r ⟨g.val * 128 + k.val, by omega⟩ := by
  unfold dmixeds
  rw [mixedGrads_at, scaled_at dh gate a p pooled wattn wmix scale wpool wout]
  rfl

/-- A gradient by the pooled columns. -/
theorem dpooleds_at (r : Fin 8192) (j : Fin 512) : pooledGrads wmix (dmixeds dh gate scale wpool wout) (ix2 r j) = (inputs dh gate a p pooled wattn wmix scale wpool wout).dpooled r j := by
  rw [pooledGrads_at]
  unfold Mix.dpooled pooledGrad
  refine Finset.sum_congr rfl fun k _ => ?_
  rw [dmixeds_at dh gate a p pooled wattn wmix scale wpool wout]
  rfl

/-- A gradient by the mixing weights. -/
theorem dwmixes_at (g : Fin 4) (k l : Fin 128) : mixGrads pooled (dmixeds dh gate scale wpool wout) (ix3 g k l) = ∑ r, (inputs dh gate a p pooled wattn wmix scale wpool wout).mixTerm g k l r := by
  rw [mixGrads_at]
  refine Finset.sum_congr rfl fun r _ => ?_
  rw [dmixeds_at dh gate a p pooled wattn wmix scale wpool wout]
  exact mul_comm _ _

/-- A gradient by the scale. -/
theorem dscales_at (j : Fin 512) : scaleGrads (scaledGrads wpool (dps dh gate wout)) (mixes pooled wmix) (ix2 0 j) = ∑ r, (inputs dh gate a p pooled wattn wmix scale wpool wout).scaleTerm j r := by
  rw [scaleGrads_at]
  refine Finset.sum_congr rfl fun r _ => ?_
  rw [scaled_at dh gate a p pooled wattn wmix scale wpool wout, mixes_at]
  rfl

end Cert.Reference12Ideal.Grad

namespace Cert.Kernel12Ideal.Mix

open Idealize.ShloMosaic Idealize.ShloMosaic.TcCoe Idealize.SL.Sem
open Cert.Kernel12Ideal Cert.Kernel12Ideal.Gen Cert.Rows

/-- What the run ends with. -/
theorem run_at (A : Dev nD → Mix) (m : (ℓ : Loc nD τ sig) → Buf (Elt Ideal) ℓ) (ρ : Dev nD → PrngReg) (S : ∀ c, Starts m c (A c)) :
    θ_run defs (onTc (τ := τ) (main (F := Ideal))) ⟨m, fun _ => 0, ρ⟩ fun r => ∀ c : Dev nD,
      r.2.mem ((c : Thread nD τ).loc main_v0_0) = (fun y => (A c).dh (y 0) (y 1))
      ∧ r.2.mem ((c : Thread nD τ).loc main_v0_1) = (fun y => (A c).da (y 0) (y 1))
      ∧ r.2.mem ((c : Thread nD τ).loc main_v0_2) = (fun y => (A c).dp (y 0) (y 1))
      ∧ r.2.mem ((c : Thread nD τ).loc main_v0_3) = (fun y => (A c).dattn (y 0) (y 1))
      ∧ r.2.mem ((c : Thread nD τ).loc main_v0_4) = (fun y => (A c).dgate (y 0) (y 1))
      ∧ r.2.mem ((c : Thread nD τ).loc main_v0_5) = (fun y => (A c).dpooled (y 0) (y 1))
      ∧ r.2.mem ((c : Thread nD τ).loc main_v0_6) = (fun y => (∑ r, (A c).mixTerm (y 0) (y 1) (y 2) r : EReal))
      ∧ r.2.mem ((c : Thread nD τ).loc main_v0_7) = (fun y => (∑ r, (A c).scaleTerm (y 1) r : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    obtain ⟨h0, h1, h2, h3, h4, h5, h6, h7, h8⟩ := h c
    exact ⟨h0.trans (dhb_final (S c)), h1.trans (da_final (S c)), h2.trans (dp_final (S c)), h3.trans (dattn_final (S c)), h4.trans (dgate_final (S c)), h5.trans (dpooled_final (S c)), h6.trans (dwmix_final (S c)), h7.trans (dscale_final (S c)), h8⟩) (Cert.Kernel12Ideal.Value.run_blocks m ρ)

end Cert.Kernel12Ideal.Mix

namespace Cert.Proof

open Idealize.ShloMosaic Idealize.ShloMosaic.TcCoe Idealize.SL.Sem
open Cert.Reference12Ideal.Grad Cert.Rows

instance kernel12Facts : Cert.Kernel12Ideal.Facts := Cert.Kernel12Ideal.Gen.facts
instance reference12Facts : Cert.Reference12Ideal.Facts := Cert.Reference12Ideal.Gen.facts

set_option maxHeartbeats 4000000 in
/-- Both programs leave the same gradients of the mixers' gated sum. -/
theorem algebraic_mix_out : Cert.algebraic_Kernel12Ideal_Reference12Ideal := by
  intro m ρ m' ρ' _ hargs
  let V : Dev Cert.Kernel12Ideal.nD → Mix := fun c =>
    inputs (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg2))
      (m ((c.tc : Thread Cert.Kernel12Ideal.nD Cert.Kernel12Ideal.τ).loc Cert.Kernel12Ideal.main_arg3))
      (m ((c.tc : Thread Cert.Kernel12Ideal.nD Cert.Kernel12Ideal.τ).loc Cert.Kernel12Ideal.main_arg4))
      (m ((c.tc : Thread Cert.Kernel12Ideal.nD Cert.Kernel12Ideal.τ).loc Cert.Kernel12Ideal.main_arg5))
      (m ((c.tc : Thread Cert.Kernel12Ideal.nD Cert.Kernel12Ideal.τ).loc Cert.Kernel12Ideal.main_arg6))
      (m ((c.tc : Thread Cert.Kernel12Ideal.nD Cert.Kernel12Ideal.τ).loc Cert.Kernel12Ideal.main_arg7))
      (m ((c.tc : Thread Cert.Kernel12Ideal.nD Cert.Kernel12Ideal.τ).loc Cert.Kernel12Ideal.main_arg8))
      (m ((c.tc : Thread Cert.Kernel12Ideal.nD Cert.Kernel12Ideal.τ).loc Cert.Kernel12Ideal.main_arg9))
  refine ⟨fun c y => (V c).dh (y 0) (y 1), fun c y => (V c).da (y 0) (y 1), fun c y => (V c).dp (y 0) (y 1), fun c y => (V c).dattn (y 0) (y 1), fun c y => (V c).dgate (y 0) (y 1), fun c y => (V c).dpooled (y 0) (y 1), fun c y => (∑ r, (V c).mixTerm (y 0) (y 1) (y 2) r : EReal), fun c y => (∑ r, (V c).scaleTerm (y 1) r : EReal),
    Cert.Kernel12Ideal.Mix.run_at V m ρ fun c => ⟨fun _ _ => rfl, fun _ _ => rfl, fun _ _ => rfl, fun _ _ => rfl, fun _ _ => rfl, fun _ _ => rfl,
      fun _ _ _ => rfl, fun _ => rfl, fun _ _ => rfl, fun _ _ => rfl⟩,
    (θ_run Cert.Reference12Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_,
      (h c).2.2.2.2.2.2.2.2⟩) (Cert.Reference12Ideal.Value.run m' ρ')⟩
  all_goals
    funext y
    obtain ⟨e0, e1, e2, e3, e4, e5, e6, e7, e8, e9⟩ := hargs c
  · obtain ⟨a, b, rfl⟩ : ∃ (a : Fin 8192) (b : Fin 1024), y = ix2 a b := ⟨y 0, y 1, by funext d; fin_cases d <;> rfl⟩
    rw [e0]
    exact rfl
  · obtain ⟨a, b, rfl⟩ : ∃ (a : Fin 8192) (b : Fin 1024), y = ix2 a b := ⟨y 0, y 1, by funext d; fin_cases d <;> rfl⟩
    rw [e0, e1, e9]
    exact das_at _ _ _ _ _ _ _ _ _ _ a b
  · obtain ⟨a, b, rfl⟩ : ∃ (a : Fin 8192) (b : Fin 1024), y = ix2 a b := ⟨y 0, y 1, by funext d; fin_cases d <;> rfl⟩
    rw [e0, e1, e9]
    exact dps_at _ _ _ _ _ _ _ _ _ _ a b
  · obtain ⟨a, b, rfl⟩ : ∃ (a : Fin 8192) (b : Fin 1024), y = ix2 a b := ⟨y 0, y 1, by funext d; fin_cases d <;> rfl⟩
    rw [e0, e1, e5, e9]
    exact dattns_at _ _ _ _ _ _ _ _ _ _ a b
  · obtain ⟨a, b, rfl⟩ : ∃ (a : Fin 8192) (b : Fin 2048), y = ix2 a b := ⟨y 0, y 1, by funext d; fin_cases d <;> rfl⟩
    rw [e0, e1, e2, e3, e9]
    exact dgates_at _ _ _ _ _ _ _ _ _ _ a b
  · obtain ⟨a, b, rfl⟩ : ∃ (a : Fin 8192) (b : Fin 512), y = ix2 a b := ⟨y 0, y 1, by funext d; fin_cases d <;> rfl⟩
    rw [e0, e1, e6, e7, e8, e9]
    exact dpooleds_at _ _ _ _ _ _ _ _ _ _ a b
  · obtain ⟨g, k, l, rfl⟩ : ∃ (g : Fin 4) (k l : Fin 128), y = ix3 g k l := ⟨y 0, y 1, y 2, by funext d; fin_cases d <;> rfl⟩
    rw [e0, e1, e4, e7, e8, e9]
    exact dwmixes_at _ _ _ _ _ _ _ _ _ _ g k l
  · obtain ⟨z, b, rfl⟩ : ∃ (z : Fin 1) (b : Fin 512), y = ix2 z b := ⟨y 0, y 1, by funext d; fin_cases d <;> rfl⟩
    obtain rfl : z = 0 := Subsingleton.elim _ _
    rw [e0, e1, e4, e6, e8, e9]
    exact dscales_at _ _ _ _ _ _ _ _ _ _ b

end Cert.Proof

end
-- ==== Proof.lean ====
/-
  The claims: frames of the programs, the idealizations, and the equalities of the results over the reals.
-/
module

public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.KernelIdeal.Value
public import proofs.«01_k».proof.Proof.Gen.ReferenceIdeal.Run
public import proofs.«01_k».proof.Defs
public import proofs.«01_k».proof.Proof.Algebraic
public import proofs.«01_k».proof.Proof.GradInput
public import proofs.«01_k».proof.Proof.GradUp
public import proofs.«01_k».proof.Proof.GradDown
public import proofs.«01_k».proof.Proof.GradIn
public import proofs.«01_k».proof.Proof.GradOut
public import proofs.«01_k».proof.Proof.GradPool
public import proofs.«01_k».proof.Proof.FfnDown
public import proofs.«01_k».proof.Proof.FfnUp
public import proofs.«01_k».proof.Proof.MixIn
public import proofs.«01_k».proof.Proof.FfnLoss
public import proofs.«01_k».proof.Proof.MixOutEqual
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference's frame, read off its run: the four arguments end as they began, and the program has no semaphores. -/
theorem reference_frame : Cert.quiescent_ReferenceIdeal := fun m ρ _ =>
  (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run (F := Ideal) m ρ)

/-- The frame of the reference of the input's gradient. -/
theorem reference2_frame : Cert.quiescent_Reference2Ideal := fun m ρ _ =>
  (θ_run (Cert.Reference2Ideal.defs (F := Ideal)) _ _).mono
    (fun r h => ⟨fun c => (h c).2.2, Idealize.ShloMosaic.sem_eq_zero_of_no_sems (by decide) r.2⟩)
    (Cert.Reference2Ideal.Value.run (F := Ideal) m ρ)

/-- The frame of the reference of the gradient of w_up. -/
theorem reference3_frame : Cert.quiescent_Reference3Ideal := fun m ρ _ =>
  (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m ρ)

/-- The frame of the reference of the gradient of w_down. -/
theorem reference4_frame : Cert.quiescent_Reference4Ideal := fun m ρ _ =>
  (θ_run (Cert.Reference4Ideal.defs (F := Ideal)) _ _).mono
    (fun r h => ⟨fun c => (h c).2, Idealize.ShloMosaic.sem_eq_zero_of_no_sems (by decide) r.2⟩)
    (Cert.Reference4Ideal.Value.run (F := Ideal) m ρ)

/-- The frame of the reference of the gradient of w_in. -/
theorem reference5_frame : Cert.quiescent_Reference5Ideal := fun m ρ _ =>
  (θ_run (Cert.Reference5Ideal.defs (F := Ideal)) _ _).mono
    (fun r h => ⟨fun c => (h c).2, Idealize.ShloMosaic.sem_eq_zero_of_no_sems (by decide) r.2⟩)
    (Cert.Reference5Ideal.Value.run (F := Ideal) m ρ)

/-- The frame of the reference of the gradient of w_out. -/
theorem reference6_frame : Cert.quiescent_Reference6Ideal := fun m ρ _ =>
  (θ_run (Cert.Reference6Ideal.defs (F := Ideal)) _ _).mono
    (fun r h => ⟨fun c => (h c).2, Idealize.ShloMosaic.sem_eq_zero_of_no_sems (by decide) r.2⟩)
    (Cert.Reference6Ideal.Value.run (F := Ideal) m ρ)

/-- The frame of the reference of the gradient of w_pool_up. -/
theorem reference7_frame : Cert.quiescent_Reference7Ideal := fun m ρ _ =>
  (θ_run (Cert.Reference7Ideal.defs (F := Ideal)) _ _).mono
    (fun r h => ⟨fun c => (h c).2, Idealize.ShloMosaic.sem_eq_zero_of_no_sems (by decide) r.2⟩)
    (Cert.Reference7Ideal.Value.run (F := Ideal) m ρ)

/-- The frame of the reference of the end of a feed-forward half step. -/
theorem reference8_frame : Cert.quiescent_Reference8Ideal := fun m ρ _ =>
  (θ_run (Cert.Reference8Ideal.defs (F := Ideal)) _ _).mono
    (fun r h => ⟨fun c => (h c).2, Idealize.ShloMosaic.sem_eq_zero_of_no_sems (by decide) r.2⟩)
    (Cert.Reference8Ideal.Value.run (F := Ideal) m ρ)

/-- The frame of the reference of the start of a feed-forward half step. -/
theorem reference9_frame : Cert.quiescent_Reference9Ideal := fun m ρ _ =>
  (θ_run (Cert.Reference9Ideal.defs (F := Ideal)) _ _).mono
    (fun r h => ⟨fun c => (h c).2.2.2, Idealize.ShloMosaic.sem_eq_zero_of_no_sems (by decide) r.2⟩)
    (Cert.Reference9Ideal.Value.run (F := Ideal) m ρ)

/-- The frame of the reference of the projections of the mixing block. -/
theorem reference10_frame : Cert.quiescent_Reference10Ideal := fun m ρ _ =>
  (θ_run (Cert.Reference10Ideal.defs (F := Ideal)) _ _).mono
    (fun r h => ⟨fun c => (h c).2.2.2.2.2, Idealize.ShloMosaic.sem_eq_zero_of_no_sems (by decide) r.2⟩)
    (Cert.Reference10Ideal.Value.run (F := Ideal) m ρ)

/-- The frame of the reference of the second half step's start with the loss. -/
theorem reference11_frame : Cert.quiescent_Reference11Ideal := fun m ρ _ =>
  (θ_run (Cert.Reference11Ideal.defs (F := Ideal)) _ _).mono
    (fun r h => ⟨fun c => (h c).2.2.2.2.2.2.2, Idealize.ShloMosaic.sem_eq_zero_of_no_sems (by decide) r.2⟩)
    (Cert.Reference11Ideal.Value.run (F := Ideal) m ρ)

/-- The frame of the reference of the gradients of the mixers' gated sum. -/
theorem reference12_frame : Cert.quiescent_Reference12Ideal := fun m ρ _ =>
  (θ_run (Cert.Reference12Ideal.defs (F := Ideal)) _ _).mono
    (fun r h => ⟨fun c => (h c).2.2.2.2.2.2.2.2, Idealize.ShloMosaic.sem_eq_zero_of_no_sems (by decide) r.2⟩)
    (Cert.Reference12Ideal.Value.run (F := Ideal) m ρ)

/-- The claims of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, Cert.Pre_finite.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, reference2_frame,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  fun m ρ _ => Cert.Kernel7.Gen.frame m ρ, fun m ρ _ => Cert.Kernel7Ideal.Gen.frame m ρ, reference7_frame,
  fun m ρ _ => Cert.Kernel8.Gen.frame m ρ, fun m ρ _ => Cert.Kernel8Ideal.Gen.frame m ρ, reference8_frame,
  fun m ρ _ => Cert.Kernel9.Gen.frame m ρ, fun m ρ _ => Cert.Kernel9Ideal.Gen.frame m ρ, reference9_frame,
  fun m ρ _ => Cert.Kernel10.Gen.frame m ρ, fun m ρ _ => Cert.Kernel10Ideal.Gen.frame m ρ, reference10_frame,
  fun m ρ _ => Cert.Kernel11.Gen.frame m ρ, fun m ρ _ => Cert.Kernel11Ideal.Gen.frame m ρ, reference11_frame,
  fun m ρ _ => Cert.Kernel12.Gen.frame m ρ, fun m ρ _ => Cert.Kernel12Ideal.Gen.frame m ρ, reference12_frame,
  trivial, algebraic, trivial, algebraic_input, trivial, algebraic_up, trivial, algebraic_down,
  trivial, algebraic_in, trivial, algebraic_out, trivial, algebraic_pool, trivial, algebraic_ffn_down, trivial, algebraic_ffn_up, trivial, algebraic_mix_in,
  trivial, algebraic_ffn_loss, trivial, algebraic_mix_out⟩

end Cert.Proof

end
